-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Stream (m : (ℓ : Loc Cert.Stream.nD Cert.Stream.τ Cert.Stream.sig) → Buf (Elt Bits) ℓ) : Prop :=
  True

def Pre_StreamIdeal (m : (ℓ : Loc Cert.StreamIdeal.nD Cert.StreamIdeal.τ Cert.StreamIdeal.sig) → Buf (Elt Ideal) ℓ) : Prop :=
  True

def Pre_StreamIdeal_finite_and_in_range [hPre_finite_and_in_range : Cert.Pre_finite_and_in_range.Facts] (m : (ℓ : Loc Cert.StreamIdeal.nD Cert.StreamIdeal.τ Cert.StreamIdeal.sig) → Buf (Elt Ideal) ℓ) : Prop :=
  ∀ c : Dev Cert.StreamIdeal.nD,
    (Cert.Pre_finite_and_in_range.fn (F := Ideal) (m ((c.tc : Thread Cert.StreamIdeal.nD Cert.StreamIdeal.τ).loc Cert.StreamIdeal.main_arg0)) (m ((c.tc : Thread Cert.StreamIdeal.nD Cert.StreamIdeal.τ).loc Cert.StreamIdeal.main_arg1)) (m ((c.tc : Thread Cert.StreamIdeal.nD Cert.StreamIdeal.τ).loc Cert.StreamIdeal.main_arg2)) (m ((c.tc : Thread Cert.StreamIdeal.nD Cert.StreamIdeal.τ).loc Cert.StreamIdeal.main_arg3)) (m ((c.tc : Thread Cert.StreamIdeal.nD Cert.StreamIdeal.τ).loc Cert.StreamIdeal.main_arg4)) (m ((c.tc : Thread Cert.StreamIdeal.nD Cert.StreamIdeal.τ).loc Cert.StreamIdeal.main_arg5)) (m ((c.tc : Thread Cert.StreamIdeal.nD Cert.StreamIdeal.τ).loc Cert.StreamIdeal.main_arg6)) (m ((c.tc : Thread Cert.StreamIdeal.nD Cert.StreamIdeal.τ).loc Cert.StreamIdeal.main_arg7))) = (fun _ => 1#1)

def Pre_StreamReferenceIdeal (m : (ℓ : Loc Cert.StreamReferenceIdeal.nD Cert.StreamReferenceIdeal.τ Cert.StreamReferenceIdeal.sig) → Buf (Elt Ideal) ℓ) : Prop :=
  True

def Pre_StreamReferenceIdeal_finite_and_in_range [hPre_finite_and_in_range : Cert.Pre_finite_and_in_range.Facts] (m : (ℓ : Loc Cert.StreamReferenceIdeal.nD Cert.StreamReferenceIdeal.τ Cert.StreamReferenceIdeal.sig) → Buf (Elt Ideal) ℓ) : Prop :=
  ∀ c : Dev Cert.StreamReferenceIdeal.nD,
    (Cert.Pre_finite_and_in_range.fn (F := Ideal) (m ((c.tc : Thread Cert.StreamReferenceIdeal.nD Cert.StreamReferenceIdeal.τ).loc Cert.StreamReferenceIdeal.main_arg0)) (m ((c.tc : Thread Cert.StreamReferenceIdeal.nD Cert.StreamReferenceIdeal.τ).loc Cert.StreamReferenceIdeal.main_arg1)) (m ((c.tc : Thread Cert.StreamReferenceIdeal.nD Cert.StreamReferenceIdeal.τ).loc Cert.StreamReferenceIdeal.main_arg2)) (m ((c.tc : Thread Cert.StreamReferenceIdeal.nD Cert.StreamReferenceIdeal.τ).loc Cert.StreamReferenceIdeal.main_arg3)) (m ((c.tc : Thread Cert.StreamReferenceIdeal.nD Cert.StreamReferenceIdeal.τ).loc Cert.StreamReferenceIdeal.main_arg4)) (m ((c.tc : Thread Cert.StreamReferenceIdeal.nD Cert.StreamReferenceIdeal.τ).loc Cert.StreamReferenceIdeal.main_arg5)) (m ((c.tc : Thread Cert.StreamReferenceIdeal.nD Cert.StreamReferenceIdeal.τ).loc Cert.StreamReferenceIdeal.main_arg6)) (m ((c.tc : Thread Cert.StreamReferenceIdeal.nD Cert.StreamReferenceIdeal.τ).loc Cert.StreamReferenceIdeal.main_arg7))) = (fun _ => 1#1)

def Pre_Gather [hPre_classes_in_range : Cert.Pre_classes_in_range.Facts] (m : (ℓ : Loc Cert.Gather.nD Cert.Gather.τ Cert.Gather.sig) → Buf (Elt Bits) ℓ) : Prop :=
  ∀ c : Dev Cert.Gather.nD,
    (Cert.Pre_classes_in_range.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_classes_in_range : Cert.Pre_classes_in_range.Facts] (m : (ℓ : Loc Cert.GatherIdeal.nD Cert.GatherIdeal.τ Cert.GatherIdeal.sig) → Buf (Elt Ideal) ℓ) : Prop :=
  ∀ c : Dev Cert.GatherIdeal.nD,
    (Cert.Pre_classes_in_range.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherReferenceIdeal (m : (ℓ : Loc Cert.GatherReferenceIdeal.nD Cert.GatherReferenceIdeal.τ Cert.GatherReferenceIdeal.sig) → Buf (Elt Ideal) ℓ) : Prop :=
  True

def Pre_GatherReferenceIdeal_classes_in_range [hPre_classes_in_range : Cert.Pre_classes_in_range.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_classes_in_range.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Stream [hStream : Cert.Stream.Facts] : Prop :=
  ∀ (m : (ℓ : Loc Cert.Stream.nD Cert.Stream.τ Cert.Stream.sig) → Buf (Elt Bits) ℓ) (g : Dev Cert.Stream.nD → PrngReg), Pre_Stream m →
    θ_run (Cert.Stream.defs (F := Bits)) (onTc (τ := Cert.Stream.τ) (Cert.Stream.main (F := Bits))) ⟨m, fun _ => 0, g⟩ (fun r => (∀ c : Dev Cert.Stream.nD,
      r.2.mem ((c.tc : Thread Cert.Stream.nD Cert.Stream.τ).loc Cert.Stream.main_arg0) = m ((c.tc : Thread Cert.Stream.nD Cert.Stream.τ).loc Cert.Stream.main_arg0)
      ∧ r.2.mem ((c.tc : Thread Cert.Stream.nD Cert.Stream.τ).loc Cert.Stream.main_arg1) = m ((c.tc : Thread Cert.Stream.nD Cert.Stream.τ).loc Cert.Stream.main_arg1)
      ∧ r.2.mem ((c.tc : Thread Cert.Stream.nD Cert.Stream.τ).loc Cert.Stream.main_arg2) = m ((c.tc : Thread Cert.Stream.nD Cert.Stream.τ).loc Cert.Stream.main_arg2)
      ∧ r.2.mem ((c.tc : Thread Cert.Stream.nD Cert.Stream.τ).loc Cert.Stream.main_arg3) = m ((c.tc : Thread Cert.Stream.nD Cert.Stream.τ).loc Cert.Stream.main_arg3)
      ∧ r.2.mem ((c.tc : Thread Cert.Stream.nD Cert.Stream.τ).loc Cert.Stream.main_arg4) = m ((c.tc : Thread Cert.Stream.nD Cert.Stream.τ).loc Cert.Stream.main_arg4)
      ∧ r.2.mem ((c.tc : Thread Cert.Stream.nD Cert.Stream.τ).loc Cert.Stream.main_arg5) = m ((c.tc : Thread Cert.Stream.nD Cert.Stream.τ).loc Cert.Stream.main_arg5)
      ∧ r.2.mem ((c.tc : Thread Cert.Stream.nD Cert.Stream.τ).loc Cert.Stream.main_arg6) = m ((c.tc : Thread Cert.Stream.nD Cert.Stream.τ).loc Cert.Stream.main_arg6)
      ∧ r.2.mem ((c.tc : Thread Cert.Stream.nD Cert.Stream.τ).loc Cert.Stream.main_arg7) = m ((c.tc : Thread Cert.Stream.nD Cert.Stream.τ).loc Cert.Stream.main_arg7))
      ∧ r.2.sem = fun _ => 0)

def quiescent_StreamIdeal [hStreamIdeal : Cert.StreamIdeal.Facts] : Prop :=
  ∀ (m : (ℓ : Loc Cert.StreamIdeal.nD Cert.StreamIdeal.τ Cert.StreamIdeal.sig) → Buf (Elt Ideal) ℓ) (g : Dev Cert.StreamIdeal.nD → PrngReg), Pre_StreamIdeal m →
    θ_run (Cert.StreamIdeal.defs (F := Ideal)) (onTc (τ := Cert.StreamIdeal.τ) (Cert.StreamIdeal.main (F := Ideal))) ⟨m, fun _ => 0, g⟩ (fun r => (∀ c : Dev Cert.StreamIdeal.nD,
      r.2.mem ((c.tc : Thread Cert.StreamIdeal.nD Cert.StreamIdeal.τ).loc Cert.StreamIdeal.main_arg0) = m ((c.tc : Thread Cert.StreamIdeal.nD Cert.StreamIdeal.τ).loc Cert.StreamIdeal.main_arg0)
      ∧ r.2.mem ((c.tc : Thread Cert.StreamIdeal.nD Cert.StreamIdeal.τ).loc Cert.StreamIdeal.main_arg1) = m ((c.tc : Thread Cert.StreamIdeal.nD Cert.StreamIdeal.τ).loc Cert.StreamIdeal.main_arg1)
      ∧ r.2.mem ((c.tc : Thread Cert.StreamIdeal.nD Cert.StreamIdeal.τ).loc Cert.StreamIdeal.main_arg2) = m ((c.tc : Thread Cert.StreamIdeal.nD Cert.StreamIdeal.τ).loc Cert.StreamIdeal.main_arg2)
      ∧ r.2.mem ((c.tc : Thread Cert.StreamIdeal.nD Cert.StreamIdeal.τ).loc Cert.StreamIdeal.main_arg3) = m ((c.tc : Thread Cert.StreamIdeal.nD Cert.StreamIdeal.τ).loc Cert.StreamIdeal.main_arg3)
      ∧ r.2.mem ((c.tc : Thread Cert.StreamIdeal.nD Cert.StreamIdeal.τ).loc Cert.StreamIdeal.main_arg4) = m ((c.tc : Thread Cert.StreamIdeal.nD Cert.StreamIdeal.τ).loc Cert.StreamIdeal.main_arg4)
      ∧ r.2.mem ((c.tc : Thread Cert.StreamIdeal.nD Cert.StreamIdeal.τ).loc Cert.StreamIdeal.main_arg5) = m ((c.tc : Thread Cert.StreamIdeal.nD Cert.StreamIdeal.τ).loc Cert.StreamIdeal.main_arg5)
      ∧ r.2.mem ((c.tc : Thread Cert.StreamIdeal.nD Cert.StreamIdeal.τ).loc Cert.StreamIdeal.main_arg6) = m ((c.tc : Thread Cert.StreamIdeal.nD Cert.StreamIdeal.τ).loc Cert.StreamIdeal.main_arg6)
      ∧ r.2.mem ((c.tc : Thread Cert.StreamIdeal.nD Cert.StreamIdeal.τ).loc Cert.StreamIdeal.main_arg7) = m ((c.tc : Thread Cert.StreamIdeal.nD Cert.StreamIdeal.τ).loc Cert.StreamIdeal.main_arg7))
      ∧ r.2.sem = fun _ => 0)

def quiescent_StreamIdeal_pre_finite_and_in_range [hStreamIdeal : Cert.StreamIdeal.Facts] [hPre_finite_and_in_range : Cert.Pre_finite_and_in_range.Facts] : Prop :=
  ∀ (m : (ℓ : Loc Cert.StreamIdeal.nD Cert.StreamIdeal.τ Cert.StreamIdeal.sig) → Buf (Elt Ideal) ℓ) (g : Dev Cert.StreamIdeal.nD → PrngReg), Pre_StreamIdeal_finite_and_in_range m →
    θ_run (Cert.StreamIdeal.defs (F := Ideal)) (onTc (τ := Cert.StreamIdeal.τ) (Cert.StreamIdeal.main (F := Ideal))) ⟨m, fun _ => 0, g⟩ (fun r => (∀ c : Dev Cert.StreamIdeal.nD,
      r.2.mem ((c.tc : Thread Cert.StreamIdeal.nD Cert.StreamIdeal.τ).loc Cert.StreamIdeal.main_arg0) = m ((c.tc : Thread Cert.StreamIdeal.nD Cert.StreamIdeal.τ).loc Cert.StreamIdeal.main_arg0)
      ∧ r.2.mem ((c.tc : Thread Cert.StreamIdeal.nD Cert.StreamIdeal.τ).loc Cert.StreamIdeal.main_arg1) = m ((c.tc : Thread Cert.StreamIdeal.nD Cert.StreamIdeal.τ).loc Cert.StreamIdeal.main_arg1)
      ∧ r.2.mem ((c.tc : Thread Cert.StreamIdeal.nD Cert.StreamIdeal.τ).loc Cert.StreamIdeal.main_arg2) = m ((c.tc : Thread Cert.StreamIdeal.nD Cert.StreamIdeal.τ).loc Cert.StreamIdeal.main_arg2)
      ∧ r.2.mem ((c.tc : Thread Cert.StreamIdeal.nD Cert.StreamIdeal.τ).loc Cert.StreamIdeal.main_arg3) = m ((c.tc : Thread Cert.StreamIdeal.nD Cert.StreamIdeal.τ).loc Cert.StreamIdeal.main_arg3)
      ∧ r.2.mem ((c.tc : Thread Cert.StreamIdeal.nD Cert.StreamIdeal.τ).loc Cert.StreamIdeal.main_arg4) = m ((c.tc : Thread Cert.StreamIdeal.nD Cert.StreamIdeal.τ).loc Cert.StreamIdeal.main_arg4)
      ∧ r.2.mem ((c.tc : Thread Cert.StreamIdeal.nD Cert.StreamIdeal.τ).loc Cert.StreamIdeal.main_arg5) = m ((c.tc : Thread Cert.StreamIdeal.nD Cert.StreamIdeal.τ).loc Cert.StreamIdeal.main_arg5)
      ∧ r.2.mem ((c.tc : Thread Cert.StreamIdeal.nD Cert.StreamIdeal.τ).loc Cert.StreamIdeal.main_arg6) = m ((c.tc : Thread Cert.StreamIdeal.nD Cert.StreamIdeal.τ).loc Cert.StreamIdeal.main_arg6)
      ∧ r.2.mem ((c.tc : Thread Cert.StreamIdeal.nD Cert.StreamIdeal.τ).loc Cert.StreamIdeal.main_arg7) = m ((c.tc : Thread Cert.StreamIdeal.nD Cert.StreamIdeal.τ).loc Cert.StreamIdeal.main_arg7))
      ∧ r.2.sem = fun _ => 0)

def quiescent_StreamReferenceIdeal [hStreamReferenceIdeal : Cert.StreamReferenceIdeal.Facts] : Prop :=
  ∀ (m : (ℓ : Loc Cert.StreamReferenceIdeal.nD Cert.StreamReferenceIdeal.τ Cert.StreamReferenceIdeal.sig) → Buf (Elt Ideal) ℓ) (g : Dev Cert.StreamReferenceIdeal.nD → PrngReg), Pre_StreamReferenceIdeal m →
    θ_run (Cert.StreamReferenceIdeal.defs (F := Ideal)) (onTc (τ := Cert.StreamReferenceIdeal.τ) (Cert.StreamReferenceIdeal.main (F := Ideal))) ⟨m, fun _ => 0, g⟩ (fun r => (∀ c : Dev Cert.StreamReferenceIdeal.nD,
      r.2.mem ((c.tc : Thread Cert.StreamReferenceIdeal.nD Cert.StreamReferenceIdeal.τ).loc Cert.StreamReferenceIdeal.main_arg0) = m ((c.tc : Thread Cert.StreamReferenceIdeal.nD Cert.StreamReferenceIdeal.τ).loc Cert.StreamReferenceIdeal.main_arg0)
      ∧ r.2.mem ((c.tc : Thread Cert.StreamReferenceIdeal.nD Cert.StreamReferenceIdeal.τ).loc Cert.StreamReferenceIdeal.main_arg1) = m ((c.tc : Thread Cert.StreamReferenceIdeal.nD Cert.StreamReferenceIdeal.τ).loc Cert.StreamReferenceIdeal.main_arg1)
      ∧ r.2.mem ((c.tc : Thread Cert.StreamReferenceIdeal.nD Cert.StreamReferenceIdeal.τ).loc Cert.StreamReferenceIdeal.main_arg2) = m ((c.tc : Thread Cert.StreamReferenceIdeal.nD Cert.StreamReferenceIdeal.τ).loc Cert.StreamReferenceIdeal.main_arg2)
      ∧ r.2.mem ((c.tc : Thread Cert.StreamReferenceIdeal.nD Cert.StreamReferenceIdeal.τ).loc Cert.StreamReferenceIdeal.main_arg3) = m ((c.tc : Thread Cert.StreamReferenceIdeal.nD Cert.StreamReferenceIdeal.τ).loc Cert.StreamReferenceIdeal.main_arg3)
      ∧ r.2.mem ((c.tc : Thread Cert.StreamReferenceIdeal.nD Cert.StreamReferenceIdeal.τ).loc Cert.StreamReferenceIdeal.main_arg4) = m ((c.tc : Thread Cert.StreamReferenceIdeal.nD Cert.StreamReferenceIdeal.τ).loc Cert.StreamReferenceIdeal.main_arg4)
      ∧ r.2.mem ((c.tc : Thread Cert.StreamReferenceIdeal.nD Cert.StreamReferenceIdeal.τ).loc Cert.StreamReferenceIdeal.main_arg5) = m ((c.tc : Thread Cert.StreamReferenceIdeal.nD Cert.StreamReferenceIdeal.τ).loc Cert.StreamReferenceIdeal.main_arg5)
      ∧ r.2.mem ((c.tc : Thread Cert.StreamReferenceIdeal.nD Cert.StreamReferenceIdeal.τ).loc Cert.StreamReferenceIdeal.main_arg6) = m ((c.tc : Thread Cert.StreamReferenceIdeal.nD Cert.StreamReferenceIdeal.τ).loc Cert.StreamReferenceIdeal.main_arg6)
      ∧ r.2.mem ((c.tc : Thread Cert.StreamReferenceIdeal.nD Cert.StreamReferenceIdeal.τ).loc Cert.StreamReferenceIdeal.main_arg7) = m ((c.tc : Thread Cert.StreamReferenceIdeal.nD Cert.StreamReferenceIdeal.τ).loc Cert.StreamReferenceIdeal.main_arg7))
      ∧ r.2.sem = fun _ => 0)

def quiescent_StreamReferenceIdeal_pre_finite_and_in_range [hStreamReferenceIdeal : Cert.StreamReferenceIdeal.Facts] [hPre_finite_and_in_range : Cert.Pre_finite_and_in_range.Facts] : Prop :=
  ∀ (m : (ℓ : Loc Cert.StreamReferenceIdeal.nD Cert.StreamReferenceIdeal.τ Cert.StreamReferenceIdeal.sig) → Buf (Elt Ideal) ℓ) (g : Dev Cert.StreamReferenceIdeal.nD → PrngReg), Pre_StreamReferenceIdeal_finite_and_in_range m →
    θ_run (Cert.StreamReferenceIdeal.defs (F := Ideal)) (onTc (τ := Cert.StreamReferenceIdeal.τ) (Cert.StreamReferenceIdeal.main (F := Ideal))) ⟨m, fun _ => 0, g⟩ (fun r => (∀ c : Dev Cert.StreamReferenceIdeal.nD,
      r.2.mem ((c.tc : Thread Cert.StreamReferenceIdeal.nD Cert.StreamReferenceIdeal.τ).loc Cert.StreamReferenceIdeal.main_arg0) = m ((c.tc : Thread Cert.StreamReferenceIdeal.nD Cert.StreamReferenceIdeal.τ).loc Cert.StreamReferenceIdeal.main_arg0)
      ∧ r.2.mem ((c.tc : Thread Cert.StreamReferenceIdeal.nD Cert.StreamReferenceIdeal.τ).loc Cert.StreamReferenceIdeal.main_arg1) = m ((c.tc : Thread Cert.StreamReferenceIdeal.nD Cert.StreamReferenceIdeal.τ).loc Cert.StreamReferenceIdeal.main_arg1)
      ∧ r.2.mem ((c.tc : Thread Cert.StreamReferenceIdeal.nD Cert.StreamReferenceIdeal.τ).loc Cert.StreamReferenceIdeal.main_arg2) = m ((c.tc : Thread Cert.StreamReferenceIdeal.nD Cert.StreamReferenceIdeal.τ).loc Cert.StreamReferenceIdeal.main_arg2)
      ∧ r.2.mem ((c.tc : Thread Cert.StreamReferenceIdeal.nD Cert.StreamReferenceIdeal.τ).loc Cert.StreamReferenceIdeal.main_arg3) = m ((c.tc : Thread Cert.StreamReferenceIdeal.nD Cert.StreamReferenceIdeal.τ).loc Cert.StreamReferenceIdeal.main_arg3)
      ∧ r.2.mem ((c.tc : Thread Cert.StreamReferenceIdeal.nD Cert.StreamReferenceIdeal.τ).loc Cert.StreamReferenceIdeal.main_arg4) = m ((c.tc : Thread Cert.StreamReferenceIdeal.nD Cert.StreamReferenceIdeal.τ).loc Cert.StreamReferenceIdeal.main_arg4)
      ∧ r.2.mem ((c.tc : Thread Cert.StreamReferenceIdeal.nD Cert.StreamReferenceIdeal.τ).loc Cert.StreamReferenceIdeal.main_arg5) = m ((c.tc : Thread Cert.StreamReferenceIdeal.nD Cert.StreamReferenceIdeal.τ).loc Cert.StreamReferenceIdeal.main_arg5)
      ∧ r.2.mem ((c.tc : Thread Cert.StreamReferenceIdeal.nD Cert.StreamReferenceIdeal.τ).loc Cert.StreamReferenceIdeal.main_arg6) = m ((c.tc : Thread Cert.StreamReferenceIdeal.nD Cert.StreamReferenceIdeal.τ).loc Cert.StreamReferenceIdeal.main_arg6)
      ∧ r.2.mem ((c.tc : Thread Cert.StreamReferenceIdeal.nD Cert.StreamReferenceIdeal.τ).loc Cert.StreamReferenceIdeal.main_arg7) = m ((c.tc : Thread Cert.StreamReferenceIdeal.nD Cert.StreamReferenceIdeal.τ).loc Cert.StreamReferenceIdeal.main_arg7))
      ∧ r.2.sem = fun _ => 0)

def quiescent_Gather [hGather : Cert.Gather.Facts] [hPre_classes_in_range : Cert.Pre_classes_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_classes_in_range : Cert.Pre_classes_in_range.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_GatherReferenceIdeal_pre_classes_in_range [hGatherReferenceIdeal : Cert.GatherReferenceIdeal.Facts] [hPre_classes_in_range : Cert.Pre_classes_in_range.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal_classes_in_range m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def preserves_Kernel_KernelIdeal : Prop :=
  IdealRules.named_const.Statement Cert.KernelIdeal.κ "inv_bn" .f32 0x3F7FFFAC#32 (((Real.sqrt (2097173 / 2097152))⁻¹ : ℝ) : EReal)
  ∧ IdealRules.named_const.Statement Cert.KernelIdeal.κ "inv_p" .f32 0x3AA72F05#32 ((1 / 784 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Stream_StreamIdeal : Prop :=
  IdealRules.named_const.Statement Cert.StreamIdeal.κ "mask" .f32 0xF149F2CA#32 ⊥
  ∧ IdealRules.named_const.Statement Cert.StreamIdeal.κ "ln_m" .f32 0xBC24AA2A#32 ((Real.log (99 / 100) : ℝ) : EReal)
  ∧ IdealRules.named_const.Statement Cert.StreamIdeal.κ "one_m" .f32 0x3C23D70A#32 ((1 / 100 : ℝ) : EReal)

def algebraic_StreamIdeal_StreamReferenceIdeal_pre_finite_and_in_range [hStreamIdeal : Cert.StreamIdeal.Facts] [hStreamReferenceIdeal : Cert.StreamReferenceIdeal.Facts] [hPre_finite_and_in_range : Cert.Pre_finite_and_in_range.Facts] : Prop :=
  ∀ (m : (ℓ : Loc Cert.StreamIdeal.nD Cert.StreamIdeal.τ Cert.StreamIdeal.sig) → Buf (Elt Ideal) ℓ) (g : Dev Cert.StreamIdeal.nD → PrngReg)
    (m' : (ℓ : Loc Cert.StreamReferenceIdeal.nD Cert.StreamReferenceIdeal.τ Cert.StreamReferenceIdeal.sig) → Buf (Elt Ideal) ℓ) (g' : Dev Cert.StreamReferenceIdeal.nD → PrngReg), Pre_StreamIdeal_finite_and_in_range m →
    (∀ c : Dev Cert.StreamIdeal.nD,
      m' ((c.tc : Thread Cert.StreamReferenceIdeal.nD Cert.StreamReferenceIdeal.τ).loc Cert.StreamReferenceIdeal.main_arg0) = m ((c.tc : Thread Cert.StreamIdeal.nD Cert.StreamIdeal.τ).loc Cert.StreamIdeal.main_arg0)
      ∧ m' ((c.tc : Thread Cert.StreamReferenceIdeal.nD Cert.StreamReferenceIdeal.τ).loc Cert.StreamReferenceIdeal.main_arg1) = m ((c.tc : Thread Cert.StreamIdeal.nD Cert.StreamIdeal.τ).loc Cert.StreamIdeal.main_arg1)
      ∧ m' ((c.tc : Thread Cert.StreamReferenceIdeal.nD Cert.StreamReferenceIdeal.τ).loc Cert.StreamReferenceIdeal.main_arg2) = m ((c.tc : Thread Cert.StreamIdeal.nD Cert.StreamIdeal.τ).loc Cert.StreamIdeal.main_arg2)
      ∧ m' ((c.tc : Thread Cert.StreamReferenceIdeal.nD Cert.StreamReferenceIdeal.τ).loc Cert.StreamReferenceIdeal.main_arg3) = m ((c.tc : Thread Cert.StreamIdeal.nD Cert.StreamIdeal.τ).loc Cert.StreamIdeal.main_arg3)
      ∧ m' ((c.tc : Thread Cert.StreamReferenceIdeal.nD Cert.StreamReferenceIdeal.τ).loc Cert.StreamReferenceIdeal.main_arg4) = m ((c.tc : Thread Cert.StreamIdeal.nD Cert.StreamIdeal.τ).loc Cert.StreamIdeal.main_arg4)
      ∧ m' ((c.tc : Thread Cert.StreamReferenceIdeal.nD Cert.StreamReferenceIdeal.τ).loc Cert.StreamReferenceIdeal.main_arg5) = m ((c.tc : Thread Cert.StreamIdeal.nD Cert.StreamIdeal.τ).loc Cert.StreamIdeal.main_arg5)
      ∧ m' ((c.tc : Thread Cert.StreamReferenceIdeal.nD Cert.StreamReferenceIdeal.τ).loc Cert.StreamReferenceIdeal.main_arg6) = m ((c.tc : Thread Cert.StreamIdeal.nD Cert.StreamIdeal.τ).loc Cert.StreamIdeal.main_arg6)
      ∧ m' ((c.tc : Thread Cert.StreamReferenceIdeal.nD Cert.StreamReferenceIdeal.τ).loc Cert.StreamReferenceIdeal.main_arg7) = m ((c.tc : Thread Cert.StreamIdeal.nD Cert.StreamIdeal.τ).loc Cert.StreamIdeal.main_arg7)) →
    ∃ (v0 : (c : Dev Cert.StreamIdeal.nD) → Buf (Elt Ideal) ((c.tc : Thread Cert.StreamIdeal.nD Cert.StreamIdeal.τ).loc Cert.StreamIdeal.main_v14)) (v1 : (c : Dev Cert.StreamIdeal.nD) → Buf (Elt Ideal) ((c.tc : Thread Cert.StreamIdeal.nD Cert.StreamIdeal.τ).loc Cert.StreamIdeal.main_v15)),
      θ_run (Cert.StreamIdeal.defs (F := Ideal)) (onTc (τ := Cert.StreamIdeal.τ) (Cert.StreamIdeal.main (F := Ideal))) ⟨m, fun _ => 0, g⟩ (fun r => ∀ c : Dev Cert.StreamIdeal.nD,
          r.2.mem ((c.tc : Thread Cert.StreamIdeal.nD Cert.StreamIdeal.τ).loc Cert.StreamIdeal.main_v14) = v0 c
          ∧ r.2.mem ((c.tc : Thread Cert.StreamIdeal.nD Cert.StreamIdeal.τ).loc Cert.StreamIdeal.main_v15) = v1 c
          ∧ r.2.mem ((c.tc : Thread Cert.StreamIdeal.nD Cert.StreamIdeal.τ).loc Cert.StreamIdeal.main_arg0) = m ((c.tc : Thread Cert.StreamIdeal.nD Cert.StreamIdeal.τ).loc Cert.StreamIdeal.main_arg0)
          ∧ r.2.mem ((c.tc : Thread Cert.StreamIdeal.nD Cert.StreamIdeal.τ).loc Cert.StreamIdeal.main_arg1) = m ((c.tc : Thread Cert.StreamIdeal.nD Cert.StreamIdeal.τ).loc Cert.StreamIdeal.main_arg1)
          ∧ r.2.mem ((c.tc : Thread Cert.StreamIdeal.nD Cert.StreamIdeal.τ).loc Cert.StreamIdeal.main_arg2) = m ((c.tc : Thread Cert.StreamIdeal.nD Cert.StreamIdeal.τ).loc Cert.StreamIdeal.main_arg2)
          ∧ r.2.mem ((c.tc : Thread Cert.StreamIdeal.nD Cert.StreamIdeal.τ).loc Cert.StreamIdeal.main_arg3) = m ((c.tc : Thread Cert.StreamIdeal.nD Cert.StreamIdeal.τ).loc Cert.StreamIdeal.main_arg3)
          ∧ r.2.mem ((c.tc : Thread Cert.StreamIdeal.nD Cert.StreamIdeal.τ).loc Cert.StreamIdeal.main_arg4) = m ((c.tc : Thread Cert.StreamIdeal.nD Cert.StreamIdeal.τ).loc Cert.StreamIdeal.main_arg4)
          ∧ r.2.mem ((c.tc : Thread Cert.StreamIdeal.nD Cert.StreamIdeal.τ).loc Cert.StreamIdeal.main_arg5) = m ((c.tc : Thread Cert.StreamIdeal.nD Cert.StreamIdeal.τ).loc Cert.StreamIdeal.main_arg5)
          ∧ r.2.mem ((c.tc : Thread Cert.StreamIdeal.nD Cert.StreamIdeal.τ).loc Cert.StreamIdeal.main_arg6) = m ((c.tc : Thread Cert.StreamIdeal.nD Cert.StreamIdeal.τ).loc Cert.StreamIdeal.main_arg6)
          ∧ r.2.mem ((c.tc : Thread Cert.StreamIdeal.nD Cert.StreamIdeal.τ).loc Cert.StreamIdeal.main_arg7) = m ((c.tc : Thread Cert.StreamIdeal.nD Cert.StreamIdeal.τ).loc Cert.StreamIdeal.main_arg7))
      ∧ θ_run (Cert.StreamReferenceIdeal.defs (F := Ideal)) (onTc (τ := Cert.StreamReferenceIdeal.τ) (Cert.StreamReferenceIdeal.main (F := Ideal))) ⟨m', fun _ => 0, g'⟩ (fun r => ∀ c : Dev Cert.StreamReferenceIdeal.nD,
          r.2.mem ((c.tc : Thread Cert.StreamReferenceIdeal.nD Cert.StreamReferenceIdeal.τ).loc Cert.StreamReferenceIdeal.main_v47) = v0 c
          ∧ r.2.mem ((c.tc : Thread Cert.StreamReferenceIdeal.nD Cert.StreamReferenceIdeal.τ).loc Cert.StreamReferenceIdeal.main_v46) = v1 c
          ∧ r.2.mem ((c.tc : Thread Cert.StreamReferenceIdeal.nD Cert.StreamReferenceIdeal.τ).loc Cert.StreamReferenceIdeal.main_arg0) = m' ((c.tc : Thread Cert.StreamReferenceIdeal.nD Cert.StreamReferenceIdeal.τ).loc Cert.StreamReferenceIdeal.main_arg0)
          ∧ r.2.mem ((c.tc : Thread Cert.StreamReferenceIdeal.nD Cert.StreamReferenceIdeal.τ).loc Cert.StreamReferenceIdeal.main_arg1) = m' ((c.tc : Thread Cert.StreamReferenceIdeal.nD Cert.StreamReferenceIdeal.τ).loc Cert.StreamReferenceIdeal.main_arg1)
          ∧ r.2.mem ((c.tc : Thread Cert.StreamReferenceIdeal.nD Cert.StreamReferenceIdeal.τ).loc Cert.StreamReferenceIdeal.main_arg2) = m' ((c.tc : Thread Cert.StreamReferenceIdeal.nD Cert.StreamReferenceIdeal.τ).loc Cert.StreamReferenceIdeal.main_arg2)
          ∧ r.2.mem ((c.tc : Thread Cert.StreamReferenceIdeal.nD Cert.StreamReferenceIdeal.τ).loc Cert.StreamReferenceIdeal.main_arg3) = m' ((c.tc : Thread Cert.StreamReferenceIdeal.nD Cert.StreamReferenceIdeal.τ).loc Cert.StreamReferenceIdeal.main_arg3)
          ∧ r.2.mem ((c.tc : Thread Cert.StreamReferenceIdeal.nD Cert.StreamReferenceIdeal.τ).loc Cert.StreamReferenceIdeal.main_arg4) = m' ((c.tc : Thread Cert.StreamReferenceIdeal.nD Cert.StreamReferenceIdeal.τ).loc Cert.StreamReferenceIdeal.main_arg4)
          ∧ r.2.mem ((c.tc : Thread Cert.StreamReferenceIdeal.nD Cert.StreamReferenceIdeal.τ).loc Cert.StreamReferenceIdeal.main_arg5) = m' ((c.tc : Thread Cert.StreamReferenceIdeal.nD Cert.StreamReferenceIdeal.τ).loc Cert.StreamReferenceIdeal.main_arg5)
          ∧ r.2.mem ((c.tc : Thread Cert.StreamReferenceIdeal.nD Cert.StreamReferenceIdeal.τ).loc Cert.StreamReferenceIdeal.main_arg6) = m' ((c.tc : Thread Cert.StreamReferenceIdeal.nD Cert.StreamReferenceIdeal.τ).loc Cert.StreamReferenceIdeal.main_arg6)
          ∧ r.2.mem ((c.tc : Thread Cert.StreamReferenceIdeal.nD Cert.StreamReferenceIdeal.τ).loc Cert.StreamReferenceIdeal.main_arg7) = m' ((c.tc : Thread Cert.StreamReferenceIdeal.nD Cert.StreamReferenceIdeal.τ).loc Cert.StreamReferenceIdeal.main_arg7))

def preserves_Gather_GatherIdeal : Prop :=
  True

def algebraic_GatherIdeal_GatherReferenceIdeal [hGatherIdeal : Cert.GatherIdeal.Facts] [hGatherReferenceIdeal : Cert.GatherReferenceIdeal.Facts] [hPre_classes_in_range : Cert.Pre_classes_in_range.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v2)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v2) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v7) = v0 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1))

def Claim : Prop :=
  ∃ (hKernel : Cert.Kernel.Facts) (hKernelIdeal : Cert.KernelIdeal.Facts) (hReferenceIdeal : Cert.ReferenceIdeal.Facts) (hStream : Cert.Stream.Facts) (hStreamIdeal : Cert.StreamIdeal.Facts) (hStreamReferenceIdeal : Cert.StreamReferenceIdeal.Facts) (hGather : Cert.Gather.Facts) (hGatherIdeal : Cert.GatherIdeal.Facts) (hGatherReferenceIdeal : Cert.GatherReferenceIdeal.Facts) (hPre_finite_and_in_range : Cert.Pre_finite_and_in_range.Facts) (hPre_classes_in_range : Cert.Pre_classes_in_range.Facts),
    quiescent_Kernel (hKernel := hKernel)
    ∧ quiescent_KernelIdeal (hKernelIdeal := hKernelIdeal)
    ∧ quiescent_ReferenceIdeal (hReferenceIdeal := hReferenceIdeal)
    ∧ quiescent_Stream (hStream := hStream)
    ∧ quiescent_StreamIdeal (hStreamIdeal := hStreamIdeal)
    ∧ quiescent_StreamIdeal_pre_finite_and_in_range (hStreamIdeal := hStreamIdeal) (hPre_finite_and_in_range := hPre_finite_and_in_range)
    ∧ quiescent_StreamReferenceIdeal (hStreamReferenceIdeal := hStreamReferenceIdeal)
    ∧ quiescent_StreamReferenceIdeal_pre_finite_and_in_range (hStreamReferenceIdeal := hStreamReferenceIdeal) (hPre_finite_and_in_range := hPre_finite_and_in_range)
    ∧ quiescent_Gather (hGather := hGather) (hPre_classes_in_range := hPre_classes_in_range)
    ∧ quiescent_GatherIdeal (hGatherIdeal := hGatherIdeal) (hPre_classes_in_range := hPre_classes_in_range)
    ∧ quiescent_GatherReferenceIdeal (hGatherReferenceIdeal := hGatherReferenceIdeal)
    ∧ quiescent_GatherReferenceIdeal_pre_classes_in_range (hGatherReferenceIdeal := hGatherReferenceIdeal) (hPre_classes_in_range := hPre_classes_in_range)
    ∧ preserves_Kernel_KernelIdeal
    ∧ algebraic_KernelIdeal_ReferenceIdeal (hKernelIdeal := hKernelIdeal) (hReferenceIdeal := hReferenceIdeal)
    ∧ preserves_Stream_StreamIdeal
    ∧ algebraic_StreamIdeal_StreamReferenceIdeal_pre_finite_and_in_range (hStreamIdeal := hStreamIdeal) (hStreamReferenceIdeal := hStreamReferenceIdeal) (hPre_finite_and_in_range := hPre_finite_and_in_range)
    ∧ preserves_Gather_GatherIdeal
    ∧ algebraic_GatherIdeal_GatherReferenceIdeal (hGatherIdeal := hGatherIdeal) (hGatherReferenceIdeal := hGatherReferenceIdeal) (hPre_classes_in_range := hPre_classes_in_range)
-- ==== Pre_classes_in_range.lean ====
abbrev S64 : Shape := ⟨1, ![64]⟩
abbrev S100000x64x1x1 : Shape := ⟨4, ![100000, 64, 1, 1]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : IVec S64 32) (main_arg1 : FVec F S100000x64x1x1 .f32) : IVec S_ 1 :=
  let main_c : IVec S_ 32 := constantI S_ 32 0#32
  let main_v0 : IVec S64 32 := broadcastInDim S64 ![] bcast_S_S64 main_c
  let main_v1 : IVec S64 1 := cmpi .sge main_arg0 main_v0
  let main_c_0 : IVec S_ 1 := constantI S_ 1 1#1
  let main_v2 : IVec S_ 1 := (fun x v => Host.reduce IntOp.andi x v reducesTo_S64_S_d0 h_S_) main_v1 main_c_0
  let main_c_1 : IVec S_ 32 := constantI S_ 32 100000#32
  let main_v3 : IVec S64 32 := broadcastInDim S64 ![] bcast_S_S64 main_c_1
  let main_v4 : IVec S64 1 := cmpi .slt main_arg0 main_v3
  let main_c_2 : IVec S_ 1 := constantI S_ 1 1#1
  let main_v5 : IVec S_ 1 := (fun x v => Host.reduce IntOp.andi x v reducesTo_S64_S_d0 h_S_) main_v4 main_c_2
  let main_v6 : IVec S_ 1 := andi main_v2 main_v5
  main_v6
-- ==== Pre_finite_and_in_range.lean ====
abbrev S64x64 : Shape := ⟨2, ![64, 64]⟩
abbrev S64x64x1x1 : Shape := ⟨4, ![64, 64, 1, 1]⟩
abbrev S64 : Shape := ⟨1, ![64]⟩
abbrev S100000x64x1x1 : Shape := ⟨4, ![100000, 64, 1, 1]⟩
abbrev S64x128 : Shape := ⟨2, ![64, 128]⟩
abbrev S128 : Shape := ⟨1, ![128]⟩
abbrev S128x100000 : Shape := ⟨2, ![128, 100000]⟩
abbrev S100000 : Shape := ⟨1, ![100000]⟩
abbrev S_ : Shape := ⟨0, ![]⟩

class Facts : Prop where
  bcast_S_S64x64 : S_.BroadcastsInDim S64x64 (![] : Fin 0 → Fin S64x64.rank)
  reducesTo_S64x64_S_d0_1 : S64x64.ReducesTo [0, 1] S_
  h_S_ : 0 < S_.numel
  bcast_S_S64x64x1x1 : S_.BroadcastsInDim S64x64x1x1 (![] : Fin 0 → Fin S64x64x1x1.rank)
  reducesTo_S64x64x1x1_S_d0_1_2_3 : S64x64x1x1.ReducesTo [0, 1, 2, 3] S_
  bcast_S_S100000x64x1x1 : S_.BroadcastsInDim S100000x64x1x1 (![] : Fin 0 → Fin S100000x64x1x1.rank)
  reducesTo_S100000x64x1x1_S_d0_1_2_3 : S100000x64x1x1.ReducesTo [0, 1, 2, 3] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x100000 : S_.BroadcastsInDim S128x100000 (![] : Fin 0 → Fin S128x100000.rank)
  reducesTo_S128x100000_S_d0_1 : S128x100000.ReducesTo [0, 1] S_
  bcast_S_S100000 : S_.BroadcastsInDim S100000 (![] : Fin 0 → Fin S100000.rank)
  reducesTo_S100000_S_d0 : S100000.ReducesTo [0] S_
  bcast_S_S64 : S_.BroadcastsInDim S64 (![] : Fin 0 → Fin S64.rank)
  reducesTo_S64_S_d0 : S64.ReducesTo [0] S_

variable [Facts]

def fn_part2 {F : FTy → Type} [FloatOps F] (main_arg2 : IVec S64 32) (main_v33 : IVec S_ 1) : IVec S_ 1 :=
  let main_c_12 : IVec S_ 32 := constantI S_ 32 0#32
  let main_v34 : IVec S64 32 := broadcastInDim S64 ![] bcast_S_S64 main_c_12
  let main_v35 : IVec S64 1 := cmpi .sge main_arg2 main_v34
  let main_c_13 : IVec S_ 1 := constantI S_ 1 1#1
  let main_v36 : IVec S_ 1 := (fun x v => Host.reduce IntOp.andi x v reducesTo_S64_S_d0 h_S_) main_v35 main_c_13
  let main_v37 : IVec S_ 1 := andi main_v33 main_v36
  let main_c_14 : IVec S_ 32 := constantI S_ 32 100000#32
  let main_v38 : IVec S64 32 := broadcastInDim S64 ![] bcast_S_S64 main_c_14
  let main_v39 : IVec S64 1 := cmpi .slt main_arg2 main_v38
  let main_c_15 : IVec S_ 1 := constantI S_ 1 1#1
  let main_v40 : IVec S_ 1 := (fun x v => Host.reduce IntOp.andi x v reducesTo_S64_S_d0 h_S_) main_v39 main_c_15
  let main_v41 : IVec S_ 1 := andi main_v37 main_v40
  main_v41

def fn_part1 {F : FTy → Type} [FloatOps F] (main_arg2 : IVec S64 32) (main_arg5 : FVec F S128 .f32) (main_arg6 : FVec F S128x100000 .f32) (main_arg7 : FVec F S100000 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x100000 .f32 := Host.absf main_arg6
  let main_cst_8 : FVec F S_ .f32 := constant S_ .f32 0x7F800000#32
  let main_v25 : FVec F S128x100000 .f32 := broadcastInDim S128x100000 ![] bcast_S_S128x100000 main_cst_8
  let main_v26 : IVec S128x100000 1 := cmpf .olt main_v24 main_v25
  let main_c_9 : IVec S_ 1 := constantI S_ 1 1#1
  let main_v27 : IVec S_ 1 := (fun x v => Host.reduce IntOp.andi x v reducesTo_S128x100000_S_d0_1 h_S_) main_v26 main_c_9
  let main_v28 : IVec S_ 1 := andi main_v23 main_v27
  let main_v29 : FVec F S100000 .f32 := Host.absf main_arg7
  let main_cst_10 : FVec F S_ .f32 := constant S_ .f32 0x7F800000#32
  let main_v30 : FVec F S100000 .f32 := broadcastInDim S100000 ![] bcast_S_S100000 main_cst_10
  let main_v31 : IVec S100000 1 := cmpf .olt main_v29 main_v30
  let main_c_11 : IVec S_ 1 := constantI S_ 1 1#1
  let main_v32 : IVec S_ 1 := (fun x v => Host.reduce IntOp.andi x v reducesTo_S100000_S_d0 h_S_) main_v31 main_c_11
  let main_v33 : IVec S_ 1 := andi main_v28 main_v32
  fn_part2 (F := F) main_arg2 main_v33

def fn {F : FTy → Type} [FloatOps F] (main_arg0 : FVec F S64x64 .f32) (main_arg1 : FVec F S64x64x1x1 .f32) (main_arg2 : IVec S64 32) (main_arg3 : FVec F S100000x64x1x1 .f32) (main_arg4 : FVec F S64x128 .f32) (main_arg5 : FVec F S128 .f32) (main_arg6 : FVec F S128x100000 .f32) (main_arg7 : FVec F S100000 .f32) : IVec S_ 1 :=
  let main_v0 : FVec F S64x64 .f32 := Host.absf main_arg0
  let main_cst : FVec F S_ .f32 := constant S_ .f32 0x7F800000#32
  let main_v1 : FVec F S64x64 .f32 := broadcastInDim S64x64 ![] bcast_S_S64x64 main_cst
  let main_v2 : IVec S64x64 1 := cmpf .olt main_v0 main_v1
  let main_c : IVec S_ 1 := constantI S_ 1 1#1
  let main_v3 : IVec S_ 1 := (fun x v => Host.reduce IntOp.andi x v reducesTo_S64x64_S_d0_1 h_S_) main_v2 main_c
  let main_v4 : FVec F S64x64x1x1 .f32 := Host.absf main_arg1
  let main_cst_0 : FVec F S_ .f32 := constant S_ .f32 0x7F800000#32
  let main_v5 : FVec F S64x64x1x1 .f32 := broadcastInDim S64x64x1x1 ![] bcast_S_S64x64x1x1 main_cst_0
  let main_v6 : IVec S64x64x1x1 1 := cmpf .olt main_v4 main_v5
  let main_c_1 : IVec S_ 1 := constantI S_ 1 1#1
  let main_v7 : IVec S_ 1 := (fun x v => Host.reduce IntOp.andi x v reducesTo_S64x64x1x1_S_d0_1_2_3 h_S_) main_v6 main_c_1
  let main_v8 : IVec S_ 1 := andi main_v3 main_v7
  let main_v9 : FVec F S100000x64x1x1 .f32 := Host.absf main_arg3
  let main_cst_2 : FVec F S_ .f32 := constant S_ .f32 0x7F800000#32
  let main_v10 : FVec F S100000x64x1x1 .f32 := broadcastInDim S100000x64x1x1 ![] bcast_S_S100000x64x1x1 main_cst_2
  let main_v11 : IVec S100000x64x1x1 1 := cmpf .olt main_v9 main_v10
  let main_c_3 : IVec S_ 1 := constantI S_ 1 1#1
  let main_v12 : IVec S_ 1 := (fun x v => Host.reduce IntOp.andi x v reducesTo_S100000x64x1x1_S_d0_1_2_3 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg2 main_arg5 main_arg6 main_arg7 main_v13 main_v16
-- ==== Kernel.lean ====
abbrev S64x64x28x28 : Shape := ⟨4, ![64, 64, 28, 28]⟩
abbrev S64x64x3x3 : Shape := ⟨4, ![64, 64, 3, 3]⟩
abbrev S64 : Shape := ⟨1, ![64]⟩
abbrev S64x64x784 : Shape := ⟨3, ![64, 64, 784]⟩
abbrev S3x64x3x64 : Shape := ⟨4, ![3, 64, 3, 64]⟩
abbrev S192x192 : Shape := ⟨2, ![192, 192]⟩
abbrev S64x1 : Shape := ⟨2, ![64, 1]⟩
abbrev S64x4 : Shape := ⟨2, ![64, 4]⟩
abbrev S64x64x1 : Shape := ⟨3, ![64, 64, 1]⟩
abbrev S8x64x784 : Shape := ⟨3, ![8, 64, 784]⟩
abbrev S8x64x1 : Shape := ⟨3, ![8, 64, 1]⟩
abbrev S192x6272 : Shape := ⟨2, ![192, 6272]⟩
abbrev S64x784 : Shape := ⟨2, ![64, 784]⟩
abbrev S1x64x784 : Shape := ⟨3, ![1, 64, 784]⟩
abbrev S64x28 : Shape := ⟨2, ![64, 28]⟩
abbrev S64x756 : Shape := ⟨2, ![64, 756]⟩
abbrev S192x784 : Shape := ⟨2, ![192, 784]⟩
abbrev S64x783 : Shape := ⟨2, ![64, 783]⟩
abbrev S1x64x1 : Shape := ⟨3, ![1, 64, 1]⟩

abbrev nBuf : Space → Nat
  | .hbm => 20
  | .vmem => 8
  | .smem => 0
  | _ => 0

abbrev bufTy : (tb : Table) → Fin (tcTables nBuf tb) → BufTy
  | .hbm, ⟨0, _⟩ => ⟨S64x64x28x28, .f32⟩
  | .hbm, ⟨1, _⟩ => ⟨S64x64x3x3, .f32⟩
  | .hbm, ⟨2, _⟩ => ⟨S64, .f32⟩
  | .hbm, ⟨3, _⟩ => ⟨S64, .f32⟩
  | .hbm, ⟨4, _⟩ => ⟨S64x64x3x3, .f32⟩
  | .hbm, ⟨5, _⟩ => ⟨S64, .f32⟩
  | .hbm, ⟨6, _⟩ => ⟨S64, .f32⟩
  | .hbm, ⟨7, _⟩ => ⟨S64x64x784, .f32⟩
  | .hbm, ⟨8, _⟩ => ⟨S3x64x3x64, .f32⟩
  | .hbm, ⟨9, _⟩ => ⟨S192x192, .f32⟩
  | .hbm, ⟨10, _⟩ => ⟨S192x192, .bf16⟩
  | .hbm, ⟨11, _⟩ => ⟨S3x64x3x64, .f32⟩
  | .hbm, ⟨12, _⟩ => ⟨S192x192, .f32⟩
  | .hbm, ⟨13, _⟩ => ⟨S192x192, .bf16⟩
  | .hbm, ⟨14, _⟩ => ⟨S64x1, .f32⟩
  | .hbm, ⟨15, _⟩ => ⟨S64x1, .f32⟩
  | .hbm, ⟨16, _⟩ => ⟨S64x1, .f32⟩
  | .hbm, ⟨17, _⟩ => ⟨S64x1, .f32⟩
  | .hbm, ⟨18, _⟩ => ⟨S64x4, .f32⟩
  | .hbm, ⟨19, _⟩ => ⟨S64x64x1, .f32⟩
  | .local _ .vmem, ⟨0, _⟩ => ⟨S8x64x784, .f32⟩
  | .local _ .vmem, ⟨1, _⟩ => ⟨S8x64x784, .f32⟩
  | .local _ .vmem, ⟨2, _⟩ => ⟨S192x192, .bf16⟩
  | .local _ .vmem, ⟨3, _⟩ => ⟨S192x192, .bf16⟩
  | .local _ .vmem, ⟨4, _⟩ => ⟨S64x4, .f32⟩
  | .local _ .vmem, ⟨5, _⟩ => ⟨S8x64x1, .f32⟩
  | .local _ .vmem, ⟨6, _⟩ => ⟨S8x64x1, .f32⟩
  | .local _ .vmem, ⟨7, _⟩ => ⟨S192x6272, .bf16⟩
  | _, _ => ⟨S64x64x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S192x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "inv_bn" => some (((Real.sqrt (2097173 / 2097152))⁻¹ : ℝ) : EReal)
  | "inv_p" => some ((1 / 784 : ℝ) : EReal)
  | _ => none
-- ==== ReferenceIdeal.lean ====
abbrev S64x64x28x28 : Shape := ⟨4, ![64, 64, 28, 28]⟩
abbrev S64x64x3x3 : Shape := ⟨4, ![64, 64, 3, 3]⟩
abbrev S64 : Shape := ⟨1, ![64]⟩
abbrev S_ : Shape := ⟨0, ![]⟩
abbrev S64x64x30x30 : Shape := ⟨4, ![64, 64, 30, 30]⟩
abbrev S64x576x28x28 : Shape := ⟨4, ![64, 576, 28, 28]⟩
abbrev S64x3x3x64 : Shape := ⟨4, ![64, 3, 3, 64]⟩
abbrev S64x576 : Shape := ⟨2, ![64, 576]⟩
abbrev S64x28x28x64 : Shape := ⟨4, ![64, 28, 28, 64]⟩
abbrev S1x64x1x1 : Shape := ⟨4, ![1, 64, 1, 1]⟩
abbrev S64x64x784 : Shape := ⟨3, ![64, 64, 784]⟩
abbrev S64x64 : Shape := ⟨2, ![64, 64]⟩
abbrev S64x64x1 : Shape := ⟨3, ![64, 64, 1]⟩

abbrev nBuf : Space → Nat
  | .hbm => 76
  | .vmem => 0
  | .smem => 0
  | _ => 0

abbrev bufTy : (tb : Table) → Fin (tcTables nBuf tb) → BufTy
  | .hbm, ⟨0, _⟩ => ⟨S64x64x28x28, .f32⟩
  | .hbm, ⟨1, _⟩ => ⟨S64x64x3x3, .f32⟩
  | .hbm, ⟨2, _⟩ => ⟨S64, .f32⟩
  | .hbm, ⟨3, _⟩ => ⟨S64, .f32⟩
  | .hbm, ⟨4, _⟩ => ⟨S64x64x3x3, .f32⟩
  | .hbm, ⟨5, _⟩ => ⟨S64, .f32⟩
  | .hbm, ⟨6, _⟩ => ⟨S64, .f32⟩
  | .hbm, ⟨7, _⟩ => ⟨S_, .i32⟩
  | .hbm, ⟨8, _⟩ => ⟨S_, .f32⟩
  | .hbm, ⟨9, _⟩ => ⟨S64x64x30x30, .f32⟩
  | .hbm, ⟨10, _⟩ => ⟨S64x64x28x28, .f32⟩
  | .hbm, ⟨11, _⟩ => ⟨S64x64x28x28, .f32⟩
  | .hbm, ⟨12, _⟩ => ⟨S64x64x28x28, .f32⟩
  | .hbm, ⟨13, _⟩ => ⟨S64x64x28x28, .f32⟩
  | .hbm, ⟨14, _⟩ => ⟨S64x64x28x28, .f32⟩
  | .hbm, ⟨15, _⟩ => ⟨S64x64x28x28, .f32⟩
  | .hbm, ⟨16, _⟩ => ⟨S64x64x28x28, .f32⟩
  | .hbm, ⟨17, _⟩ => ⟨S64x64x28x28, .f32⟩
  | .hbm, ⟨18, _⟩ => ⟨S64x64x28x28, .f32⟩
  | .hbm, ⟨19, _⟩ => ⟨S64x576x28x28, .f32⟩
  | .hbm, ⟨20, _⟩ => ⟨S64x3x3x64, .f32⟩
  | .hbm, ⟨21, _⟩ => ⟨S64x576, .f32⟩
  | .hbm, ⟨22, _⟩ => ⟨S64x28x28x64, .f32⟩
  | .hbm, ⟨23, _⟩ => ⟨S64x64x28x28, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S64x64x28x28, .f32⟩
  | .hbm, ⟨28, _⟩ => ⟨S64x64x28x28, .f32⟩
  | .hbm, ⟨29, _⟩ => ⟨S1x64x1x1, .f32⟩
  | .hbm, ⟨30, _⟩ => ⟨S64x64x28x28, .f32⟩
  | .hbm, ⟨31, _⟩ => ⟨S64x64x28x28, .f32⟩
  | .hbm, ⟨32, _⟩ => ⟨S1x64x1x1, .f32⟩
  | .hbm, ⟨33, _⟩ => ⟨S64x64x28x28, .f32⟩
  | .hbm, ⟨34, _⟩ => ⟨S64x64x28x28, .f32⟩
  | .hbm, ⟨35, _⟩ => ⟨S_, .f32⟩
  | .hbm, ⟨36, _⟩ => ⟨S64x64x28x28, .f32⟩
  | .hbm, ⟨37, _⟩ => ⟨S64x64x28x28, .f32⟩
  | .hbm, ⟨38, _⟩ => ⟨S_, .i32⟩
  | .hbm, ⟨39, _⟩ => ⟨S_, .f32⟩
  | .hbm, ⟨40, _⟩ => ⟨S64x64x30x30, .f32⟩
  | .hbm, ⟨41, _⟩ => ⟨S64x64x28x28, .f32⟩
  | .hbm, ⟨42, _⟩ => ⟨S64x64x28x28, .f32⟩
  | .hbm, ⟨43, _⟩ => ⟨S64x64x28x28, .f32⟩
  | .hbm, ⟨44, _⟩ => ⟨S64x64x28x28, .f32⟩
  | .hbm, ⟨45, _⟩ => ⟨S64x64x28x28, .f32⟩
  | .hbm, ⟨46, _⟩ => ⟨S64x64x28x28, .f32⟩
  | .hbm, ⟨47, _⟩ => ⟨S64x64x28x28, .f32⟩
  | .hbm, ⟨48, _⟩ => ⟨S64x64x28x28, .f32⟩
  | .hbm, ⟨49, _⟩ => ⟨S64x64x28x28, .f32⟩
  | .hbm, ⟨50, _⟩ => ⟨S64x576x28x28, .f32⟩
  | .hbm, ⟨51, _⟩ => ⟨S64x3x3x64, .f32⟩
  | .hbm, ⟨52, _⟩ => ⟨S64x576, .f32⟩
  | .hbm, ⟨53, _⟩ => ⟨S64x28x28x64, .f32⟩
  | .hbm, ⟨54, _⟩ => ⟨S64x64x28x28, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S64x64x28x28, .f32⟩
  | .hbm, ⟨59, _⟩ => ⟨S64x64x28x28, .f32⟩
  | .hbm, ⟨60, _⟩ => ⟨S1x64x1x1, .f32⟩
  | .hbm, ⟨61, _⟩ => ⟨S64x64x28x28, .f32⟩
  | .hbm, ⟨62, _⟩ => ⟨S64x64x28x28, .f32⟩
  | .hbm, ⟨63, _⟩ => ⟨S1x64x1x1, .f32⟩
  | .hbm, ⟨64, _⟩ => ⟨S64x64x28x28, .f32⟩
  | .hbm, ⟨65, _⟩ => ⟨S64x64x28x28, .f32⟩
  | .hbm, ⟨66, _⟩ => ⟨S_, .f32⟩
  | .hbm, ⟨67, _⟩ => ⟨S64x64x28x28, .f32⟩
  | .hbm, ⟨68, _⟩ => ⟨S64x64x28x28, .f32⟩
  | .hbm, ⟨69, _⟩ => ⟨S64x64x784, .f32⟩
  | .hbm, ⟨70, _⟩ => ⟨S_, .f32⟩
  | .hbm, ⟨71, _⟩ => ⟨S64x64, .f32⟩
  | .hbm, ⟨72, _⟩ => ⟨S_, .f32⟩
  | .hbm, ⟨73, _⟩ => ⟨S64x64, .f32⟩
  | .hbm, ⟨74, _⟩ => ⟨S64x64, .f32⟩
  | .hbm, ⟨75, _⟩ => ⟨S64x64x1, .f32⟩
  | _, _ => ⟨S64x64x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call1_cst : Ref sig .tc := ⟨.hbm, 35, rfl⟩
abbrev main_call1_v0 : Ref sig .tc := ⟨.hbm, 36, rfl⟩
abbrev main_v25 : Ref sig .tc := ⟨.hbm, 37, rfl⟩
abbrev main_c_0 : Ref sig .tc := ⟨.hbm, 38, rfl⟩
abbrev main_call2_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_1 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_call3_cst : Ref sig .tc := ⟨.hbm, 66, rfl⟩
abbrev main_call3_v0 : Ref sig .tc := ⟨.hbm, 67, rfl⟩
abbrev main_v51 : Ref sig .tc := ⟨.hbm, 68, rfl⟩
abbrev main_v52 : Ref sig .tc := ⟨.hbm, 69, rfl⟩
abbrev main_cst_2 : Ref sig .tc := ⟨.hbm, 70, rfl⟩
abbrev main_v53 : Ref sig .tc := ⟨.hbm, 71, rfl⟩
abbrev main_cst_3 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Stream.lean ====
abbrev S64x64 : Shape := ⟨2, ![64, 64]⟩
abbrev S64x64x1x1 : Shape := ⟨4, ![64, 64, 1, 1]⟩
abbrev S64 : Shape := ⟨1, ![64]⟩
abbrev S100000x64x1x1 : Shape := ⟨4, ![100000, 64, 1, 1]⟩
abbrev S64x128 : Shape := ⟨2, ![64, 128]⟩
abbrev S128 : Shape := ⟨1, ![128]⟩
abbrev S128x100000 : Shape := ⟨2, ![128, 100000]⟩
abbrev S100000 : Shape := ⟨1, ![100000]⟩
abbrev S100000x64 : Shape := ⟨2, ![100000, 64]⟩
abbrev S_ : Shape := ⟨0, ![]⟩
abbrev S64x1 : Shape := ⟨2, ![64, 1]⟩
abbrev S1x64 : Shape := ⟨2, ![1, 64]⟩
abbrev S1x128 : Shape := ⟨2, ![1, 128]⟩
abbrev S1x100000 : Shape := ⟨2, ![1, 100000]⟩
abbrev S1x1 : Shape := ⟨2, ![1, 1]⟩
abbrev S128x16384 : Shape := ⟨2, ![128, 16384]⟩
abbrev S1x16384 : Shape := ⟨2, ![1, 16384]⟩
abbrev S16384x64 : Shape := ⟨2, ![16384, 64]⟩
abbrev S64x16384 : Shape := ⟨2, ![64, 16384]⟩
abbrev S16384x1 : Shape := ⟨2, ![16384, 1]⟩
abbrev S1 : Shape := ⟨1, ![1]⟩

abbrev nBuf : Space → Nat
  | .hbm => 27
  | .vmem => 20
  | .smem => 0
  | _ => 0

abbrev bufTy : (tb : Table) → Fin (tcTables nBuf tb) → BufTy
  | .hbm, ⟨0, _⟩ => ⟨S64x64, .f32⟩
  | .hbm, ⟨1, _⟩ => ⟨S64x64x1x1, .f32⟩
  | .hbm, ⟨2, _⟩ => ⟨S64, .i32⟩
  | .hbm, ⟨3, _⟩ => ⟨S100000x64x1x1, .f32⟩
  | .hbm, ⟨4, _⟩ => ⟨S64x128, .f32⟩
  | .hbm, ⟨5, _⟩ => ⟨S128, .f32⟩
  | .hbm, ⟨6, _⟩ => ⟨S128x100000, .f32⟩
  | .hbm, ⟨7, _⟩ => ⟨S100000, .f32⟩
  | .hbm, ⟨8, _⟩ => ⟨S100000x64, .f32⟩
  | .hbm, ⟨9, _⟩ => ⟨S_, .i32⟩
  | .hbm, ⟨10, _⟩ => ⟨S64, .i32⟩
  | .hbm, ⟨11, _⟩ => ⟨S64, .i1⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S64x1, .i32⟩
  | .hbm, ⟨17, _⟩ => ⟨S64x64, .f32⟩
  | .hbm, ⟨18, _⟩ => ⟨S1x64, .i32⟩
  | .hbm, ⟨19, _⟩ => ⟨S64x1, .i32⟩
  | .hbm, ⟨20, _⟩ => ⟨S64x64, .f32⟩
  | .hbm, ⟨21, _⟩ => ⟨S1x128, .f32⟩
  | .hbm, ⟨22, _⟩ => ⟨S1x100000, .f32⟩
  | .hbm, ⟨23, _⟩ => ⟨S64x64, .f32⟩
  | .hbm, ⟨24, _⟩ => ⟨S1x1, .f32⟩
  | .hbm, ⟨25, _⟩ => ⟨S64x64x1x1, .f32⟩
  | .hbm, ⟨26, _⟩ => ⟨S_, .f32⟩
  | .local _ .vmem, ⟨0, _⟩ => ⟨S64x64, .f32⟩
  | .local _ .vmem, ⟨1, _⟩ => ⟨S64x128, .f32⟩
  | .local _ .vmem, ⟨2, _⟩ => ⟨S1x128, .f32⟩
  | .local _ .vmem, ⟨3, _⟩ => ⟨S128x16384, .f32⟩
  | .local _ .vmem, ⟨4, _⟩ => ⟨S128x16384, .f32⟩
  | .local _ .vmem, ⟨5, _⟩ => ⟨S1x16384, .f32⟩
  | .local _ .vmem, ⟨6, _⟩ => ⟨S1x16384, .f32⟩
  | .local _ .vmem, ⟨7, _⟩ => ⟨S16384x64, .f32⟩
  | .local _ .vmem, ⟨8, _⟩ => ⟨S16384x64, .f32⟩
  | .local _ .vmem, ⟨9, _⟩ => ⟨S1x64, .i32⟩
  | .local _ .vmem, ⟨10, _⟩ => ⟨S64x1, .i32⟩
  | .local _ .vmem, ⟨11, _⟩ => ⟨S64x64, .f32⟩
  | .local _ .vmem, ⟨12, _⟩ => ⟨S64x64, .f32⟩
  | .local _ .vmem, ⟨13, _⟩ => ⟨S64x64, .f32⟩
  | .local _ .vmem, ⟨14, _⟩ => ⟨S1x1, .f32⟩
  | .local _ .vmem, ⟨15, _⟩ => ⟨S64x1, .f32⟩
  | .local _ .vmem, ⟨16, _⟩ => ⟨S64x1, .f32⟩
  | .local _ .vmem, ⟨17, _⟩ => ⟨S64x64, .f32⟩
  | .local _ .vmem, ⟨18, _⟩ => ⟨S64x64, .f32⟩
  | .local _ .vmem, ⟨19, _⟩ => ⟨S64x128, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨1, ![7], ![false]⟩

def k0_cond2 (i : grid0.Coords) : BitVec 1 :=
  let arg0 : BitVec 32 := BitVec.ofNat 32 (i 0).val
  let c6_i32 : BitVec 32 := 6#32
  let v73 : BitVec 1 := Scalar.cmpi .eq arg0 c6_i32
  let v74 : BitVec 32 := Scalar.extui v73
  let c0_i32_35 : BitVec 32 := 0#32
  let v75 : BitVec 1 := Scalar.cmpi .ne v74 c0_i32_35
  v75

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16384x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x64 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== StreamIdeal.lean ====
variable {F : FTy → Type} [FloatOps F] [Named F]
def κ : String → Option EReal := fun
  | "ln_m" => some ((Real.log (99 / 100) : ℝ) : EReal)
  | "mask" => some ⊥
  | "one_m" => some ((1 / 100 : ℝ) : EReal)
  | _ => none
-- ==== StreamReferenceIdeal.lean ====
abbrev S64x64 : Shape := ⟨2, ![64, 64]⟩
abbrev S64x64x1x1 : Shape := ⟨4, ![64, 64, 1, 1]⟩
abbrev S64 : Shape := ⟨1, ![64]⟩
abbrev S100000x64x1x1 : Shape := ⟨4, ![100000, 64, 1, 1]⟩
abbrev S64x128 : Shape := ⟨2, ![64, 128]⟩
abbrev S128 : Shape := ⟨1, ![128]⟩
abbrev S128x100000 : Shape := ⟨2, ![128, 100000]⟩
abbrev S100000 : Shape := ⟨1, ![100000]⟩
abbrev S_ : Shape := ⟨0, ![]⟩
abbrev S1 : Shape := ⟨1, ![1]⟩
abbrev S1x64x1x1 : Shape := ⟨4, ![1, 64, 1, 1]⟩
abbrev S64x1x1 : Shape := ⟨3, ![64, 1, 1]⟩
abbrev S100000x64 : Shape := ⟨2, ![100000, 64]⟩
abbrev S1x128 : Shape := ⟨2, ![1, 128]⟩
abbrev S64x100000 : Shape := ⟨2, ![64, 100000]⟩
abbrev S1x100000 : Shape := ⟨2, ![1, 100000]⟩
abbrev S64x1 : Shape := ⟨2, ![64, 1]⟩

abbrev nBuf : Space → Nat
  | .hbm => 132
  | .vmem => 0
  | .smem => 0
  | _ => 0

abbrev hbmTy0_0 (i : Nat) : BufTy := match i % 128 with
  | 0 => ⟨S64x64, .f32⟩
  | 1 => ⟨S64x64x1x1, .f32⟩
  | 2 => ⟨S64, .i32⟩
  | 3 => ⟨S100000x64x1x1, .f32⟩
  | 4 => ⟨S64x128, .f32⟩
  | 5 => ⟨S128, .f32⟩
  | 6 => ⟨S128x100000, .f32⟩
  | 7 => ⟨S100000, .f32⟩
  | 8 => ⟨S_, .i32⟩
  | 9 => ⟨S64, .i32⟩
  | 10 => ⟨S64x64x1x1, .f32⟩
  | 11 => ⟨S_, .i32⟩
  | 12 => ⟨S100000x64x1x1, .f32⟩
  | 13 => ⟨S_, .i32⟩
  | 14 => ⟨S_, .i1⟩
  | 15 => ⟨S1, .i32⟩
  | 16 => ⟨S_, .i32⟩
  | 17 => ⟨S_, .i32⟩
  | 18 => ⟨S_, .i32⟩
  | 19 => ⟨S_, .i32⟩
  | 20 => ⟨S1x64x1x1, .f32⟩
  | 21 => ⟨S64x1x1, .f32⟩
  | 22 => ⟨S_, .f32⟩
  | 23 => ⟨S_, .f32⟩
  | 24 => ⟨S_, .f32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S1x64x1x1, .f32⟩
  | 55 => ⟨S64x1x1, .f32⟩
  | 56 => ⟨S64x1x1, .f32⟩
  | 57 => ⟨S64x1x1, .f32⟩
  | 58 => ⟨S_, .f32⟩
  | 59 => ⟨S_, .f32⟩
  | 60 => ⟨S64x1x1, .f32⟩
  | 61 => ⟨S64x1x1, .f32⟩
  | 62 => ⟨S64x1x1, .f32⟩
  | 63 => ⟨S_, .i32⟩
  | 64 => ⟨S_, .i1⟩
  | 65 => ⟨S_, .i32⟩
  | 66 => ⟨S_, .i32⟩
  | 67 => ⟨S_, .i32⟩
  | 68 => ⟨S1, .i32⟩
  | 69 => ⟨S100000x64x1x1, .f32⟩
  | 70 => ⟨S_, .i32⟩
  | 71 => ⟨S_, .i32⟩
  | 72 => ⟨S100000x64, .f32⟩
  | 73 => ⟨S64x128, .f32⟩
  | 74 => ⟨S1x128, .f32⟩
  | 75 => ⟨S64x128, .f32⟩
  | 76 => ⟨S64x128, .f32⟩
  | 77 => ⟨S_, .f32⟩
  | 78 => ⟨S64x128, .f32⟩
  | 79 => ⟨S64x128, .f32⟩
  | 80 => ⟨S64x100000, .f32⟩
  | 81 => ⟨S1x100000, .f32⟩
  | 82 => ⟨S64x100000, .f32⟩
  | 83 => ⟨S64x100000, .f32⟩
  | 84 => ⟨S_, .f32⟩
  | 85 => ⟨S64, .f32⟩
  | 86 => ⟨S_, .f32⟩
  | 87 => ⟨S64, .f32⟩
  | 88 => ⟨S64, .f32⟩
  | 89 => ⟨S64x1, .f32⟩
  | 90 => ⟨S64x100000, .f32⟩
  | 91 => ⟨S64x100000, .f32⟩
  | 92 => ⟨S64x100000, .f32⟩
  | 93 => ⟨S_, .f32⟩
  | 94 => ⟨S64, .f32⟩
  | 95 => ⟨S64x1, .f32⟩
  | 96 => ⟨S64x100000, .f32⟩
  | 97 => ⟨S64x100000, .f32⟩
  | 98 => ⟨S64x64, .f32⟩
  | 99 => ⟨S64x64x1x1, .f32⟩
  | 100 => ⟨S_, .f32⟩
  | 101 => ⟨S64, .f32⟩
  | 102 => ⟨S64x1, .f32⟩
  | 103 => ⟨S64x100000, .f32⟩
  | 104 => ⟨S64x100000, .f32⟩
  | 105 => ⟨S64x100000, .f32⟩
  | 106 => ⟨S64x100000, .f32⟩
  | 107 => ⟨S64x100000, .f32⟩
  | 108 => ⟨S_, .f32⟩
  | 109 => ⟨S64, .f32⟩
  | 110 => ⟨S64x1, .f32⟩
  | 111 => ⟨S64x1, .f32⟩
  | 112 => ⟨S64x100000, .f32⟩
  | 113 => ⟨S64x100000, .f32⟩
  | 114 => ⟨S64x1, .i32⟩
  | 115 => ⟨S100000, .i32⟩
  | 116 => ⟨S1x100000, .i32⟩
  | 117 => ⟨S64x100000, .i32⟩
  | 118 => ⟨S64x100000, .i32⟩
  | 119 => ⟨S64x100000, .i1⟩
  | 120 => ⟨S_, .f32⟩
  | 121 => ⟨S_, .f32⟩
  | 122 => ⟨S64x100000, .f32⟩
  | 123 => ⟨S64x100000, .f32⟩
  | 124 => ⟨S_, .f32⟩
  | 125 => ⟨S64, .f32⟩
  | 126 => ⟨S_, .f32⟩
  | 127 => ⟨S_, .f32⟩
  | _ => ⟨S64x64, .f32⟩

abbrev hbmTy0_1 (i : Nat) : BufTy := match i % 128 with
  | 0 => ⟨S_, .f32⟩
  | 1 => ⟨S_, .f32⟩
  | 2 => ⟨S_, .f32⟩
  | 3 => ⟨S64x64x1x1, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_while0c_c_11 : Ref sig .tc := ⟨.hbm, 13, rfl⟩
abbrev main_while0c_v48 : Ref sig .tc := ⟨.hbm, 14, rfl⟩
abbrev main_while0b_call0_v0 : Ref sig .tc := ⟨.hbm, 15, rfl⟩
abbrev main_while0b_v48 : Ref sig .tc := ⟨.hbm, 16, rfl⟩
abbrev main_while0b_call1_c : Ref sig .tc := ⟨.hbm, 17, rfl⟩
abbrev main_while0b_call1_c_0 : Ref sig .tc := ⟨.hbm, 18, rfl⟩
abbrev main_while0b_call1_c_1 : Ref sig .tc := ⟨.hbm, 19, rfl⟩
abbrev main_while0b_call1_v0 : Ref sig .tc := ⟨.hbm, 20, rfl⟩
abbrev main_while0b_v49 : Ref sig .tc := ⟨.hbm, 21, rfl⟩
abbrev main_while0b_cst_11 : Ref sig .tc := ⟨.hbm, 22, rfl⟩
abbrev main_while0b_cst_12 : Ref sig .tc := ⟨.hbm, 23, rfl⟩
abbrev main_while0b_v50 : Ref sig .tc := ⟨.hbm, 24, rfl⟩
abbrev main_while0b_c_13 : Ref sig .tc := ⟨.hbm, 25, rfl⟩
abbrev main_while0b_v51 : Ref sig .tc := ⟨.hbm, 26, rfl⟩
abbrev main_while0b_c_14 : Ref sig .tc := ⟨.hbm, 27, rfl⟩
abbrev main_while0b_v52 : Ref sig .tc := ⟨.hbm, 28, rfl⟩
abbrev main_while0b_v53 : Ref sig .tc := ⟨.hbm, 29, rfl⟩
abbrev main_while0b_c_15 : Ref sig .tc := ⟨.hbm, 30, rfl⟩
abbrev main_while0b_c_16 : Ref sig .tc := ⟨.hbm, 31, rfl⟩
abbrev main_while0b_v54 : Ref sig .tc := ⟨.hbm, 32, rfl⟩
abbrev main_while0b_c_17 : Ref sig .tc := ⟨.hbm, 33, rfl⟩
abbrev main_while0b_c_18 : Ref sig .tc := ⟨.hbm, 34, rfl⟩
abbrev main_while0b_v55 : Ref sig .tc := ⟨.hbm, 35, rfl⟩
abbrev main_while0b_c_19 : Ref sig .tc := ⟨.hbm, 36, rfl⟩
abbrev main_while0b_v56 : Ref sig .tc := ⟨.hbm, 37, rfl⟩
abbrev main_while0b_c_20 : Ref sig .tc := ⟨.hbm, 38, rfl⟩
abbrev main_while0b_c_21 : Ref sig .tc := ⟨.hbm, 39, rfl⟩
abbrev main_while0b_v57 : Ref sig .tc := ⟨.hbm, 40, rfl⟩
abbrev main_while0b_c_22 : Ref sig .tc := ⟨.hbm, 41, rfl⟩
abbrev main_while0b_c_23 : Ref sig .tc := ⟨.hbm, 42, rfl⟩
abbrev main_while0b_v58 : Ref sig .tc := ⟨.hbm, 43, rfl⟩
abbrev main_while0b_c_24 : Ref sig .tc := ⟨.hbm, 44, rfl⟩
abbrev main_while0b_v59 : Ref sig .tc := ⟨.hbm, 45, rfl⟩
abbrev main_while0b_c_25 : Ref sig .tc := ⟨.hbm, 46, rfl⟩
abbrev main_while0b_c_26 : Ref sig .tc := ⟨.hbm, 47, rfl⟩
abbrev main_while0b_v60 : Ref sig .tc := ⟨.hbm, 48, rfl⟩
abbrev main_while0b_c_27 : Ref sig .tc := ⟨.hbm, 49, rfl⟩
abbrev main_while0b_c_28 : Ref sig .tc := ⟨.hbm, 50, rfl⟩
abbrev main_while0b_v61 : Ref sig .tc := ⟨.hbm, 51, rfl⟩
abbrev main_while0b_c_29 : Ref sig .tc := ⟨.hbm, 52, rfl⟩
abbrev main_while0b_v62 : Ref sig .tc := ⟨.hbm, 53, rfl⟩
abbrev main_while0b_v63 : Ref sig .tc := ⟨.hbm, 54, rfl⟩
abbrev main_while0b_v64 : Ref sig .tc := ⟨.hbm, 55, rfl⟩
abbrev main_while0b_v65 : Ref sig .tc := ⟨.hbm, 56, rfl⟩
abbrev main_while0b_v66 : Ref sig .tc := ⟨.hbm, 57, rfl⟩
abbrev main_while0b_cst_30 : Ref sig .tc := ⟨.hbm, 58, rfl⟩
abbrev main_while0b_v67 : Ref sig .tc := ⟨.hbm, 59, rfl⟩
abbrev main_while0b_v68 : Ref sig .tc := ⟨.hbm, 60, rfl⟩
abbrev main_while0b_v69 : Ref sig .tc := ⟨.hbm, 61, rfl⟩
abbrev main_while0b_v70 : Ref sig .tc := ⟨.hbm, 62, rfl⟩
abbrev main_while0b_c_31 : Ref sig .tc := ⟨.hbm, 63, rfl⟩
abbrev main_while0b_v71 : Ref sig .tc := ⟨.hbm, 64, rfl⟩
abbrev main_while0b_c_32 : Ref sig .tc := ⟨.hbm, 65, rfl⟩
abbrev main_while0b_v72 : Ref sig .tc := ⟨.hbm, 66, rfl⟩
abbrev main_while0b_v73 : Ref sig .tc := ⟨.hbm, 67, rfl⟩
abbrev main_while0b_v74 : Ref sig .tc := ⟨.hbm, 68, rfl⟩
abbrev main_while0b_v75 : Ref sig .tc := ⟨.hbm, 69, rfl⟩
abbrev main_while0b_c_33 : Ref sig .tc := ⟨.hbm, 70, rfl⟩
abbrev main_while0b_v76 : Ref sig .tc := ⟨.hbm, 71, rfl⟩
abbrev main_v1 : Ref sig .tc := ⟨.hbm, 72, rfl⟩
abbrev main_v2 : Ref sig .tc := ⟨.hbm, 73, rfl⟩
abbrev main_v3 : Ref sig .tc := ⟨.hbm, 74, rfl⟩
abbrev main_v4 : Ref sig .tc := ⟨.hbm, 75, rfl⟩
abbrev main_v5 : Ref sig .tc := ⟨.hbm, 76, rfl⟩
abbrev main_call2_cst : Ref sig .tc := ⟨.hbm, 77, rfl⟩
abbrev main_call2_v0 : Ref sig .tc := ⟨.hbm, 78, rfl⟩
abbrev main_v6 : Ref sig .tc := ⟨.hbm, 79, rfl⟩
abbrev main_v7 : Ref sig .tc := ⟨.hbm, 80, rfl⟩
abbrev main_v8 : Ref sig .tc := ⟨.hbm, 81, rfl⟩
abbrev main_v9 : Ref sig .tc := ⟨.hbm, 82, rfl⟩
abbrev main_v10 : Ref sig .tc := ⟨.hbm, 83, rfl⟩
abbrev main_cst : Ref sig .tc := ⟨.hbm, 84, rfl⟩
abbrev main_v11 : Ref sig .tc := ⟨.hbm, 85, rfl⟩
abbrev main_cst_0 : Ref sig .tc := ⟨.hbm, 86, rfl⟩
abbrev main_v12 : Ref sig .tc := ⟨.hbm, 87, rfl⟩
abbrev main_v13 : Ref sig .tc := ⟨.hbm, 88, rfl⟩
abbrev main_v14 : Ref sig .tc := ⟨.hbm, 89, rfl⟩
abbrev main_v15 : Ref sig .tc := ⟨.hbm, 90, rfl⟩
abbrev main_v16 : Ref sig .tc := ⟨.hbm, 91, rfl⟩
abbrev main_v17 : Ref sig .tc := ⟨.hbm, 92, rfl⟩
abbrev main_cst_1 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_cst_2 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_cst_3 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_v34 : Ref sig .tc := ⟨.hbm, 112, rfl⟩
abbrev main_v35 : Ref sig .tc := ⟨.hbm, 113, rfl⟩
abbrev main_v36 : Ref sig .tc := ⟨.hbm, 114, rfl⟩
abbrev main_v37 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_cst_4 : Ref sig .tc := ⟨.hbm, 120, rfl⟩
abbrev main_call3_v0 : Ref sig .tc := ⟨.hbm, 121, rfl⟩
abbrev main_call3_v1 : Ref sig .tc := ⟨.hbm, 122, rfl⟩
abbrev main_v42 : Ref sig .tc := ⟨.hbm, 123, rfl⟩
abbrev main_cst_5 : Ref sig .tc := ⟨.hbm, 124, rfl⟩
abbrev main_v43 : Ref sig .tc := ⟨.hbm, 125, rfl⟩
abbrev main_cst_6 : Ref sig .tc := ⟨.hbm, 126, rfl⟩
abbrev main_v44 : Ref sig .tc := ⟨.hbm, 127, rfl⟩
abbrev main_cst_7 : Ref sig .tc := ⟨.hbm, 128, rfl⟩
abbrev main_v45 : Ref sig .tc := ⟨.hbm, 129, rfl⟩
abbrev main_v46 : Ref sig .tc := ⟨.hbm, 130, rfl⟩
abbrev main_v47 : Ref sig .tc := ⟨.hbm, 131, rfl⟩

abbrev nD : Nat := 1
abbrev τ : Topo := Topo.v7x

variable {F : FTy → Type} [FloatOps F]

abbrev main_while0_count : Scf.Loop 32 := ⟨0#32, 64#32, 1#32⟩
-- ==== Gather.lean ====
abbrev S64 : Shape := ⟨1, ![64]⟩
abbrev S100000x64x1x1 : Shape := ⟨4, ![100000, 64, 1, 1]⟩
abbrev S100000x64 : Shape := ⟨2, ![100000, 64]⟩
abbrev S4x16x64 : Shape := ⟨3, ![4, 16, 64]⟩
abbrev S8x64 : Shape := ⟨2, ![8, 64]⟩
abbrev S1 : Shape := ⟨1, ![1]⟩
abbrev S1x16x64 : Shape := ⟨3, ![1, 16, 64]⟩
abbrev S1x64 : Shape := ⟨2, ![1, 64]⟩
abbrev S1x1x64 : Shape := ⟨3, ![1, 1, 64]⟩
abbrev S64x64 : Shape := ⟨2, ![64, 64]⟩

abbrev nBuf : Space → Nat
  | .hbm => 4
  | .vmem => 34
  | .smem => 1
  | _ => 0

abbrev bufTy : (tb : Table) → Fin (tcTables nBuf tb) → BufTy
  | .hbm, ⟨0, _⟩ => ⟨S100000x64x1x1, .f32⟩
  | .hbm, ⟨1, _⟩ => ⟨S100000x64, .f32⟩
  | .hbm, ⟨2, _⟩ => ⟨S4x16x64, .f32⟩
  | .hbm, ⟨3, _⟩ => ⟨S64x64, .f32⟩
  | .local _ .vmem, ⟨0, _⟩ => ⟨S8x64, .f32⟩
  | .local _ .vmem, ⟨1, _⟩ => ⟨S8x64, .f32⟩
  | .local _ .vmem, ⟨2, _⟩ => ⟨S8x64, .f32⟩
  | .local _ .vmem, ⟨3, _⟩ => ⟨S8x64, .f32⟩
  | .local _ .vmem, ⟨4, _⟩ => ⟨S8x64, .f32⟩
  | .local _ .vmem, ⟨5, _⟩ => ⟨S8x64, .f32⟩
  | .local _ .vmem, ⟨6, _⟩ => ⟨S8x64, .f32⟩
  | .local _ .vmem, ⟨7, _⟩ => ⟨S8x64, .f32⟩
  | .local _ .vmem, ⟨8, _⟩ => ⟨S8x64, .f32⟩
  | .local _ .vmem, ⟨9, _⟩ => ⟨S8x64, .f32⟩
  | .local _ .vmem, ⟨10, _⟩ => ⟨S8x64, .f32⟩
  | .local _ .vmem, ⟨11, _⟩ => ⟨S8x64, .f32⟩
  | .local _ .vmem, ⟨12, _⟩ => ⟨S8x64, .f32⟩
  | .local _ .vmem, ⟨13, _⟩ => ⟨S8x64, .f32⟩
  | .local _ .vmem, ⟨14, _⟩ => ⟨S8x64, .f32⟩
  | .local _ .vmem, ⟨15, _⟩ => ⟨S8x64, .f32⟩
  | .local _ .vmem, ⟨16, _⟩ => ⟨S8x64, .f32⟩
  | .local _ .vmem, ⟨17, _⟩ => ⟨S8x64, .f32⟩
  | .local _ .vmem, ⟨18, _⟩ => ⟨S8x64, .f32⟩
  | .local _ .vmem, ⟨19, _⟩ => ⟨S8x64, .f32⟩
  | .local _ .vmem, ⟨20, _⟩ => ⟨S8x64, .f32⟩
  | .local _ .vmem, ⟨21, _⟩ => ⟨S8x64, .f32⟩
  | .local _ .vmem, ⟨22, _⟩ => ⟨S8x64, .f32⟩
  | .local _ .vmem, ⟨23, _⟩ => ⟨S8x64, .f32⟩
  | .local _ .vmem, ⟨24, _⟩ => ⟨S8x64, .f32⟩
  | .local _ .vmem, ⟨25, _⟩ => ⟨S8x64, .f32⟩
  | .local _ .vmem, ⟨26, _⟩ => ⟨S8x64, .f32⟩
  | .local _ .vmem, ⟨27, _⟩ => ⟨S8x64, .f32⟩
  | .local _ .vmem, ⟨28, _⟩ => ⟨S8x64, .f32⟩
  | .local _ .vmem, ⟨29, _⟩ => ⟨S8x64, .f32⟩
  | .local _ .vmem, ⟨30, _⟩ => ⟨S8x64, .f32⟩
  | .local _ .vmem, ⟨31, _⟩ => ⟨S8x64, .f32⟩
  | .local _ .vmem, ⟨32, _⟩ => ⟨S1x16x64, .f32⟩
  | .local _ .vmem, ⟨33, _⟩ => ⟨S1x16x64, .f32⟩
  | .local _ .smem, ⟨0, _⟩ => ⟨S64, .i32⟩
  | _, _ => ⟨S100000x64x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg1 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c16_i32 : BitVec 32 := 16#32
  let v0 : BitVec 32 := Scalar.muli arg0 c16_i32
  let v1 : BitVec 32 := Scalar.addi v0 c0_i32
  let v2 : Index := Scalar.indexCast v1
  ![v2.toNat]
def k0_off2 (v3 : BitVec 32) : Fin 2 → Nat :=
  let c8_i32 : BitVec 32 := 8#32
  let c0_i32_0 : BitVec 32 := 0#32
  let v4 : BitVec 1 := Scalar.cmpi .eq c8_i32 c0_i32_0
  let c1_i32 : BitVec 32 := 1#32
  let v5 : BitVec 32 := Scalar.select v4 c1_i32 c8_i32
  let v6 : BitVec 32 := Scalar.remsi v3 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  let v14 : Index := Scalar.indexCast v13
  let c0 : Index := 0#32
  ![v14.toNat, 0]

def k0_chk1 (v3 : BitVec 32) : Prop :=
  (∀ a, (k0_off2 v3) a + S1x64.size a ≤ S8x64.size a)
theorem k0_off2_inb : ∀ (v3 : BitVec 32) (k0_hw1 : k0_chk1 v3), ∀ a, (k0_off2 v3) a + S1x64.size a ≤ S8x64.size a := fun v3 k0_hw1 => k0_hw1

def k0_off3 (i : grid0.Coords) : Fin 1 → Nat :=
  let arg0 : BitVec 32 := BitVec.ofNat 32 (i 0).val
  let c16_i32_7 : BitVec 32 := 16#32
  let v21 : BitVec 32 := Scalar.muli arg0 c16_i32_7
  let c1_i32_8 : BitVec 32 := 1#32
  let v22 : BitVec 32 := Scalar.addi v21 c1_i32_8
  let v23 : Index := Scalar.indexCast v22
  ![v23.toNat]
def k0_off4 (v24 : BitVec 32) : Fin 2 → Nat :=
  let c8_i32_9 : BitVec 32 := 8#32
  let c0_i32_10 : BitVec 32 := 0#32
  let v25 : BitVec 1 := Scalar.cmpi .eq c8_i32_9 c0_i32_10
  let c1_i32_11 : BitVec 32 := 1#32
  let v26 : BitVec 32 := Scalar.select v25 c1_i32_11 c8_i32_9
  let v27 : BitVec 32 := Scalar.remsi v24 v26
  let c0_i32_13 : BitVec 32 := 0#32
  let v29 : BitVec 1 := Scalar.cmpi .slt v27 c0_i32_13
  let c0_i32_14 : BitVec 32 := 0#32
  let v30 : BitVec 1 := Scalar.cmpi .slt v26 c0_i32_14
  let v31 : BitVec 1 := Scalar.xori v29 v30
  let c0_i32_12 : BitVec 32 := 0#32
  let v28 : BitVec 1 := Scalar.cmpi .ne v27 c0_i32_12
  let v32 : BitVec 1 := Scalar.andi v31 v28
  let v33 : BitVec 32 := Scalar.addi v27 v26
  let v34 : BitVec 32 := Scalar.select v32 v33 v27
  let v35 : Index := Scalar.indexCast v34
  let c0_15 : Index := 0#32
  ![v35.toNat, 0]

def k0_chk2 (v24 : BitVec 32) : Prop :=
  (∀ a, (k0_off4 v24) a + S1x64.size a ≤ S8x64.size a)
theorem k0_off4_inb : ∀ (v24 : BitVec 32) (k0_hw2 : k0_chk2 v24), ∀ a, (k0_off4 v24) a + S1x64.size a ≤ S8x64.size a := fun v24 k0_hw2 => k0_hw2

def k0_off5 (i : grid0.Coords) : Fin 1 → Nat :=
  let arg0 : BitVec 32 := BitVec.ofNat 32 (i 0).val
  let c16_i32_18 : BitVec 32 := 16#32
  let v42 : BitVec 32 := Scalar.muli arg0 c16_i32_18
  let c2_i32 : BitVec 32 := 2#32
  let v43 : BitVec 32 := Scalar.addi v42 c2_i32
  let v44 : Index := Scalar.indexCast v43
  ![v44.toNat]
def k0_off6 (v45 : BitVec 32) : Fin 2 → Nat :=
  let c8_i32_19 : BitVec 32 := 8#32
  let c0_i32_20 : BitVec 32 := 0#32
  let v46 : BitVec 1 := Scalar.cmpi .eq c8_i32_19 c0_i32_20
  let c1_i32_21 : BitVec 32 := 1#32
  let v47 : BitVec 32 := Scalar.select v46 c1_i32_21 c8_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let v56 : Index := Scalar.indexCast v55
  let c0_25 : Index := 0#32
  ![v56.toNat, 0]

def k0_chk3 (v45 : BitVec 32) : Prop :=
  (∀ a, (k0_off6 v45) a + S1x64.size a ≤ S8x64.size a)
theorem k0_off6_inb : ∀ (v45 : BitVec 32) (k0_hw3 : k0_chk3 v45), ∀ a, (k0_off6 v45) a + S1x64.size a ≤ S8x64.size a := fun v45 k0_hw3 => k0_hw3

def k0_off7 (i : grid0.Coords) : Fin 1 → Nat :=
  let arg0 : BitVec 32 := BitVec.ofNat 32 (i 0).val
  let c16_i32_28 : BitVec 32 := 16#32
  let v63 : BitVec 32 := Scalar.muli arg0 c16_i32_28
  let c3_i32 : BitVec 32 := 3#32
  let v64 : BitVec 32 := Scalar.addi v63 c3_i32
  let v65 : Index := Scalar.indexCast v64
  ![v65.toNat]
def k0_off8 (v66 : BitVec 32) : Fin 2 → Nat :=
  let c8_i32_29 : BitVec 32 := 8#32
  let c0_i32_30 : BitVec 32 := 0#32
  let v67 : BitVec 1 := Scalar.cmpi .eq c8_i32_29 c0_i32_30
  let c1_i32_31 : BitVec 32 := 1#32
  let v68 : BitVec 32 := Scalar.select v67 c1_i32_31 c8_i32_29
  let v69 : BitVec 32 := Scalar.remsi v66 v68
  let c0_i32_33 : BitVec 32 := 0#32
  let v71 : BitVec 1 := Scalar.cmpi .slt v69 c0_i32_33
  let c0_i32_34 : BitVec 32 := 0#32
  let v72 : BitVec 1 := Scalar.cmpi .slt v68 c0_i32_34
  let v73 : BitVec 1 := Scalar.xori v71 v72
  let c0_i32_32 : BitVec 32 := 0#32
  let v70 : BitVec 1 := Scalar.cmpi .ne v69 c0_i32_32
  let v74 : BitVec 1 := Scalar.andi v73 v70
  let v75 : BitVec 32 := Scalar.addi v69 v68
  let v76 : BitVec 32 := Scalar.select v74 v75 v69
  let v77 : Index := Scalar.indexCast v76
  let c0_35 : Index := 0#32
  ![v77.toNat, 0]

def k0_chk4 (v66 : BitVec 32) : Prop :=
  (∀ a, (k0_off8 v66) a + S1x64.size a ≤ S8x64.size a)
theorem k0_off8_inb : ∀ (v66 : BitVec 32) (k0_hw4 : k0_chk4 v66), ∀ a, (k0_off8 v66) a + S1x64.size a ≤ S8x64.size a := fun v66 k0_hw4 => k0_hw4

def k0_off9 (i : grid0.Coords) : Fin 1 → Nat :=
  let arg0 : BitVec 32 := BitVec.ofNat 32 (i 0).val
  let c16_i32_38 : BitVec 32 := 16#32
  let v84 : BitVec 32 := Scalar.muli arg0 c16_i32_38
  let c4_i32 : BitVec 32 := 4#32
  let v85 : BitVec 32 := Scalar.addi v84 c4_i32
  let v86 : Index := Scalar.indexCast v85
  ![v86.toNat]
def k0_off10 (v87 : BitVec 32) : Fin 2 → Nat :=
  let c8_i32_39 : BitVec 32 := 8#32
  let c0_i32_40 : BitVec 32 := 0#32
  let v88 : BitVec 1 := Scalar.cmpi .eq c8_i32_39 c0_i32_40
  let c1_i32_41 : BitVec 32 := 1#32
  let v89 : BitVec 32 := Scalar.select v88 c1_i32_41 c8_i32_39
  let v90 : BitVec 32 := Scalar.remsi v87 v89
  let c0_i32_43 : BitVec 32 := 0#32
  let v92 : BitVec 1 := Scalar.cmpi .slt v90 c0_i32_43
  let c0_i32_44 : BitVec 32 := 0#32
  let v93 : BitVec 1 := Scalar.cmpi .slt v89 c0_i32_44
  let v94 : BitVec 1 := Scalar.xori v92 v93
  let c0_i32_42 : BitVec 32 := 0#32
  let v91 : BitVec 1 := Scalar.cmpi .ne v90 c0_i32_42
  let v95 : BitVec 1 := Scalar.andi v94 v91
  let v96 : BitVec 32 := Scalar.addi v90 v89
  let v97 : BitVec 32 := Scalar.select v95 v96 v90
  let v98 : Index := Scalar.indexCast v97
  let c0_45 : Index := 0#32
  ![v98.toNat, 0]

def k0_chk5 (v87 : BitVec 32) : Prop :=
  (∀ a, (k0_off10 v87) a + S1x64.size a ≤ S8x64.size a)
theorem k0_off10_inb : ∀ (v87 : BitVec 32) (k0_hw5 : k0_chk5 v87), ∀ a, (k0_off10 v87) a + S1x64.size a ≤ S8x64.size a := fun v87 k0_hw5 => k0_hw5

def k0_off11 (i : grid0.Coords) : Fin 1 → Nat :=
  let arg0 : BitVec 32 := BitVec.ofNat 32 (i 0).val
  let c16_i32_48 : BitVec 32 := 16#32
  let v105 : BitVec 32 := Scalar.muli arg0 c16_i32_48
  let c5_i32 : BitVec 32 := 5#32
  let v106 : BitVec 32 := Scalar.addi v105 c5_i32
  let v107 : Index := Scalar.indexCast v106
  ![v107.toNat]
def k0_off12 (v108 : BitVec 32) : Fin 2 → Nat :=
  let c8_i32_49 : BitVec 32 := 8#32
  let c0_i32_50 : BitVec 32 := 0#32
  let v109 : BitVec 1 := Scalar.cmpi .eq c8_i32_49 c0_i32_50
  let c1_i32_51 : BitVec 32 := 1#32
  let v110 : BitVec 32 := Scalar.select v109 c1_i32_51 c8_i32_49
  let v111 : BitVec 32 := Scalar.remsi v108 v110
  let c0_i32_53 : BitVec 32 := 0#32
  let v113 : BitVec 1 := Scalar.cmpi .slt v111 c0_i32_53
  let c0_i32_54 : BitVec 32 := 0#32
  let v114 : BitVec 1 := Scalar.cmpi .slt v110 c0_i32_54
  let v115 : BitVec 1 := Scalar.xori v113 v114
  let c0_i32_52 : BitVec 32 := 0#32
  let v112 : BitVec 1 := Scalar.cmpi .ne v111 c0_i32_52
  let v116 : BitVec 1 := Scalar.andi v115 v112
  let v117 : BitVec 32 := Scalar.addi v111 v110
  let v118 : BitVec 32 := Scalar.select v116 v117 v111
  let v119 : Index := Scalar.indexCast v118
  let c0_55 : Index := 0#32
  ![v119.toNat, 0]

def k0_chk6 (v108 : BitVec 32) : Prop :=
  (∀ a, (k0_off12 v108) a + S1x64.size a ≤ S8x64.size a)
theorem k0_off12_inb : ∀ (v108 : BitVec 32) (k0_hw6 : k0_chk6 v108), ∀ a, (k0_off12 v108) a + S1x64.size a ≤ S8x64.size a := fun v108 k0_hw6 => k0_hw6

def k0_off13 (i : grid0.Coords) : Fin 1 → Nat :=
  let arg0 : BitVec 32 := BitVec.ofNat 32 (i 0).val
  let c16_i32_58 : BitVec 32 := 16#32
  let v126 : BitVec 32 := Scalar.muli arg0 c16_i32_58
  let c6_i32 : BitVec 32 := 6#32
  let v127 : BitVec 32 := Scalar.addi v126 c6_i32
  let v128 : Index := Scalar.indexCast v127
  ![v128.toNat]
def k0_off14 (v129 : BitVec 32) : Fin 2 → Nat :=
  let c8_i32_59 : BitVec 32 := 8#32
  let c0_i32_60 : BitVec 32 := 0#32
  let v130 : BitVec 1 := Scalar.cmpi .eq c8_i32_59 c0_i32_60
  let c1_i32_61 : BitVec 32 := 1#32
  let v131 : BitVec 32 := Scalar.select v130 c1_i32_61 c8_i32_59
  let v132 : BitVec 32 := Scalar.remsi v129 v131
  let c0_i32_63 : BitVec 32 := 0#32
  let v134 : BitVec 1 := Scalar.cmpi .slt v132 c0_i32_63
  let c0_i32_64 : BitVec 32 := 0#32
  let v135 : BitVec 1 := Scalar.cmpi .slt v131 c0_i32_64
  let v136 : BitVec 1 := Scalar.xori v134 v135
  let c0_i32_62 : BitVec 32 := 0#32
  let v133 : BitVec 1 := Scalar.cmpi .ne v132 c0_i32_62
  let v137 : BitVec 1 := Scalar.andi v136 v133
  let v138 : BitVec 32 := Scalar.addi v132 v131
  let v139 : BitVec 32 := Scalar.select v137 v138 v132
  let v140 : Index := Scalar.indexCast v139
  let c0_65 : Index := 0#32
  ![v140.toNat, 0]

def k0_chk7 (v129 : BitVec 32) : Prop :=
  (∀ a, (k0_off14 v129) a + S1x64.size a ≤ S8x64.size a)
theorem k0_off14_inb : ∀ (v129 : BitVec 32) (k0_hw7 : k0_chk7 v129), ∀ a, (k0_off14 v129) a + S1x64.size a ≤ S8x64.size a := fun v129 k0_hw7 => k0_hw7

def k0_off15 (i : grid0.Coords) : Fin 1 → Nat :=
  let arg0 : BitVec 32 := BitVec.ofNat 32 (i 0).val
  let c16_i32_68 : BitVec 32 := 16#32
  let v147 : BitVec 32 := Scalar.muli arg0 c16_i32_68
  let c7_i32 : BitVec 32 := 7#32
  let v148 : BitVec 32 := Scalar.addi v147 c7_i32
  let v149 : Index := Scalar.indexCast v148
  ![v149.toNat]
def k0_off16 (v150 : BitVec 32) : Fin 2 → Nat :=
  let c8_i32_69 : BitVec 32 := 8#32
  let c0_i32_70 : BitVec 32 := 0#32
  let v151 : BitVec 1 := Scalar.cmpi .eq c8_i32_69 c0_i32_70
  let c1_i32_71 : BitVec 32 := 1#32
  let v152 : BitVec 32 := Scalar.select v151 c1_i32_71 c8_i32_69
  let v153 : BitVec 32 := Scalar.remsi v150 v152
  let c0_i32_73 : BitVec 32 := 0#32
  let v155 : BitVec 1 := Scalar.cmpi .slt v153 c0_i32_73
  let c0_i32_74 : BitVec 32 := 0#32
  let v156 : BitVec 1 := Scalar.cmpi .slt v152 c0_i32_74
  let v157 : BitVec 1 := Scalar.xori v155 v156
  let c0_i32_72 : BitVec 32 := 0#32
  let v154 : BitVec 1 := Scalar.cmpi .ne v153 c0_i32_72
  let v158 : BitVec 1 := Scalar.andi v157 v154
  let v159 : BitVec 32 := Scalar.addi v153 v152
  let v160 : BitVec 32 := Scalar.select v158 v159 v153
  let v161 : Index := Scalar.indexCast v160
  let c0_75 : Index := 0#32
  ![v161.toNat, 0]

def k0_chk8 (v150 : BitVec 32) : Prop :=
  (∀ a, (k0_off16 v150) a + S1x64.size a ≤ S8x64.size a)
theorem k0_off16_inb : ∀ (v150 : BitVec 32) (k0_hw8 : k0_chk8 v150), ∀ a, (k0_off16 v150) a + S1x64.size a ≤ S8x64.size a := fun v150 k0_hw8 => k0_hw8

def k0_off17 (i : grid0.Coords) : Fin 1 → Nat :=
  let arg0 : BitVec 32 := BitVec.ofNat 32 (i 0).val
  let c16_i32_78 : BitVec 32 := 16#32
  let v168 : BitVec 32 := Scalar.muli arg0 c16_i32_78
  let c8_i32_79 : BitVec 32 := 8#32
  let v169 : BitVec 32 := Scalar.addi v168 c8_i32_79
  let v170 : Index := Scalar.indexCast v169
  ![v170.toNat]
def k0_off18 (v171 : BitVec 32) : Fin 2 → Nat :=
  let c8_i32_80 : BitVec 32 := 8#32
  let c0_i32_81 : BitVec 32 := 0#32
  let v172 : BitVec 1 := Scalar.cmpi .eq c8_i32_80 c0_i32_81
  let c1_i32_82 : BitVec 32 := 1#32
  let v173 : BitVec 32 := Scalar.select v172 c1_i32_82 c8_i32_80
  let v174 : BitVec 32 := Scalar.remsi v171 v173
  let c0_i32_84 : BitVec 32 := 0#32
  let v176 : BitVec 1 := Scalar.cmpi .slt v174 c0_i32_84
  let c0_i32_85 : BitVec 32 := 0#32
  let v177 : BitVec 1 := Scalar.cmpi .slt v173 c0_i32_85
  let v178 : BitVec 1 := Scalar.xori v176 v177
  let c0_i32_83 : BitVec 32 := 0#32
  let v175 : BitVec 1 := Scalar.cmpi .ne v174 c0_i32_83
  let v179 : BitVec 1 := Scalar.andi v178 v175
  let v180 : BitVec 32 := Scalar.addi v174 v173
  let v181 : BitVec 32 := Scalar.select v179 v180 v174
  let v182 : Index := Scalar.indexCast v181
  let c0_86 : Index := 0#32
  ![v182.toNat, 0]

def k0_chk9 (v171 : BitVec 32) : Prop :=
  (∀ a, (k0_off18 v171) a + S1x64.size a ≤ S8x64.size a)
theorem k0_off18_inb : ∀ (v171 : BitVec 32) (k0_hw9 : k0_chk9 v171), ∀ a, (k0_off18 v171) a + S1x64.size a ≤ S8x64.size a := fun v171 k0_hw9 => k0_hw9

def k0_off19 (i : grid0.Coords) : Fin 1 → Nat :=
  let arg0 : BitVec 32 := BitVec.ofNat 32 (i 0).val
  let c16_i32_89 : BitVec 32 := 16#32
  let v189 : BitVec 32 := Scalar.muli arg0 c16_i32_89
  let c9_i32 : BitVec 32 := 9#32
  let v190 : BitVec 32 := Scalar.addi v189 c9_i32
  let v191 : Index := Scalar.indexCast v190
  ![v191.toNat]
def k0_off20 (v192 : BitVec 32) : Fin 2 → Nat :=
  let c8_i32_90 : BitVec 32 := 8#32
  let c0_i32_91 : BitVec 32 := 0#32
  let v193 : BitVec 1 := Scalar.cmpi .eq c8_i32_90 c0_i32_91
  let c1_i32_92 : BitVec 32 := 1#32
  let v194 : BitVec 32 := Scalar.select v193 c1_i32_92 c8_i32_90
  let v195 : BitVec 32 := Scalar.remsi v192 v194
  let c0_i32_94 : BitVec 32 := 0#32
  let v197 : BitVec 1 := Scalar.cmpi .slt v195 c0_i32_94
  let c0_i32_95 : BitVec 32 := 0#32
  let v198 : BitVec 1 := Scalar.cmpi .slt v194 c0_i32_95
  let v199 : BitVec 1 := Scalar.xori v197 v198
  let c0_i32_93 : BitVec 32 := 0#32
  let v196 : BitVec 1 := Scalar.cmpi .ne v195 c0_i32_93
  let v200 : BitVec 1 := Scalar.andi v199 v196
  let v201 : BitVec 32 := Scalar.addi v195 v194
  let v202 : BitVec 32 := Scalar.select v200 v201 v195
  let v203 : Index := Scalar.indexCast v202
  let c0_96 : Index := 0#32
  ![v203.toNat, 0]

def k0_chk10 (v192 : BitVec 32) : Prop :=
  (∀ a, (k0_off20 v192) a + S1x64.size a ≤ S8x64.size a)
theorem k0_off20_inb : ∀ (v192 : BitVec 32) (k0_hw10 : k0_chk10 v192), ∀ a, (k0_off20 v192) a + S1x64.size a ≤ S8x64.size a := fun v192 k0_hw10 => k0_hw10

def k0_off21 (i : grid0.Coords) : Fin 1 → Nat :=
  let arg0 : BitVec 32 := BitVec.ofNat 32 (i 0).val
  let c16_i32_99 : BitVec 32 := 16#32
  let v210 : BitVec 32 := Scalar.muli arg0 c16_i32_99
  let c10_i32 : BitVec 32 := 10#32
  let v211 : BitVec 32 := Scalar.addi v210 c10_i32
  let v212 : Index := Scalar.indexCast v211
  ![v212.toNat]
def k0_off22 (v213 : BitVec 32) : Fin 2 → Nat :=
  let c8_i32_100 : BitVec 32 := 8#32
  let c0_i32_101 : BitVec 32 := 0#32
  let v214 : BitVec 1 := Scalar.cmpi .eq c8_i32_100 c0_i32_101
  let c1_i32_102 : BitVec 32 := 1#32
  let v215 : BitVec 32 := Scalar.select v214 c1_i32_102 c8_i32_100
  let v216 : BitVec 32 := Scalar.remsi v213 v215
  let c0_i32_104 : BitVec 32 := 0#32
  let v218 : BitVec 1 := Scalar.cmpi .slt v216 c0_i32_104
  let c0_i32_105 : BitVec 32 := 0#32
  let v219 : BitVec 1 := Scalar.cmpi .slt v215 c0_i32_105
  let v220 : BitVec 1 := Scalar.xori v218 v219
  let c0_i32_103 : BitVec 32 := 0#32
  let v217 : BitVec 1 := Scalar.cmpi .ne v216 c0_i32_103
  let v221 : BitVec 1 := Scalar.andi v220 v217
  let v222 : BitVec 32 := Scalar.addi v216 v215
  let v223 : BitVec 32 := Scalar.select v221 v222 v216
  let v224 : Index := Scalar.indexCast v223
  let c0_106 : Index := 0#32
  ![v224.toNat, 0]

def k0_chk11 (v213 : BitVec 32) : Prop :=
  (∀ a, (k0_off22 v213) a + S1x64.size a ≤ S8x64.size a)
theorem k0_off22_inb : ∀ (v213 : BitVec 32) (k0_hw11 : k0_chk11 v213), ∀ a, (k0_off22 v213) a + S1x64.size a ≤ S8x64.size a := fun v213 k0_hw11 => k0_hw11

def k0_off23 (i : grid0.Coords) : Fin 1 → Nat :=
  let arg0 : BitVec 32 := BitVec.ofNat 32 (i 0).val
  let c16_i32_109 : BitVec 32 := 16#32
  let v231 : BitVec 32 := Scalar.muli arg0 c16_i32_109
  let c11_i32 : BitVec 32 := 11#32
  let v232 : BitVec 32 := Scalar.addi v231 c11_i32
  let v233 : Index := Scalar.indexCast v232
  ![v233.toNat]
def k0_off24 (v234 : BitVec 32) : Fin 2 → Nat :=
  let c8_i32_110 : BitVec 32 := 8#32
  let c0_i32_111 : BitVec 32 := 0#32
  let v235 : BitVec 1 := Scalar.cmpi .eq c8_i32_110 c0_i32_111
  let c1_i32_112 : BitVec 32 := 1#32
  let v236 : BitVec 32 := Scalar.select v235 c1_i32_112 c8_i32_110
  let v237 : BitVec 32 := Scalar.remsi v234 v236
  let c0_i32_114 : BitVec 32 := 0#32
  let v239 : BitVec 1 := Scalar.cmpi .slt v237 c0_i32_114
  let c0_i32_115 : BitVec 32 := 0#32
  let v240 : BitVec 1 := Scalar.cmpi .slt v236 c0_i32_115
  let v241 : BitVec 1 := Scalar.xori v239 v240
  let c0_i32_113 : BitVec 32 := 0#32
  let v238 : BitVec 1 := Scalar.cmpi .ne v237 c0_i32_113
  let v242 : BitVec 1 := Scalar.andi v241 v238
  let v243 : BitVec 32 := Scalar.addi v237 v236
  let v244 : BitVec 32 := Scalar.select v242 v243 v237
  let v245 : Index := Scalar.indexCast v244
  let c0_116 : Index := 0#32
  ![v245.toNat, 0]

def k0_chk12 (v234 : BitVec 32) : Prop :=
  (∀ a, (k0_off24 v234) a + S1x64.size a ≤ S8x64.size a)
theorem k0_off24_inb : ∀ (v234 : BitVec 32) (k0_hw12 : k0_chk12 v234), ∀ a, (k0_off24 v234) a + S1x64.size a ≤ S8x64.size a := fun v234 k0_hw12 => k0_hw12

def k0_off25 (i : grid0.Coords) : Fin 1 → Nat :=
  let arg0 : BitVec 32 := BitVec.ofNat 32 (i 0).val
  let c16_i32_119 : BitVec 32 := 16#32
  let v252 : BitVec 32 := Scalar.muli arg0 c16_i32_119
  let c12_i32 : BitVec 32 := 12#32
  let v253 : BitVec 32 := Scalar.addi v252 c12_i32
  let v254 : Index := Scalar.indexCast v253
  ![v254.toNat]
def k0_off26 (v255 : BitVec 32) : Fin 2 → Nat :=
  let c8_i32_120 : BitVec 32 := 8#32
  let c0_i32_121 : BitVec 32 := 0#32
  let v256 : BitVec 1 := Scalar.cmpi .eq c8_i32_120 c0_i32_121
  let c1_i32_122 : BitVec 32 := 1#32
  let v257 : BitVec 32 := Scalar.select v256 c1_i32_122 c8_i32_120
  let v258 : BitVec 32 := Scalar.remsi v255 v257
  let c0_i32_124 : BitVec 32 := 0#32
  let v260 : BitVec 1 := Scalar.cmpi .slt v258 c0_i32_124
  let c0_i32_125 : BitVec 32 := 0#32
  let v261 : BitVec 1 := Scalar.cmpi .slt v257 c0_i32_125
  let v262 : BitVec 1 := Scalar.xori v260 v261
  let c0_i32_123 : BitVec 32 := 0#32
  let v259 : BitVec 1 := Scalar.cmpi .ne v258 c0_i32_123
  let v263 : BitVec 1 := Scalar.andi v262 v259
  let v264 : BitVec 32 := Scalar.addi v258 v257
  let v265 : BitVec 32 := Scalar.select v263 v264 v258
  let v266 : Index := Scalar.indexCast v265
  let c0_126 : Index := 0#32
  ![v266.toNat, 0]

def k0_chk13 (v255 : BitVec 32) : Prop :=
  (∀ a, (k0_off26 v255) a + S1x64.size a ≤ S8x64.size a)
theorem k0_off26_inb : ∀ (v255 : BitVec 32) (k0_hw13 : k0_chk13 v255), ∀ a, (k0_off26 v255) a + S1x64.size a ≤ S8x64.size a := fun v255 k0_hw13 => k0_hw13

def k0_off27 (i : grid0.Coords) : Fin 1 → Nat :=
  let arg0 : BitVec 32 := BitVec.ofNat 32 (i 0).val
  let c16_i32_129 : BitVec 32 := 16#32
  let v273 : BitVec 32 := Scalar.muli arg0 c16_i32_129
  let c13_i32 : BitVec 32 := 13#32
  let v274 : BitVec 32 := Scalar.addi v273 c13_i32
  let v275 : Index := Scalar.indexCast v274
  ![v275.toNat]
def k0_off28 (v276 : BitVec 32) : Fin 2 → Nat :=
  let c8_i32_130 : BitVec 32 := 8#32
  let c0_i32_131 : BitVec 32 := 0#32
  let v277 : BitVec 1 := Scalar.cmpi .eq c8_i32_130 c0_i32_131
  let c1_i32_132 : BitVec 32 := 1#32
  let v278 : BitVec 32 := Scalar.select v277 c1_i32_132 c8_i32_130
  let v279 : BitVec 32 := Scalar.remsi v276 v278
  let c0_i32_134 : BitVec 32 := 0#32
  let v281 : BitVec 1 := Scalar.cmpi .slt v279 c0_i32_134
  let c0_i32_135 : BitVec 32 := 0#32
  let v282 : BitVec 1 := Scalar.cmpi .slt v278 c0_i32_135
  let v283 : BitVec 1 := Scalar.xori v281 v282
  let c0_i32_133 : BitVec 32 := 0#32
  let v280 : BitVec 1 := Scalar.cmpi .ne v279 c0_i32_133
  let v284 : BitVec 1 := Scalar.andi v283 v280
  let v285 : BitVec 32 := Scalar.addi v279 v278
  let v286 : BitVec 32 := Scalar.select v284 v285 v279
  let v287 : Index := Scalar.indexCast v286
  let c0_136 : Index := 0#32
  ![v287.toNat, 0]

def k0_chk14 (v276 : BitVec 32) : Prop :=
  (∀ a, (k0_off28 v276) a + S1x64.size a ≤ S8x64.size a)
theorem k0_off28_inb : ∀ (v276 : BitVec 32) (k0_hw14 : k0_chk14 v276), ∀ a, (k0_off28 v276) a + S1x64.size a ≤ S8x64.size a := fun v276 k0_hw14 => k0_hw14

def k0_off29 (i : grid0.Coords) : Fin 1 → Nat :=
  let arg0 : BitVec 32 := BitVec.ofNat 32 (i 0).val
  let c16_i32_139 : BitVec 32 := 16#32
  let v294 : BitVec 32 := Scalar.muli arg0 c16_i32_139
  let c14_i32 : BitVec 32 := 14#32
  let v295 : BitVec 32 := Scalar.addi v294 c14_i32
  let v296 : Index := Scalar.indexCast v295
  ![v296.toNat]
def k0_off30 (v297 : BitVec 32) : Fin 2 → Nat :=
  let c8_i32_140 : BitVec 32 := 8#32
  let c0_i32_141 : BitVec 32 := 0#32
  let v298 : BitVec 1 := Scalar.cmpi .eq c8_i32_140 c0_i32_141
  let c1_i32_142 : BitVec 32 := 1#32
  let v299 : BitVec 32 := Scalar.select v298 c1_i32_142 c8_i32_140
  let v300 : BitVec 32 := Scalar.remsi v297 v299
  let c0_i32_144 : BitVec 32 := 0#32
  let v302 : BitVec 1 := Scalar.cmpi .slt v300 c0_i32_144
  let c0_i32_145 : BitVec 32 := 0#32
  let v303 : BitVec 1 := Scalar.cmpi .slt v299 c0_i32_145
  let v304 : BitVec 1 := Scalar.xori v302 v303
  let c0_i32_143 : BitVec 32 := 0#32
  let v301 : BitVec 1 := Scalar.cmpi .ne v300 c0_i32_143
  let v305 : BitVec 1 := Scalar.andi v304 v301
  let v306 : BitVec 32 := Scalar.addi v300 v299
  let v307 : BitVec 32 := Scalar.select v305 v306 v300
  let v308 : Index := Scalar.indexCast v307
  let c0_146 : Index := 0#32
  ![v308.toNat, 0]

def k0_chk15 (v297 : BitVec 32) : Prop :=
  (∀ a, (k0_off30 v297) a + S1x64.size a ≤ S8x64.size a)
theorem k0_off30_inb : ∀ (v297 : BitVec 32) (k0_hw15 : k0_chk15 v297), ∀ a, (k0_off30 v297) a + S1x64.size a ≤ S8x64.size a := fun v297 k0_hw15 => k0_hw15

def k0_off31 (i : grid0.Coords) : Fin 1 → Nat :=
  let arg0 : BitVec 32 := BitVec.ofNat 32 (i 0).val
  let c16_i32_149 : BitVec 32 := 16#32
  let v315 : BitVec 32 := Scalar.muli arg0 c16_i32_149
  let c15_i32 : BitVec 32 := 15#32
  let v316 : BitVec 32 := Scalar.addi v315 c15_i32
  let v317 : Index := Scalar.indexCast v316
  ![v317.toNat]
def k0_off32 (v318 : BitVec 32) : Fin 2 → Nat :=
  let c8_i32_150 : BitVec 32 := 8#32
  let c0_i32_151 : BitVec 32 := 0#32
  let v319 : BitVec 1 := Scalar.cmpi .eq c8_i32_150 c0_i32_151
  let c1_i32_152 : BitVec 32 := 1#32
  let v320 : BitVec 32 := Scalar.select v319 c1_i32_152 c8_i32_150
  let v321 : BitVec 32 := Scalar.remsi v318 v320
  let c0_i32_154 : BitVec 32 := 0#32
  let v323 : BitVec 1 := Scalar.cmpi .slt v321 c0_i32_154
  let c0_i32_155 : BitVec 32 := 0#32
  let v324 : BitVec 1 := Scalar.cmpi .slt v320 c0_i32_155
  let v325 : BitVec 1 := Scalar.xori v323 v324
  let c0_i32_153 : BitVec 32 := 0#32
  let v322 : BitVec 1 := Scalar.cmpi .ne v321 c0_i32_153
  let v326 : BitVec 1 := Scalar.andi v325 v322
  let v327 : BitVec 32 := Scalar.addi v321 v320
  let v328 : BitVec 32 := Scalar.select v326 v327 v321
  let v329 : Index := Scalar.indexCast v328
  let c0_156 : Index := 0#32
  ![v329.toNat, 0]

def k0_chk16 (v318 : BitVec 32) : Prop :=
  (∀ a, (k0_off32 v318) a + S1x64.size a ≤ S8x64.size a)
theorem k0_off32_inb : ∀ (v318 : BitVec 32) (k0_hw16 : k0_chk16 v318), ∀ a, (k0_off32 v318) a + S1x64.size a ≤ S8x64.size a := fun v318 k0_hw16 => k0_hw16

def cc0_transform_0 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  let v3 : BitVec 32 := pf.at 0 (Rect.unit (s := S64) ![v2.toNat] S1.size (k0_off1_inb i 0)) numel1_S1
  let c8_i32 : BitVec 32 := 8#32
  let v4 : BitVec 32 := Scalar.divsi v3 c8_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  ![v20.toNat, c0_i32_5.toNat]

def cc0_transform_1 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.addi v0 c1_i32
  let v2 : Index := Scalar.indexCast v1
  let v3 : BitVec 32 := pf.at 0 (Rect.unit (s := S64) ![v2.toNat] S1.size (k0_off1_inb i 1)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_2 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c2_i32 : BitVec 32 := 2#32
  let v1 : BitVec 32 := Scalar.addi v0 c2_i32
  let v2 : Index := Scalar.indexCast v1
  let v3 : BitVec 32 := pf.at 0 (Rect.unit (s := S64) ![v2.toNat] S1.size (k0_off1_inb i 2)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  let c0_i32_5 : BitVec 32 := 0#32
  ![v20.toNat, c0_i32_4.toNat]

def cc0_transform_3 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c3_i32 : BitVec 32 := 3#32
  let v1 : BitVec 32 := Scalar.addi v0 c3_i32
  let v2 : Index := Scalar.indexCast v1
  let v3 : BitVec 32 := pf.at 0 (Rect.unit (s := S64) ![v2.toNat] S1.size (k0_off1_inb i 3)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  let c0_i32_5 : BitVec 32 := 0#32
  ![v20.toNat, c0_i32_4.toNat]

def cc0_transform_4 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c4_i32 : BitVec 32 := 4#32
  let v1 : BitVec 32 := Scalar.addi v0 c4_i32
  let v2 : Index := Scalar.indexCast v1
  let v3 : BitVec 32 := pf.at 0 (Rect.unit (s := S64) ![v2.toNat] S1.size (k0_off1_inb i 4)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  let c0_i32_5 : BitVec 32 := 0#32
  ![v20.toNat, c0_i32_4.toNat]

def cc0_transform_5 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c5_i32 : BitVec 32 := 5#32
  let v1 : BitVec 32 := Scalar.addi v0 c5_i32
  let v2 : Index := Scalar.indexCast v1
  let v3 : BitVec 32 := pf.at 0 (Rect.unit (s := S64) ![v2.toNat] S1.size (k0_off1_inb i 5)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  let c0_i32_5 : BitVec 32 := 0#32
  ![v20.toNat, c0_i32_4.toNat]

def cc0_transform_6 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c6_i32 : BitVec 32 := 6#32
  let v1 : BitVec 32 := Scalar.addi v0 c6_i32
  let v2 : Index := Scalar.indexCast v1
  let v3 : BitVec 32 := pf.at 0 (Rect.unit (s := S64) ![v2.toNat] S1.size (k0_off1_inb i 6)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  let c0_i32_5 : BitVec 32 := 0#32
  ![v20.toNat, c0_i32_4.toNat]

def cc0_transform_7 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c7_i32 : BitVec 32 := 7#32
  let v1 : BitVec 32 := Scalar.addi v0 c7_i32
  let v2 : Index := Scalar.indexCast v1
  let v3 : BitVec 32 := pf.at 0 (Rect.unit (s := S64) ![v2.toNat] S1.size (k0_off1_inb i 7)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  let c0_i32_5 : BitVec 32 := 0#32
  ![v20.toNat, c0_i32_4.toNat]

def cc0_transform_8 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c8_i32 : BitVec 32 := 8#32
  let v1 : BitVec 32 := Scalar.addi v0 c8_i32
  let v2 : Index := Scalar.indexCast v1
  let v3 : BitVec 32 := pf.at 0 (Rect.unit (s := S64) ![v2.toNat] S1.size (k0_off1_inb i 8)) numel1_S1
  let c8_i32_0 : BitVec 32 := 8#32
  let v4 : BitVec 32 := Scalar.divsi v3 c8_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v3 c8_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  ![v20.toNat, c0_i32_5.toNat]

def cc0_transform_9 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c9_i32 : BitVec 32 := 9#32
  let v1 : BitVec 32 := Scalar.addi v0 c9_i32
  let v2 : Index := Scalar.indexCast v1
  let v3 : BitVec 32 := pf.at 0 (Rect.unit (s := S64) ![v2.toNat] S1.size (k0_off1_inb i 9)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  let c0_i32_5 : BitVec 32 := 0#32
  ![v20.toNat, c0_i32_4.toNat]

def cc0_transform_10 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c10_i32 : BitVec 32 := 10#32
  let v1 : BitVec 32 := Scalar.addi v0 c10_i32
  let v2 : Index := Scalar.indexCast v1
  let v3 : BitVec 32 := pf.at 0 (Rect.unit (s := S64) ![v2.toNat] S1.size (k0_off1_inb i 10)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  let c0_i32_5 : BitVec 32 := 0#32
  ![v20.toNat, c0_i32_4.toNat]

def cc0_transform_11 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c11_i32 : BitVec 32 := 11#32
  let v1 : BitVec 32 := Scalar.addi v0 c11_i32
  let v2 : Index := Scalar.indexCast v1
  let v3 : BitVec 32 := pf.at 0 (Rect.unit (s := S64) ![v2.toNat] S1.size (k0_off1_inb i 11)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  let c0_i32_5 : BitVec 32 := 0#32
  ![v20.toNat, c0_i32_4.toNat]

def cc0_transform_12 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c12_i32 : BitVec 32 := 12#32
  let v1 : BitVec 32 := Scalar.addi v0 c12_i32
  let v2 : Index := Scalar.indexCast v1
  let v3 : BitVec 32 := pf.at 0 (Rect.unit (s := S64) ![v2.toNat] S1.size (k0_off1_inb i 12)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  let c0_i32_5 : BitVec 32 := 0#32
  ![v20.toNat, c0_i32_4.toNat]

def cc0_transform_13 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c13_i32 : BitVec 32 := 13#32
  let v1 : BitVec 32 := Scalar.addi v0 c13_i32
  let v2 : Index := Scalar.indexCast v1
  let v3 : BitVec 32 := pf.at 0 (Rect.unit (s := S64) ![v2.toNat] S1.size (k0_off1_inb i 13)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  let c0_i32_5 : BitVec 32 := 0#32
  ![v20.toNat, c0_i32_4.toNat]

def cc0_transform_14 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c14_i32 : BitVec 32 := 14#32
  let v1 : BitVec 32 := Scalar.addi v0 c14_i32
  let v2 : Index := Scalar.indexCast v1
  let v3 : BitVec 32 := pf.at 0 (Rect.unit (s := S64) ![v2.toNat] S1.size (k0_off1_inb i 14)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  let c0_i32_5 : BitVec 32 := 0#32
  ![v20.toNat, c0_i32_4.toNat]

def cc0_transform_15 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c15_i32 : BitVec 32 := 15#32
  let v1 : BitVec 32 := Scalar.addi v0 c15_i32
  let v2 : Index := Scalar.indexCast v1
  let v3 : BitVec 32 := pf.at 0 (Rect.unit (s := S64) ![v2.toNat] S1.size (k0_off1_inb i 15)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  let c0_i32_5 : BitVec 32 := 0#32
  ![v20.toNat, c0_i32_4.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x16x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== GatherReferenceIdeal.lean ====
abbrev S64 : Shape := ⟨1, ![64]⟩
abbrev S100000x64x1x1 : Shape := ⟨4, ![100000, 64, 1, 1]⟩
abbrev S100000x64 : Shape := ⟨2, ![100000, 64]⟩
abbrev S_ : Shape := ⟨0, ![]⟩
abbrev S64x1 : Shape := ⟨2, ![64, 1]⟩
abbrev S64x64 : Shape := ⟨2, ![64, 64]⟩

abbrev nBuf : Space → Nat
  | .hbm => 12
  | .vmem => 0
  | .smem => 0
  | _ => 0

abbrev bufTy : (tb : Table) → Fin (tcTables nBuf tb) → BufTy
  | .hbm, ⟨0, _⟩ => ⟨S64, .i32⟩
  | .hbm, ⟨1, _⟩ => ⟨S100000x64x1x1, .f32⟩
  | .hbm, ⟨2, _⟩ => ⟨S100000x64, .f32⟩
  | .hbm, ⟨3, _⟩ => ⟨S_, .i32⟩
  | .hbm, ⟨4, _⟩ => ⟨S64, .i32⟩
  | .hbm, ⟨5, _⟩ => ⟨S64, .i1⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S64, .i32⟩
  | .hbm, ⟨10, _⟩ => ⟨S64x1, .i32⟩
  | .hbm, ⟨11, _⟩ => ⟨S64x64, .f32⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.ConvSpec.lean ====
/- The convolution block as mathematics over the extended reals: a 3 × 3 convolution with zero padding on a 28 × 28
   image whose pixels are numbered `28 h + w`, batch normalisation with a rectifier, and the mean over the pixels.
   Everything here is a function of plain finite indices; no program is mentioned. -/
module

public import Idealize.ShloMosaic.Lib.Pointwise.Tactic

@[expose] public section

noncomputable section

namespace Cert.ConvSpec

/-- The reciprocal of the batch normalisation's divisor, the square root of the single-precision `1 + 1e-5`. -/
def invBn : EReal := (((Real.sqrt (2097173 / 2097152))⁻¹ : ℝ) : EReal)

/-- The pixel in padded row `h` and padded column `w`: the image's own for `1 ≤ h, w ≤ 28`, zero on the border. -/
def tap (f : Fin 784 → EReal) (h w : ℕ) : EReal :=
  if hw : (1 ≤ h ∧ h ≤ 28) ∧ 1 ≤ w ∧ w ≤ 28 then f ⟨(h - 1) * 28 + (w - 1), by omega⟩ else 0

/-- The convolution at output channel `o` and pixel `p`: over the nine taps, the input channels' weighted sum. -/
def conv (W : Fin 64 → Fin 64 → Fin 3 → Fin 3 → EReal) (X : Fin 64 → Fin 784 → EReal) (o : Fin 64) (p : Fin 784) : EReal :=
  ∑ dh : Fin 3, ∑ dw : Fin 3, ∑ ci : Fin 64, W o ci dh dw * tap (X ci) (p.val / 28 + dh.val) (p.val % 28 + dw.val)

/-- One layer: the convolution, normalised, scaled by `g`, shifted by `b`, negative values replaced by zero. -/
def layer (W : Fin 64 → Fin 64 → Fin 3 → Fin 3 → EReal) (g b : Fin 64 → EReal) (X : Fin 64 → Fin 784 → EReal)
    (o : Fin 64) (p : Fin 784) : EReal :=
  max (conv W X o p * (g o * invBn) + b o) 0

/-- The mean over the pixels. -/
def pool (X : Fin 64 → Fin 784 → EReal) (o : Fin 64) : EReal :=
  (∑ p : Fin 784, X o p) * (((1 / 784 : ℝ)) : EReal)

/-- The image feature: two layers and the mean. -/
def feat (W1 : Fin 64 → Fin 64 → Fin 3 → Fin 3 → EReal) (g1 b1 : Fin 64 → EReal)
    (W2 : Fin 64 → Fin 64 → Fin 3 → Fin 3 → EReal) (g2 b2 : Fin 64 → EReal) (X : Fin 64 → Fin 784 → EReal) (o : Fin 64) : EReal :=
  pool (layer W2 g2 b2 (layer W1 g1 b1 X)) o

/-! ## The same convolution from three row-shifted copies and one product -/

/-- The 192 rows the products contract over: the image shifted down by one row, the image, the image shifted up by one
    row, 64 channels each, with zeros shifted in. -/
def stacked (X : Fin 64 → Fin 784 → EReal) (r : Fin 192) (q : Fin 784) : EReal :=
  if h : r.val < 64 then if h' : q.val < 28 then 0 else X ⟨r.val, h⟩ ⟨q.val - 28, by omega⟩
  else if h : r.val - 64 < 64 then X ⟨r.val - 64, h⟩ q
  else if h' : q.val < 756 then X ⟨r.val - 64 - 64, by omega⟩ ⟨28 + q.val, by omega⟩ else 0

/-- The weights as one 192 × 192 matrix: row `64 dw + o`, column `64 dh + ci`. -/
def packed (W : Fin 64 → Fin 64 → Fin 3 → Fin 3 → EReal) (r k : Fin 192) : EReal :=
  W ⟨r.val % 64, by omega⟩ ⟨k.val % 64, by omega⟩ ⟨k.val / 64, by omega⟩ ⟨r.val / 64, by omega⟩

/-- The product of the packed weights and the stacked copies. -/
def prod (W : Fin 64 → Fin 64 → Fin 3 → Fin 3 → EReal) (X : Fin 64 → Fin 784 → EReal) (r : Fin 192) (q : Fin 784) : EReal :=
  ∑ k : Fin 192, packed W r k * stacked X k q

/-- The column combination: the middle rows, the left rows one pixel to the right where there is a left neighbour,
    the right rows one pixel to the left where there is a right neighbour. -/
def combined (Y : Fin 192 → Fin 784 → EReal) (o : Fin 64) (p : Fin 784) : EReal :=
  (Y ⟨64 + o.val, by omega⟩ p
      + (if 1 ≤ p.val % 28 then 1 else 0) * (if h : p.val < 1 then 0 else Y ⟨o.val, by omega⟩ ⟨p.val - 1, by omega⟩))
    + (if p.val % 28 < 27 then 1 else 0) * (if h : p.val < 783 then Y ⟨128 + o.val, by omega⟩ ⟨1 + p.val, by omega⟩ else 0)

/-- A sum over 192 indices in three runs of 64. -/
theorem sum_192 (F : Fin 192 → EReal) :
    ∑ k : Fin 192, F k = (∑ c : Fin 64, F ⟨c.val, by omega⟩ + ∑ c : Fin 64, F ⟨64 + c.val, by omega⟩)
      + ∑ c : Fin 64, F ⟨128 + c.val, by omega⟩ := by
  have h1 := Fin.sum_univ_add (a := 128) (b := 64) F
  have h2 := Fin.sum_univ_add (a := 64) (b := 64) (fun i : Fin (64 + 64) => F (Fin.castAdd 64 i))
  rw [h1]
  exact congrArg₂ (· + ·) h2 rfl

theorem packed_eq (W : Fin 64 → Fin 64 → Fin 3 → Fin 3 → EReal) (r k : Fin 192) (o ci : Fin 64) (dh dw : Fin 3)
    (hr : r.val = 64 * dw.val + o.val) (hk : k.val = 64 * dh.val + ci.val) : packed W r k = W o ci dh dw := by
  unfold packed
  congr 1 <;> apply Fin.ext <;> simp only [hr, hk] <;> omega

/-- One column of taps from the product: where the tap's column lies inside the image, the product's rows there are the
    sum over the three rows of taps. -/
theorem prod_eq (W : Fin 64 → Fin 64 → Fin 3 → Fin 3 → EReal) (X : Fin 64 → Fin 784 → EReal) (o : Fin 64) (p q : Fin 784)
    (r : Fin 192) (dw : Fin 3) (hr : r.val = 64 * dw.val + o.val) (hq : q.val + 1 = p.val + dw.val)
    (hw : 1 ≤ p.val % 28 + dw.val ∧ p.val % 28 + dw.val ≤ 28) :
    prod W X r q = ∑ dh : Fin 3, ∑ ci : Fin 64, W o ci dh dw * tap (X ci) (p.val / 28 + dh.val) (p.val % 28 + dw.val) := by
  unfold prod
  rw [sum_192, Fin.sum_univ_three]
  refine congrArg₂ (· + ·) (congrArg₂ (· + ·) ?_ ?_) ?_
  · refine Finset.sum_congr rfl fun ci _ => ?_
    rw [packed_eq W r _ o ci 0 dw hr (by simp)]
    congr 1
    unfold stacked tap
    have h3 : ((0 : Fin 3) : ℕ) = 0 := rfl
    rw [dif_pos ci.isLt]
    by_cases hc : q.val < 28
    · rw [dif_pos hc, dif_neg (by rw [h3]; omega)]
    · rw [dif_neg hc, dif_pos (by rw [h3]; omega)]
      exact congrArg (X ci) (Fin.ext (by simp only [h3]; omega))
  · refine Finset.sum_congr rfl fun ci _ => ?_
    rw [packed_eq W r _ o ci 1 dw hr (by simp)]
    congr 1
    unfold stacked tap
    have h3 : ((1 : Fin 3) : ℕ) = 1 := rfl
    rw [dif_neg (by simp), dif_pos (by simp), dif_pos (by rw [h3]; omega)]
    exact congrArg₂ X (Fin.ext (by simp)) (Fin.ext (by simp only [h3]; omega))
  · refine Finset.sum_congr rfl fun ci _ => ?_
    rw [packed_eq W r _ o ci 2 dw hr (by simp)]
    congr 1
    unfold stacked tap
    have h3 : ((2 : Fin 3) : ℕ) = 2 := rfl
    rw [dif_neg (by simp; omega), dif_neg (by simp; omega)]
    by_cases hc : q.val < 756
    · rw [dif_pos hc, dif_pos (by rw [h3]; omega)]
      exact congrArg₂ X (Fin.ext (by simp only; omega)) (Fin.ext (by simp only [h3]; omega))
    · rw [dif_neg hc, dif_neg (by rw [h3]; omega)]

/-- A column of taps outside the image contributes nothing. -/
theorem column_zero (W : Fin 64 → Fin 64 → Fin 3 → Fin 3 → EReal) (X : Fin 64 → Fin 784 → EReal) (o : Fin 64) (p : Fin 784)
    (dw : Fin 3) (hw : ¬(1 ≤ p.val % 28 + dw.val ∧ p.val % 28 + dw.val ≤ 28)) :
    ∑ dh : Fin 3, ∑ ci : Fin 64, W o ci dh dw * tap (X ci) (p.val / 28 + dh.val) (p.val % 28 + dw.val) = 0 := by
  refine Finset.sum_eq_zero fun dh _ => Finset.sum_eq_zero fun ci _ => ?_
  unfold tap
  rw [dif_neg (fun h => hw h.2), mul_zero]

/-- The convolution is the column combination of the product of packed weights and stacked copies. -/
theorem combined_prod (W : Fin 64 → Fin 64 → Fin 3 → Fin 3 → EReal) (X : Fin 64 → Fin 784 → EReal) (o : Fin 64) (p : Fin 784) :
    combined (prod W X) o p = conv W X o p := by
  unfold combined conv
  rw [Finset.sum_comm, Fin.sum_univ_three (fun dw : Fin 3 => ∑ dh : Fin 3, ∑ ci : Fin 64,
    W o ci dh dw * tap (X ci) (p.val / 28 + dh.val) (p.val % 28 + dw.val))]
  have e1 := prod_eq W X o p p ⟨64 + o.val, by omega⟩ 1 (by simp) (by simp) (by
    have : ((1 : Fin 3) : ℕ) = 1 := rfl
    rw [this]; omega)
  have e0 : (if 1 ≤ p.val % 28 then (1 : EReal) else 0) * (if h : p.val < 1 then 0 else prod W X ⟨o.val, by omega⟩ ⟨p.val - 1, by omega⟩)
      = ∑ dh : Fin 3, ∑ ci : Fin 64, W o ci dh 0 * tap (X ci) (p.val / 28 + dh.val) (p.val % 28 + (0 : Fin 3).val) := by
    have h0 : ((0 : Fin 3) : ℕ) = 0 := rfl
    by_cases h : 1 ≤ p.val % 28
    · rw [if_pos h, one_mul, dif_neg (by omega)]
      exact prod_eq W X o p _ _ 0 (by simp) (by rw [h0]; simp only; omega) (by rw [h0]; omega)
    · rw [if_neg h, zero_mul, column_zero W X o p 0 (by rw [h0]; omega)]
  have e2 : (if p.val % 28 < 27 then (1 : EReal) else 0) * (if h : p.val < 783 then prod W X ⟨128 + o.val, by omega⟩ ⟨1 + p.val, by omega⟩ else 0)
      = ∑ dh : Fin 3, ∑ ci : Fin 64, W o ci dh 2 * tap (X ci) (p.val / 28 + dh.val) (p.val % 28 + (2 : Fin 3).val) := by
    have h0 : ((2 : Fin 3) : ℕ) = 2 := rfl
    by_cases h : p.val % 28 < 27
    · rw [if_pos h, one_mul, dif_pos (by omega)]
      exact prod_eq W X o p _ _ 2 (by simp) (by rw [h0]; simp only; omega) (by rw [h0]; omega)
    · rw [if_neg h, zero_mul, column_zero W X o p 2 (by rw [h0]; omega)]
  rw [e0, e1, e2, add_comm (∑ dh : Fin 3, ∑ ci : Fin 64, W o ci dh 1 * _)]

end Cert.ConvSpec

end
-- ==== Proof.ConvBlock.lean ====
/- One grid point of the convolution kernel, read as mathematics: the block of eight images' features that the body
   leaves, each the feature `Cert.ConvSpec.feat` of its image. -/
module

public import proofs.«01_k».proof.Proof.ConvSpec
public import proofs.«01_k».proof.Proof.Gen.KernelIdeal.Value
public import Idealize.ShloMosaic.Lib.Pointwise.Tactic
public import Idealize.ShloMosaic.Lib.Pointwise.Contract
public import Idealize.ShloMosaic.Lib.Pointwise.Select
public import Idealize.ShloMosaic.Lib.Pointwise.Reshape
public import Idealize.ShloMosaic.Lib.Pointwise.Reduce
public import Idealize.ShloMosaic.Lib.Pipeline.CanonAppend

@[expose] public section

set_option maxRecDepth 16384

noncomputable section

namespace Cert.KernelIdeal.ConvBlock

open Cert.KernelIdeal Cert.KernelIdeal.Gen Idealize.ShloMosaic Idealize.ShloMosaic.TcCoe Idealize.SL.Sem

/-- Image `g` of a block of eight, by channel and pixel. -/
def image (x : Vec Ideal S8x64x784 .f32) (g : Fin 8) (c : Fin 64) (p : Fin 784) : EReal := x (ix3 g c p)

/-- Eight 192 × 784 matrices side by side. -/
def beside (f : Fin 8 → Fin 192 → Fin 784 → EReal) : Vec Ideal S192x6272 .bf16 := fun j =>
  f ⟨(j 1).val / 784, by have : (j 1).val < 6272 := (j 1).isLt; omega⟩ (j 0) ⟨(j 1).val % 784, by omega⟩

theorem beside_apply (f : Fin 8 → Fin 192 → Fin 784 → EReal) (r : Fin 192) (q : Fin 6272) (g : Fin 8) (p : Fin 784)
    (h : q.val = 784 * g.val + p.val) : beside f (ix2 r q) = f g r p := by
  unfold beside
  congr 1 <;> apply Fin.ext <;> simp only [ix2] <;> omega

/-- The eight column slabs of 784, last first, as the body writes them. -/
def slabs (w0 w1 w2 w3 w4 w5 w6 w7 : Vec Ideal S192x784 .bf16) : List (View.Piece (Elt Ideal) S192x6272 .bf16) :=
  [⟨Rect.unit ![0, 5488] ![192, 784] inb_S192x6272_S192x784_0_5488, w7⟩,
   ⟨Rect.unit ![0, 4704] ![192, 784] inb_S192x6272_S192x784_0_4704, w6⟩,
   ⟨Rect.unit ![0, 3920] ![192, 784] inb_S192x6272_S192x784_0_3920, w5⟩,
   ⟨Rect.unit ![0, 3136] ![192, 784] inb_S192x6272_S192x784_0_3136, w4⟩,
   ⟨Rect.unit ![0, 2352] ![192, 784] inb_S192x6272_S192x784_0_2352, w3⟩,
   ⟨Rect.unit ![0, 1568] ![192, 784] inb_S192x6272_S192x784_0_1568, w2⟩,
   ⟨Rect.unit ![0, 784] ![192, 784] inb_S192x6272_S192x784_0_784, w1⟩,
   ⟨Rect.unit ![0, 0] ![192, 784] inb_S192x6272_S192x784_0_0, w0⟩]

/-- One slab's place: column `q` of the slab at offset `784 g`. -/
theorem slab_emb (off : ℕ) (inb) (x : S192x784.Idx) (g : Fin 8) (f : Fin 8 → Fin 192 → Fin 784 → EReal) (hg : off = 784 * g.val) :
    beside f ((Rect.unit (s := S192x6272) ![0, off] ![192, 784] inb).emb x) = f g (x 0) (x 1) := by
  subst hg
  unfold beside
  have h0 : (x 0).val < 192 := (x 0).isLt
  have h1 : (x 1).val < 784 := (x 1).isLt
  congr 1 <;> apply Fin.ext
  · show (784 * g.val + 1 * (x 1).val) / 784 = g.val
    omega
  · show 0 + 1 * (x 0).val = _
    omega
  · show (784 * g.val + 1 * (x 1).val) % 784 = _
    omega

/-- Matrix `g` of eight. -/
def pick (w0 w1 w2 w3 w4 w5 w6 w7 : Vec Ideal S192x784 .bf16) (g : Fin 8) (r : Fin 192) (q : Fin 784) : EReal :=
  (![w0, w1, w2, w3, w4, w5, w6, w7] : Fin 8 → Vec Ideal S192x784 .bf16) g (ix2 r q)

/-- Eight matrices side by side, as one array. -/
def gather8 (w0 w1 w2 w3 w4 w5 w6 w7 : Vec Ideal S192x784 .bf16) : Vec Ideal S192x6272 .bf16 :=
  beside (pick w0 w1 w2 w3 w4 w5 w6 w7)

/-- What the eight slabs leave, whatever was written before them: the eight matrices side by side. -/
theorem canon_slabs (w0 w1 w2 w3 w4 w5 w6 w7 : Vec Ideal S192x784 .bf16) (L : List (View.Piece (Elt Ideal) S192x6272 .bf16)) :
    View.canon (slabs w0 w1 w2 w3 w4 w5 w6 w7 ++ L) = gather8 w0 w1 w2 w3 w4 w5 w6 w7 := by
  funext y
  unfold gather8
  refine View.canon_append_of_pieces _ L _ ?_ y ?_
  · have e : ∀ (x : S192x784.Idx), x = ix2 (x 0) (x 1) := fun x => funext fun a => by fin_cases a <;> rfl
    simp only [slabs, List.forall_mem_cons, List.not_mem_nil, false_imp_iff, implies_true, and_true]
    refine ⟨?_, ?_, ?_, ?_, ?_, ?_, ?_, ?_⟩ <;> intro x
    · exact (congrArg w7 (e x)).trans (slab_emb 5488 _ x 7 (pick w0 w1 w2 w3 w4 w5 w6 w7) rfl).symm
    · exact (congrArg w6 (e x)).trans (slab_emb 4704 _ x 6 (pick w0 w1 w2 w3 w4 w5 w6 w7) rfl).symm
    · exact (congrArg w5 (e x)).trans (slab_emb 3920 _ x 5 (pick w0 w1 w2 w3 w4 w5 w6 w7) rfl).symm
    · exact (congrArg w4 (e x)).trans (slab_emb 3136 _ x 4 (pick w0 w1 w2 w3 w4 w5 w6 w7) rfl).symm
    · exact (congrArg w3 (e x)).trans (slab_emb 2352 _ x 3 (pick w0 w1 w2 w3 w4 w5 w6 w7) rfl).symm
    · exact (congrArg w2 (e x)).trans (slab_emb 1568 _ x 2 (pick w0 w1 w2 w3 w4 w5 w6 w7) rfl).symm
    · exact (congrArg w1 (e x)).trans (slab_emb 784 _ x 1 (pick w0 w1 w2 w3 w4 w5 w6 w7) rfl).symm
    · exact (congrArg w0 (e x)).trans (slab_emb 0 _ x 0 (pick w0 w1 w2 w3 w4 w5 w6 w7) rfl).symm
  · exact View.cover_of_tiledL (slabs w0 w1 w2 w3 w4 w5 w6 w7) S192x784.size (by sl_kernel_rfl) y

/-- A load of the whole scratch buffer after the eight slabs were written. -/
theorem readCov_slabs {sig : RefSig} {κ : Kind} {sp : Space} (v : View sig κ sp S192x6272 .bf16)
    (w0 w1 w2 w3 w4 w5 w6 w7 : Vec Ideal S192x784 .bf16) (L : List (View.Piece (Elt Ideal) S192x6272 .bf16)) :
    v.readCov ((⟨Rect.unit ![0, 5488] ![192, 784] inb_S192x6272_S192x784_0_5488, w7⟩ : View.Piece (Elt Ideal) S192x6272 .bf16) ::
      ⟨Rect.unit ![0, 4704] ![192, 784] inb_S192x6272_S192x784_0_4704, w6⟩ ::
      ⟨Rect.unit ![0, 3920] ![192, 784] inb_S192x6272_S192x784_0_3920, w5⟩ ::
      ⟨Rect.unit ![0, 3136] ![192, 784] inb_S192x6272_S192x784_0_3136, w4⟩ ::
      ⟨Rect.unit ![0, 2352] ![192, 784] inb_S192x6272_S192x784_0_2352, w3⟩ ::
      ⟨Rect.unit ![0, 1568] ![192, 784] inb_S192x6272_S192x784_0_1568, w2⟩ ::
      ⟨Rect.unit ![0, 784] ![192, 784] inb_S192x6272_S192x784_0_784, w1⟩ ::
      ⟨Rect.unit ![0, 0] ![192, 784] inb_S192x6272_S192x784_0_0, w0⟩ :: L)
      (Rect.unit ![0, 0] ![192, 6272] inb_S192x6272_S192x6272_0_0).toLoadRect = gather8 w0 w1 w2 w3 w4 w5 w6 w7 := by
  rw [View.readCov_eq_canon']
  have h := canon_slabs w0 w1 w2 w3 w4 w5 w6 w7 L
  have hz : (![0, 0] : Fin S192x6272.rank → Nat) = fun _ => 0 := funext fun a => by fin_cases a <;> rfl
  have e := View.ld_unit_zero (S := S192x6272) (Val := Elt Ideal) (e := .bf16) hz inb_S192x6272_S192x6272_0_0 (gather8 w0 w1 w2 w3 w4 w5 w6 w7)
  refine Eq.trans ?_ e
  funext j
  exact congrFun h _

/-- The word of a lane's column number: the lane modulo 28. -/
theorem lane_words : ∀ q : Fin 784, (k0_pay2 (ix2 (0 : Fin 64) q)) = BitVec.ofNat 32 (q.val % 28) := by
  unfold k0_pay2
  pointwise
  decide +kernel

theorem lane_word (o : Fin 64) (q : Fin 784) : k0_pay2 (ix2 o q) = BitVec.ofNat 32 (q.val % 28) := by
  rw [← lane_words q]
  unfold k0_pay2
  pointwise

theorem left_words : ∀ q : Fin 28, BitVec.setWidth 32 (IntOp.cmpi CmpIPredicate.sge (BitVec.ofNat 32 q.val) 1#32) = if 1 ≤ q.val then 1#32 else 0#32 := by
  decide
theorem right_words : ∀ q : Fin 28, BitVec.setWidth 32 (IntOp.cmpi CmpIPredicate.slt (BitVec.ofNat 32 q.val) 27#32) = if q.val < 27 then 1#32 else 0#32 := by
  decide

/-- The left mask: one where the pixel has a left neighbour. -/
theorem left_mask (o : Fin 64) (q : Fin 784) :
    (k0_pay3 : FVec Ideal S64x784 .f32) (ix2 o q) = if 1 ≤ q.val % 28 then 1 else 0 := by
  unfold k0_pay3
  pointwise
  rw [lane_word, left_words ⟨q.val % 28, by omega⟩]
  show FloatOps.sitofp FTy.f32 (if 1 ≤ q.val % 28 then 1#32 else 0#32) = _
  split
  · show (((1#32 : BitVec 32).toInt : ℝ) : EReal) = 1
    simp
  · show (((0#32 : BitVec 32).toInt : ℝ) : EReal) = 0
    simp

/-- The right mask: one where the pixel has a right neighbour. -/
theorem right_mask (o : Fin 64) (q : Fin 784) :
    (k0_pay4 : FVec Ideal S64x784 .f32) (ix2 o q) = if q.val % 28 < 27 then 1 else 0 := by
  unfold k0_pay4
  pointwise
  rw [lane_word, right_words ⟨q.val % 28, by omega⟩]
  show FloatOps.sitofp FTy.f32 (if q.val % 28 < 27 then 1#32 else 0#32) = _
  split
  · show (((1#32 : BitVec 32).toInt : ℝ) : EReal) = 1
    simp
  · show (((0#32 : BitVec 32).toInt : ℝ) : EReal) = 0
    simp

/-- Eight matrices side by side, given each by its entries. -/
theorem gather8_eq (w0 w1 w2 w3 w4 w5 w6 w7 : Vec Ideal S192x784 .bf16) (f : Fin 8 → Fin 192 → Fin 784 → EReal)
    (h0 : ∀ r q, w0 (ix2 r q) = f 0 r q) (h1 : ∀ r q, w1 (ix2 r q) = f 1 r q) (h2 : ∀ r q, w2 (ix2 r q) = f 2 r q)
    (h3 : ∀ r q, w3 (ix2 r q) = f 3 r q) (h4 : ∀ r q, w4 (ix2 r q) = f 4 r q) (h5 : ∀ r q, w5 (ix2 r q) = f 5 r q)
    (h6 : ∀ r q, w6 (ix2 r q) = f 6 r q) (h7 : ∀ r q, w7 (ix2 r q) = f 7 r q) :
    gather8 w0 w1 w2 w3 w4 w5 w6 w7 = beside f := by
  refine congrArg beside (funext fun g => funext fun r => funext fun q => ?_)
  fin_cases g
  exacts [h0 r q, h1 r q, h2 r q, h3 r q, h4 r q, h5 r q, h6 r q, h7 r q]

/-- Image `g`'s part of a product whose columns run over eight images. -/
def part (Y : FVec Ideal S192x6272 .f32) (g : Fin 8) (r : Fin 192) (q : Fin 784) : EReal :=
  Y (ix2 r ⟨784 * g.val + q.val, by omega⟩)

/-- One layer's activation from its product: the column combination, times the scale, plus the shift, rectified. -/
def act (Y : Fin 192 → Fin 784 → EReal) (s b : Fin 64 → EReal) (o : Fin 64) (p : Fin 784) : EReal :=
  max (ConvSpec.combined Y o p * s o + b o) 0

/-- The three row-shifted copies of a 64 × 784 array, stacked. -/
def stackV (v : FVec Ideal S64x784 .bf16) : FVec Ideal S192x784 .bf16 :=
  shapeCast S192x784 (concatenate S192x784 0
    [⟨S64x784, concatenate S64x784 1 [⟨S64x28, broadcast S64x28 (Scalar.ofBits .bf16 0x0000#16)⟩,
        ⟨S64x756, extractStridedSlice S64x756 ![0, 0] v slices_S64x784_o0_0_S64x756⟩] concatenates_S64x28_S64x756_S64x784_d1⟩,
     ⟨S64x784, v⟩,
     ⟨S64x784, concatenate S64x784 1 [⟨S64x756, extractStridedSlice S64x756 ![0, 28] v slices_S64x784_o0_28_S64x756⟩,
        ⟨S64x28, broadcast S64x28 (Scalar.ofBits .bf16 0x0000#16)⟩] concatenates_S64x756_S64x28_S64x784_d1⟩]
    concatenates_S64x784_S64x784_S64x784_S192x784_d0) shapeCasts_S192x784_S192x784

theorem stackV_apply (v : FVec Ideal S64x784 .bf16) (r : Fin 192) (q : Fin 784) :
    stackV v (ix2 r q) = ConvSpec.stacked (fun c p => v (ix2 c p)) r q := by
  unfold stackV
  pointwise
  rfl

/-- The column combination, scale, shift and rectifier, as vectors. -/
def actV (ML MR : FVec Ideal S64x784 .f32) (Z : FVec Ideal S192x784 .f32) (s b : FVec Ideal S64x1 .f32) : FVec Ideal S64x784 .f32 :=
  maximumf (addf (mulf
    (addf (addf (extractStridedSlice S64x784 ![64, 0] Z slices_S192x784_o64_0_S64x784)
      (mulf ML (concatenate S64x784 1 [⟨S64x1, broadcast S64x1 (Scalar.ofBits .f32 0x00000000#32)⟩,
        ⟨S64x783, extractStridedSlice S64x783 ![0, 0] Z slices_S192x784_o0_0_S64x783⟩] concatenates_S64x1_S64x783_S64x784_d1)))
      (mulf MR (concatenate S64x784 1 [⟨S64x783, extractStridedSlice S64x783 ![128, 1] Z slices_S192x784_o128_1_S64x783⟩,
        ⟨S64x1, broadcast S64x1 (Scalar.ofBits .f32 0x00000000#32)⟩] concatenates_S64x783_S64x1_S64x784_d1)))
    (broadcastTo S64x784 s broadcasts_S64x1_S64x784)) (broadcastTo S64x784 b broadcasts_S64x1_S64x784))
    (broadcast S64x784 (Scalar.ofBits .f32 0x00000000#32))

theorem actV_apply (ML MR : FVec Ideal S64x784 .f32) (eML : ∀ o q, ML (ix2 o q) = if 1 ≤ q.val % 28 then 1 else 0)
    (eMR : ∀ o q, MR (ix2 o q) = if q.val % 28 < 27 then 1 else 0) (Z : FVec Ideal S192x784 .f32) (s b : FVec Ideal S64x1 .f32)
    (o : Fin 64) (q : Fin 784) :
    actV ML MR Z s b (ix2 o q) = act (fun r p => Z (ix2 r p)) (fun o => s (ix2 o 0)) (fun o => b (ix2 o 0)) o q := by
  unfold actV
  pointwise
  simp only [eML, eMR]
  rfl

/-- The mean over the pixels, as a vector. -/
def poolV (v : FVec Ideal S64x784 .f32) : FVec Ideal S1x64x1 .f32 :=
  shapeCast S1x64x1 (mulf (shapeCast S64x1 (multiReduction .add [1] S64 v 0x00000000#32 reduces_S64x784_S64 (.inl rfl) rfl) shapeCasts_S64_S64x1)
    (broadcast S64x1 (Named.named κ "inv_p" 0x3AA72F05#32))) shapeCasts_S64x1_S1x64x1

theorem inv_p : (Named.named (F := Ideal) (φ := .f32) κ "inv_p" 0x3AA72F05#32 : EReal) = ((1 / 784 : ℝ) : EReal) :=
  IdealRules.named_const.ideal_named_scalar _ _ _ _ rfl

theorem inv_bn : (Named.named (F := Ideal) (φ := .f32) κ "inv_bn" 0x3F7FFFAC#32 : EReal) = ConvSpec.invBn :=
  IdealRules.named_const.ideal_named_scalar _ _ _ _ rfl

theorem poolV_apply (v : FVec Ideal S64x784 .f32) (a : Fin 1) (o : Fin 64) (z : Fin 1) :
    poolV v (ix3 a o z) = ConvSpec.pool (fun c p => v (ix2 c p)) o := by
  unfold poolV
  pointwise
  rw [inv_p]
  rfl

/-- Image `g`'s columns of a product, as a vector. -/
def cols (off : ℕ) (Y : FVec Ideal S192x6272 .f32) (h : S192x6272.Slices ![0, off] S192x784) : FVec Ideal S192x784 .f32 :=
  extractStridedSlice S192x784 ![0, off] Y h

theorem cols_apply (off : ℕ) (Y : FVec Ideal S192x6272 .f32) (h : S192x6272.Slices ![0, off] S192x784) (g : Fin 8)
    (hg : off = 784 * g.val) (r : Fin 192) (q : Fin 784) : cols off Y h (ix2 r q) = part Y g r q := by
  subst hg
  unfold cols
  pointwise
  rfl

/-- What the second group of stores writes for image `g`. -/
theorem stack_act (ML MR : FVec Ideal S64x784 .f32) (eML : ∀ o q, ML (ix2 o q) = if 1 ≤ q.val % 28 then 1 else 0)
    (eMR : ∀ o q, MR (ix2 o q) = if q.val % 28 < 27 then 1 else 0) (off : ℕ) (Y : FVec Ideal S192x6272 .f32) (h : S192x6272.Slices ![0, off] S192x784)
    (g : Fin 8) (hg : off = 784 * g.val) (s b : FVec Ideal S64x1 .f32) (r : Fin 192) (q : Fin 784) :
    stackV (actV ML MR (cols off Y h) s b) (ix2 r q)
      = ConvSpec.stacked (act (part Y g) (fun o => s (ix2 o 0)) (fun o => b (ix2 o 0))) r q := by
  rw [stackV_apply]
  congr 1
  funext c p
  rw [actV_apply ML MR eML eMR]
  congr 1
  funext r' p'
  exact cols_apply off Y h g hg r' p'

/-- What the last group of stores writes for image `g`. -/
theorem pool_act (ML MR : FVec Ideal S64x784 .f32) (eML : ∀ o q, ML (ix2 o q) = if 1 ≤ q.val % 28 then 1 else 0)
    (eMR : ∀ o q, MR (ix2 o q) = if q.val % 28 < 27 then 1 else 0) (off : ℕ) (Y : FVec Ideal S192x6272 .f32) (h : S192x6272.Slices ![0, off] S192x784)
    (g : Fin 8) (hg : off = 784 * g.val) (s b : FVec Ideal S64x1 .f32) (a : Fin 1) (o : Fin 64) (z : Fin 1) :
    poolV (actV ML MR (cols off Y h) s b) (ix3 a o z)
      = ConvSpec.pool (act (part Y g) (fun o => s (ix2 o 0)) (fun o => b (ix2 o 0))) o := by
  rw [poolV_apply]
  congr 1
  funext c p
  rw [actV_apply ML MR eML eMR]
  congr 1
  funext r' p'
  exact cols_apply off Y h g hg r' p'

/-- A block of eight images' features. -/
def outBlock (f : Fin 8 → Fin 64 → EReal) : Vec Ideal S8x64x1 .f32 := fun j => f (j 0) (j 1)

/-- The eight rows of the result's block, last first. -/
def rows (w0 w1 w2 w3 w4 w5 w6 w7 : Vec Ideal S1x64x1 .f32) : List (View.Piece (Elt Ideal) S8x64x1 .f32) :=
  [⟨Rect.unit ![7, 0, 0] ![1, 64, 1] inb_S8x64x1_S1x64x1_7_0_0, w7⟩,
   ⟨Rect.unit ![6, 0, 0] ![1, 64, 1] inb_S8x64x1_S1x64x1_6_0_0, w6⟩,
   ⟨Rect.unit ![5, 0, 0] ![1, 64, 1] inb_S8x64x1_S1x64x1_5_0_0, w5⟩,
   ⟨Rect.unit ![4, 0, 0] ![1, 64, 1] inb_S8x64x1_S1x64x1_4_0_0, w4⟩,
   ⟨Rect.unit ![3, 0, 0] ![1, 64, 1] inb_S8x64x1_S1x64x1_3_0_0, w3⟩,
   ⟨Rect.unit ![2, 0, 0] ![1, 64, 1] inb_S8x64x1_S1x64x1_2_0_0, w2⟩,
   ⟨Rect.unit ![1, 0, 0] ![1, 64, 1] inb_S8x64x1_S1x64x1_1_0_0, w1⟩,
   ⟨Rect.unit ![0, 0, 0] ![1, 64, 1] inb_S8x64x1_S1x64x1_0_0_0, w0⟩]

theorem row_emb (n : ℕ) (inb) (x : S1x64x1.Idx) (g : Fin 8) (f : Fin 8 → Fin 64 → EReal) (hg : n = g.val) :
    outBlock f ((Rect.unit (s := S8x64x1) ![n, 0, 0] ![1, 64, 1] inb).emb x) = f g (x 1) := by
  subst hg
  unfold outBlock
  have h0 : (x 0).val < 1 := (x 0).isLt
  congr 1 <;> apply Fin.ext
  · show g.val + 1 * (x 0).val = g.val
    omega
  · show 0 + 1 * (x 1).val = _
    omega

/-- What the eight rows leave, given each by its entries. -/
theorem canon_rows (w0 w1 w2 w3 w4 w5 w6 w7 : Vec Ideal S1x64x1 .f32) (f : Fin 8 → Fin 64 → EReal)
    (h0 : ∀ a o z, w0 (ix3 a o z) = f 0 o) (h1 : ∀ a o z, w1 (ix3 a o z) = f 1 o) (h2 : ∀ a o z, w2 (ix3 a o z) = f 2 o)
    (h3 : ∀ a o z, w3 (ix3 a o z) = f 3 o) (h4 : ∀ a o z, w4 (ix3 a o z) = f 4 o) (h5 : ∀ a o z, w5 (ix3 a o z) = f 5 o)
    (h6 : ∀ a o z, w6 (ix3 a o z) = f 6 o) (h7 : ∀ a o z, w7 (ix3 a o z) = f 7 o) :
    View.canon (rows w0 w1 w2 w3 w4 w5 w6 w7) = outBlock f := by
  funext y
  refine View.canon_apply_of_pieces (outBlock f) _ ?_ y ?_
  · have e : ∀ (x : S1x64x1.Idx), x = ix3 (x 0) (x 1) (x 2) := fun x => funext fun a => by fin_cases a <;> rfl
    simp only [rows, List.forall_mem_cons, List.not_mem_nil, false_imp_iff, implies_true, and_true]
    refine ⟨?_, ?_, ?_, ?_, ?_, ?_, ?_, ?_⟩ <;> intro x
    · exact ((congrArg w7 (e x)).trans (h7 _ _ _)).trans (row_emb 7 _ x 7 f rfl).symm
    · exact ((congrArg w6 (e x)).trans (h6 _ _ _)).trans (row_emb 6 _ x 6 f rfl).symm
    · exact ((congrArg w5 (e x)).trans (h5 _ _ _)).trans (row_emb 5 _ x 5 f rfl).symm
    · exact ((congrArg w4 (e x)).trans (h4 _ _ _)).trans (row_emb 4 _ x 4 f rfl).symm
    · exact ((congrArg w3 (e x)).trans (h3 _ _ _)).trans (row_emb 3 _ x 3 f rfl).symm
    · exact ((congrArg w2 (e x)).trans (h2 _ _ _)).trans (row_emb 2 _ x 2 f rfl).symm
    · exact ((congrArg w1 (e x)).trans (h1 _ _ _)).trans (row_emb 1 _ x 1 f rfl).symm
    · exact ((congrArg w0 (e x)).trans (h0 _ _ _)).trans (row_emb 0 _ x 0 f rfl).symm
  · exact View.cover_of_tiledL (rows w0 w1 w2 w3 w4 w5 w6 w7) S1x64x1.size (by sl_kernel_rfl) y

/-- A product whose right operand is eight stacked images, image by image. -/
theorem part_product (w : Vec Ideal S192x192 .bf16) (W : Fin 64 → Fin 64 → Fin 3 → Fin 3 → EReal)
    (hw : ∀ r k, w (ix2 r k) = ConvSpec.packed W r k) (X : Fin 8 → Fin 64 → Fin 784 → EReal) (Y : FVec Ideal S192x6272 .f32)
    (hY : ∀ r q, Y (ix2 r q) = ∑ k : Fin 192, w (ix2 r k) * beside (fun g => ConvSpec.stacked (X g)) (ix2 k q)) (g : Fin 8) :
    part Y g = ConvSpec.prod W (X g) := by
  funext r q
  unfold part ConvSpec.prod
  rw [hY]
  refine Finset.sum_congr rfl fun k _ => ?_
  rw [hw, beside_apply (fun g => ConvSpec.stacked (X g)) k _ g q rfl]

theorem act_product (W : Fin 64 → Fin 64 → Fin 3 → Fin 3 → EReal) (X : Fin 64 → Fin 784 → EReal) (g b s : Fin 64 → EReal)
    (hs : ∀ o, s o = g o * ConvSpec.invBn) : act (ConvSpec.prod W X) s b = ConvSpec.layer W g b X := by
  funext o p
  unfold act ConvSpec.layer
  rw [ConvSpec.combined_prod, hs]

set_option maxHeartbeats 1000000 in
/-- THE BLOCK: from eight images, the packed weights and the table of scales and shifts, the body leaves the eight
    images' features. -/
theorem block (c : Dev nD) (i : grid0.Coords) (arg1 : Memref sig .tc .vmem S8x64x784 .f32) (harg1 : arg1.IsWhole) (arg2 : Memref sig .tc .vmem S192x192 .bf16) (harg2 : arg2.IsWhole) (arg3 : Memref sig .tc .vmem S192x192 .bf16) (harg3 : arg3.IsWhole) (arg4 : Memref sig .tc .vmem S64x4 .f32) (harg4 : arg4.IsWhole) (arg5 : Memref sig .tc .vmem S8x64x1 .f32) (harg5 : arg5.IsWhole) (arg6 : Memref sig .tc .vmem S192x6272 .bf16) (harg6 : arg6.IsWhole)
    (x0 : Vec Ideal S8x64x784 .f32) (x1 : Vec Ideal S192x192 .bf16) (x2 : Vec Ideal S192x192 .bf16) (x3 : Vec Ideal S64x4 .f32)
    (W1 W2 : Fin 64 → Fin 64 → Fin 3 → Fin 3 → EReal) (hW1 : ∀ r k, x1 (ix2 r k) = ConvSpec.packed W1 r k)
    (hW2 : ∀ r k, x2 (ix2 r k) = ConvSpec.packed W2 r k) :
    out0_A_4 c i arg1 harg1 arg2 harg2 arg3 harg3 arg4 harg4 arg5 harg5 arg6 harg6 x0 x1 x2 x3
      = outBlock fun g => ConvSpec.feat W1 (fun o => x3 (ix2 o 0)) (fun o => x3 (ix2 o 1)) W2 (fun o => x3 (ix2 o 2))
          (fun o => x3 (ix2 o 3)) (image x0 g) := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  sl_unfold_words
  simp only [View.readAt_eq_ld, harg1.read_unread, harg2.read_unread, harg3.read_unread, harg4.read_unread, readCov_slabs]
  generalize hML : (k0_pay3 : FVec Ideal S64x784 .f32) = ML
  generalize hMR : (k0_pay4 : FVec Ideal S64x784 .f32) = MR
  have eML : ∀ o q, ML (ix2 o q) = if 1 ≤ q.val % 28 then 1 else 0 := fun o q => by rw [← hML]; exact left_mask o q
  have eMR : ∀ o q, MR (ix2 o q) = if q.val % 28 < 27 then 1 else 0 := fun o q => by rw [← hMR]; exact right_mask o q
  clear hML hMR
  generalize hX1 : gather8 (k0_pay5 (F := Ideal) _) _ _ _ _ _ _ _ = X1
  have eX1 : X1 = beside fun g => ConvSpec.stacked (image x0 g) := by
    rw [← hX1]
    refine gather8_eq _ _ _ _ _ _ _ _ _ ?_ ?_ ?_ ?_ ?_ ?_ ?_ ?_ <;> intro r q <;> unfold_payloads <;> pointwise <;> rfl
  clear hX1
  simp only [k0_pay19, k0_pay20, k0_pay21, k0_pay39]
  generalize hY1 : k0_pay18 (F := Ideal) _ X1 = Y1
  have eY1 : ∀ g, part Y1 g = ConvSpec.prod W1 (image x0 g) := by
    refine part_product x1 W1 hW1 (fun g => image x0 g) Y1 fun r q => ?_
    rw [← hY1, ← eX1]
    unfold_payloads
    pointwise
  clear hY1
  generalize hs1 : k0_pay14 (F := Ideal) _ = s1
  have es1 : ∀ o, s1 (ix2 o 0) = x3 (ix2 o 0) * ConvSpec.invBn := fun o => by
    rw [← hs1, ← inv_bn]; unfold_payloads; pointwise
  generalize hb1 : k0_pay15 (F := Ideal) _ = b1
  have eb1 : ∀ o, b1 (ix2 o 0) = x3 (ix2 o 1) := fun o => by
    rw [← hb1]; unfold_payloads; pointwise
  generalize hs2 : k0_pay16 (F := Ideal) _ = s2
  have es2 : ∀ o, s2 (ix2 o 0) = x3 (ix2 o 2) * ConvSpec.invBn := fun o => by
    rw [← hs2, ← inv_bn]; unfold_payloads; pointwise
  generalize hb2 : k0_pay17 (F := Ideal) _ = b2
  have eb2 : ∀ o, b2 (ix2 o 0) = x3 (ix2 o 3) := fun o => by
    rw [← hb2]; unfold_payloads; pointwise
  clear hs1 hb1 hs2 hb2
  generalize hX2 : gather8 _ _ _ _ _ _ _ _ = X2
  have eX2 : X2 = beside fun g => ConvSpec.stacked (act (part Y1 g) (fun o => s1 (ix2 o 0)) (fun o => b1 (ix2 o 0))) := by
    rw [← hX2]
    refine gather8_eq _ _ _ _ _ _ _ _ _ ?_ ?_ ?_ ?_ ?_ ?_ ?_ ?_ <;> intro r q
    · exact stack_act ML MR eML eMR 0 Y1 slices_S192x6272_o0_0_S192x784 0 rfl s1 b1 r q
    · exact stack_act ML MR eML eMR 784 Y1 slices_S192x6272_o0_784_S192x784 1 rfl s1 b1 r q
    · exact stack_act ML MR eML eMR 1568 Y1 slices_S192x6272_o0_1568_S192x784 2 rfl s1 b1 r q
    · exact stack_act ML MR eML eMR 2352 Y1 slices_S192x6272_o0_2352_S192x784 3 rfl s1 b1 r q
    · exact stack_act ML MR eML eMR 3136 Y1 slices_S192x6272_o0_3136_S192x784 4 rfl s1 b1 r q
    · exact stack_act ML MR eML eMR 3920 Y1 slices_S192x6272_o0_3920_S192x784 5 rfl s1 b1 r q
    · exact stack_act ML MR eML eMR 4704 Y1 slices_S192x6272_o0_4704_S192x784 6 rfl s1 b1 r q
    · exact stack_act ML MR eML eMR 5488 Y1 slices_S192x6272_o0_5488_S192x784 7 rfl s1 b1 r q
  clear hX2
  generalize hY2 : k0_pay38 (F := Ideal) _ X2 = Y2
  have eY2 : ∀ g, part Y2 g = ConvSpec.prod W2 (act (part Y1 g) (fun o => s1 (ix2 o 0)) (fun o => b1 (ix2 o 0))) := by
    refine part_product x2 W2 hW2 (fun g => act (part Y1 g) (fun o => s1 (ix2 o 0)) (fun o => b1 (ix2 o 0))) Y2 fun r q => ?_
    rw [← hY2, ← eX2]
    unfold_payloads
    pointwise
  clear hY2
  have eF : ∀ g, ConvSpec.feat W1 (fun o => x3 (ix2 o 0)) (fun o => x3 (ix2 o 1)) W2 (fun o => x3 (ix2 o 2)) (fun o => x3 (ix2 o 3)) (image x0 g)
      = ConvSpec.pool (act (part Y2 g) (fun o => s2 (ix2 o 0)) (fun o => b2 (ix2 o 0))) := fun g => by
    funext o
    unfold ConvSpec.feat
    rw [eY2, eY1, act_product W1 (image x0 g) _ _ _ es1, act_product W2 _ _ _ _ es2]
    simp only [eb1, eb2]
  simp only [eF]
  refine canon_rows _ _ _ _ _ _ _ _ (fun g => ConvSpec.pool (act (part Y2 g) (fun o => s2 (ix2 o 0)) (fun o => b2 (ix2 o 0)))) ?_ ?_ ?_ ?_ ?_ ?_ ?_ ?_ <;> intro a o z
  · exact pool_act ML MR eML eMR 0 Y2 slices_S192x6272_o0_0_S192x784 0 rfl s2 b2 a o z
  · exact pool_act ML MR eML eMR 784 Y2 slices_S192x6272_o0_784_S192x784 1 rfl s2 b2 a o z
  · exact pool_act ML MR eML eMR 1568 Y2 slices_S192x6272_o0_1568_S192x784 2 rfl s2 b2 a o z
  · exact pool_act ML MR eML eMR 2352 Y2 slices_S192x6272_o0_2352_S192x784 3 rfl s2 b2 a o z
  · exact pool_act ML MR eML eMR 3136 Y2 slices_S192x6272_o0_3136_S192x784 4 rfl s2 b2 a o z
  · exact pool_act ML MR eML eMR 3920 Y2 slices_S192x6272_o0_3920_S192x784 5 rfl s2 b2 a o z
  · exact pool_act ML MR eML eMR 4704 Y2 slices_S192x6272_o0_4704_S192x784 6 rfl s2 b2 a o z
  · exact pool_act ML MR eML eMR 5488 Y2 slices_S192x6272_o0_5488_S192x784 7 rfl s2 b2 a o z

end Cert.KernelIdeal.ConvBlock

end
-- ==== Proof.ConvFinal.lean ====
/- The convolution kernel's result array after the run, as a function of the launch arguments: the feature of every
   image. -/
module

public import proofs.«01_k».proof.Proof.ConvBlock
public import Idealize.ShloMosaic.Lib.Pipeline.ValueKit
public import Idealize.ShloMosaic.Lib.StableHlo.RunRead

@[expose] public section

set_option maxRecDepth 16384

noncomputable section

namespace Cert.KernelIdeal.ConvFinal

open Cert.KernelIdeal Cert.KernelIdeal.Gen Cert.KernelIdeal.Value Cert.KernelIdeal.ConvBlock
open Idealize.ShloMosaic Idealize.ShloMosaic.TcCoe Idealize.SL.Sem

variable (m : (ℓ : Loc nD τ sig) → Buf (Elt Ideal) ℓ)

/-- A convolution's weights by output channel, input channel, tap row and tap column. -/
def weights (w : Vec Ideal S64x64x3x3 .f32) (o ci : Fin 64) (dh dw : Fin 3) : EReal := w (ix4 o ci dh dw)

/-- Image `b` by channel and pixel number. -/
def pixels (x : Vec Ideal S64x64x28x28 .f32) (b c : Fin 64) (p : Fin 784) : EReal :=
  x (ix4 b c ⟨p.val / 28, by omega⟩ ⟨p.val % 28, by omega⟩)

/-- A vector of 64 entries, by entry. -/
def entries (g : Vec Ideal S64 .f32) (o : Fin 64) : EReal := g (ix1 o)

theorem pixels_read (x : Vec Ideal S64x64x28x28 .f32) (b k : Fin 64) (p : Fin 784) :
    shapeCast S64x64x784 x shapeCasts_S64x64x28x28_S64x64x784 (ix3 b k p) = pixels x b k p := by
  unfold pixels
  refine shapeCast_apply _ _ _ _ ?_
  rw [Shape.rowMajor_val_three, Shape.rowMajor_val_four]
  simp only [ix3, ix4]
  show ((b.val * 64 + k.val) * 28 + p.val / 28) * 28 + p.val % 28 = (b.val * 64 + k.val) * 784 + p.val
  omega

/-- The images as the kernel finds them: rows of pixels joined. -/
theorem images (c : Dev nD) (b k : Fin 64) (p : Fin 784) :
    V m c main_v0 (ix3 b k p) = pixels (m ((c : Thread nD τ).loc main_arg0)) b k p := by
  refine Eq.trans ?_ (pixels_read _ b k p)
  show StableHlo.after hostOps0 _ (Proc.devRef .tc main_v0) _ = _
  after_results
  rfl

/-- The transposed and joined weights are the packed matrix. -/
theorem pack_read (w : Vec Ideal S64x64x3x3 .f32) (r k : Fin 192) :
    truncf (F := Ideal) .bf16 (shapeCast S192x192 (transpose S3x64x3x64 [3, 0, 2, 1] w transposes_S64x64x3x3_S3x64x3x64_3_0_2_1)
      shapeCasts_S3x64x3x64_S192x192) bitsLt_bf16_f32 (ix2 r k) = ConvSpec.packed (weights w) r k := by
  show shapeCast S192x192 (transpose S3x64x3x64 [3, 0, 2, 1] w transposes_S64x64x3x3_S3x64x3x64_3_0_2_1)
      shapeCasts_S3x64x3x64_S192x192 (ix2 r k) = _
  rw [shapeCast_apply _ shapeCasts_S3x64x3x64_S192x192 (ix2 r k)
    (ix4 ⟨r.val / 64, by omega⟩ ⟨r.val % 64, by omega⟩ ⟨k.val / 64, by omega⟩ ⟨k.val % 64, by omega⟩) (by
      rw [Shape.rowMajor_val_two, Shape.rowMajor_val_four]
      simp only [ix2, ix4]
      show ((r.val / 64 * 64 + r.val % 64) * 3 + k.val / 64) * 64 + k.val % 64 = r.val * 192 + k.val
      omega)]
  exact transpose_apply [3, 0, 2, 1] w _ _ (ix4 ⟨r.val % 64, by omega⟩ ⟨k.val % 64, by omega⟩ ⟨k.val / 64, by omega⟩ ⟨r.val / 64, by omega⟩)
    (fun b => match b with | ⟨0, _⟩ => rfl | ⟨1, _⟩ => rfl | ⟨2, _⟩ => rfl | ⟨3, _⟩ => rfl)

/-- The first layer's weights as the kernel finds them. -/
theorem weights1 (c : Dev nD) (r k : Fin 192) :
    V m c main_v3 (ix2 r k) = ConvSpec.packed (weights (m ((c : Thread nD τ).loc main_arg1))) r k := by
  refine Eq.trans ?_ (pack_read _ r k)
  show StableHlo.after hostOps0 _ (Proc.devRef .tc main_v3) _ = _
  after_results
  rfl

/-- The second layer's weights as the kernel finds them. -/
theorem weights2 (c : Dev nD) (r k : Fin 192) :
    V m c main_v6 (ix2 r k) = ConvSpec.packed (weights (m ((c : Thread nD τ).loc main_arg4))) r k := by
  refine Eq.trans ?_ (pack_read _ r k)
  show StableHlo.after hostOps0 _ (Proc.devRef .tc main_v6) _ = _
  after_results
  rfl

/-- The table of scales and shifts, a column each. -/
def table (a b d e : Vec Ideal S64 .f32) : Vec Ideal S64x4 .f32 :=
  concatenate S64x4 1 [⟨S64x1, broadcastInDim S64x1 ![0] bcast_S64_S64x1_0 a⟩, ⟨S64x1, broadcastInDim S64x1 ![0] bcast_S64_S64x1_0 b⟩,
    ⟨S64x1, broadcastInDim S64x1 ![0] bcast_S64_S64x1_0 d⟩, ⟨S64x1, broadcastInDim S64x1 ![0] bcast_S64_S64x1_0 e⟩]
    concatenates_S64x1_S64x1_S64x1_S64x1_S64x4_d1

theorem table_read (a b d e : Vec Ideal S64 .f32) (o : Fin 64) :
    table a b d e (ix2 o 0) = entries a o ∧ table a b d e (ix2 o 1) = entries b o
      ∧ table a b d e (ix2 o 2) = entries d o ∧ table a b d e (ix2 o 3) = entries e o := by
  unfold table entries
  refine ⟨?_, ?_, ?_, ?_⟩ <;> pointwise <;> rfl

theorem table_found (c : Dev nD) : V m c main_v11 = table (m ((c : Thread nD τ).loc main_arg2))
    (m ((c : Thread nD τ).loc main_arg3)) (m ((c : Thread nD τ).loc main_arg5)) (m ((c : Thread nD τ).loc main_arg6)) := by
  show StableHlo.after hostOps0 _ (Proc.devRef .tc main_v11) = _
  after_results
  rfl

/-- The blocks' positions at each grid point. -/
theorem index0 : ∀ t : Fin cfg0.N, win0_0.index t = ![(grid0.coords t 0).val, 0, 0] :=
  (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![(grid0.coords t 0).val, 0, 0] :=
  (by decide +kernel : ∀ t : Fin grid0.N, _)

/-- The features of all images, from the seven launch arguments. -/
def features (x : Vec Ideal S64x64x28x28 .f32) (w1 : Vec Ideal S64x64x3x3 .f32) (g1 b1 : Vec Ideal S64 .f32)
    (w2 : Vec Ideal S64x64x3x3 .f32) (g2 b2 : Vec Ideal S64 .f32) : Vec Ideal S64x64x1 .f32 := fun j =>
  ConvSpec.feat (weights w1) (entries g1) (entries b1) (weights w2) (entries g2) (entries b2) (pixels x (j 0)) (j 1)

theorem block1 (c : Dev nD) (t : Fin cfg0.N) : iblk m c 1 t = V m c main_v3 := by
  blk_ext! [iblk, index1 t]
theorem block2 (c : Dev nD) (t : Fin cfg0.N) : iblk m c 2 t = V m c main_v6 := by
  blk_ext! [iblk, index2 t]
theorem block3 (c : Dev nD) (t : Fin cfg0.N) : iblk m c 3 t = V m c main_v11 := by
  blk_ext! [iblk, index3 t]

/-- The result array after the run. -/
theorem final (c : Dev nD) : (dats m 0 c).arrAt 4 cfg0.N
    = features (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 4 _ (by decide +kernel) fun t hf y => ?_
  blk_simp
  rw [after0_4]
  unfold outsAt0
  rw [block c _ _ _ _ _ _ _ _ _ _ _ _ _ (iblk m c 0 t) _ _ _ _ _ (fun r k => (congrFun (block1 m c t) _).trans (weights1 m c r k))
    (fun r k => (congrFun (block2 m c t) _).trans (weights2 m c r k)), block3, table_found]
  obtain ⟨h0, h1, h2, h3⟩ := And.intro (fun o => (table_read (m ((c : Thread nD τ).loc main_arg2))
    (m ((c : Thread nD τ).loc main_arg3)) (m ((c : Thread nD τ).loc main_arg5)) (m ((c : Thread nD τ).loc main_arg6)) o).1)
    (And.intro (fun o => (table_read (m ((c : Thread nD τ).loc main_arg2))
    (m ((c : Thread nD τ).loc main_arg3)) (m ((c : Thread nD τ).loc main_arg5)) (m ((c : Thread nD τ).loc main_arg6)) o).2.1)
    (And.intro (fun o => (table_read (m ((c : Thread nD τ).loc main_arg2))
    (m ((c : Thread nD τ).loc main_arg3)) (m ((c : Thread nD τ).loc main_arg5)) (m ((c : Thread nD τ).loc main_arg6)) o).2.2.1)
    (fun o => (table_read (m ((c : Thread nD τ).loc main_arg2))
    (m ((c : Thread nD τ).loc main_arg3)) (m ((c : Thread nD τ).loc main_arg5)) (m ((c : Thread nD τ).loc main_arg6)) o).2.2.2)))
  simp only [h0, h1, h2, h3, outBlock, features]
  have e1 : ((win0_4.blk t).view.emb y 1 : Fin 64) = y 1 := by apply Fin.ext; blk_simp [index4 t]
  have e0 : image (iblk m c 0 t) (y 0) = pixels (m ((c : Thread nD τ).loc main_arg0)) ((win0_4.blk t).view.emb y 0) := by
    funext k p
    refine Eq.trans ?_ (images m c _ k p)
    unfold image
    blk_simp [iblk, index0 t]
    congr 1
    funext a
    apply Fin.ext
    match a with
    | ⟨0, _⟩ => blk_simp [index0 t, index4 t]
    | ⟨1, _⟩ => blk_simp [index0 t]
    | ⟨2, _⟩ => blk_simp [index0 t]
  rw [e0, e1]

end Cert.KernelIdeal.ConvFinal

end
-- ==== Proof.RefValue.lean ====
/- The reference's result read as mathematics: the same feature of every image. -/
module

public import proofs.«01_k».proof.Proof.ConvSpec
public import proofs.«01_k».proof.Proof.Gen.ReferenceIdeal.Read
public import Idealize.ShloMosaic.Lib.Pointwise.Tactic
public import Idealize.ShloMosaic.Lib.Pointwise.Reshape
public import Idealize.ShloMosaic.Lib.Pointwise.Select

@[expose] public section

set_option maxRecDepth 16384

noncomputable section

namespace Cert.ReferenceIdeal.RefValue

open Cert.ReferenceIdeal Cert.ReferenceIdeal.Read Cert.ReferenceIdeal.Gen Idealize.ShloMosaic Idealize.ShloMosaic.TcCoe Idealize.SL.Sem

/-- A convolution's weights by output channel, input channel, tap row and tap column. -/
def weights (w : Vec Ideal S64x64x3x3 .f32) (o ci : Fin 64) (dh dw : Fin 3) : EReal := w (ix4 o ci dh dw)

/-- Image `b` by channel and pixel number. -/
def pixels (x : Vec Ideal S64x64x28x28 .f32) (b c : Fin 64) (p : Fin 784) : EReal :=
  x (ix4 b c ⟨p.val / 28, by omega⟩ ⟨p.val % 28, by omega⟩)

/-- A vector of 64 entries, by entry. -/
def entries (g : Vec Ideal S64 .f32) (o : Fin 64) : EReal := g (ix1 o)

/-- A sum over 576 indices, by tap row, tap column and channel. -/
theorem sum_576 (F : Fin 576 → EReal) :
    ∑ k : Fin 576, F k = ∑ dh : Fin 3, ∑ dw : Fin 3, ∑ ci : Fin 64, F ⟨(dh.val * 3 + dw.val) * 64 + ci.val, by omega⟩ := by
  have h1 : ∑ k : Fin (9 * 64), F k = ∑ t : Fin (3 * 3), ∑ ci : Fin 64, F ⟨t.val * 64 + ci.val, by omega⟩ := by
    rw [← (finProdFinEquiv (m := 9) (n := 64)).sum_comp, Fintype.sum_prod_type]
    refine Finset.sum_congr rfl fun t _ => Finset.sum_congr rfl fun ci _ => congrArg F (Fin.ext ?_)
    simp [finProdFinEquiv]; omega
  refine h1.trans ?_
  rw [← (finProdFinEquiv (m := 3) (n := 3)).sum_comp, Fintype.sum_prod_type]
  refine Finset.sum_congr rfl fun t _ => Finset.sum_congr rfl fun s _ => Finset.sum_congr rfl fun ci _ => congrArg F (Fin.ext ?_)
  simp [finProdFinEquiv]; omega

/-- The padded image. -/
theorem padded (x : Vec Ideal S64x64x28x28 .f32) (b c : Fin 64) (h w : Fin 30) :
    val_main_v0 (F := Ideal) x (ix4 b c h w) = ConvSpec.tap (pixels x b c) h.val w.val := by
  have hz : (val_main_call0_v0 (F := Ideal)) (Shape.Idx.first h_S_) = 0 := by
    rw [val_main_call0_v0_apply, val_main_c_apply]
    simp [FloatOps.sitofp]
  unfold val_main_v0 pad ConvSpec.tap
  by_cases hc : (1 ≤ h.val ∧ h.val ≤ 28) ∧ 1 ≤ w.val ∧ w.val ≤ 28
  · rw [dif_pos hc, dif_pos (by
      intro a
      match a with
      | ⟨0, _⟩ => show 0 ≤ b.val ∧ (b.val - 0) % (0 + 1) = 0 ∧ (b.val - 0) / (0 + 1) < 64; omega
      | ⟨1, _⟩ => show 0 ≤ c.val ∧ (c.val - 0) % (0 + 1) = 0 ∧ (c.val - 0) / (0 + 1) < 64; omega
      | ⟨2, _⟩ => show 1 ≤ h.val ∧ (h.val - 1) % (0 + 1) = 0 ∧ (h.val - 1) / (0 + 1) < 28; omega
      | ⟨3, _⟩ => show 1 ≤ w.val ∧ (w.val - 1) % (0 + 1) = 0 ∧ (w.val - 1) / (0 + 1) < 28; omega)]
    unfold pixels
    congr 1
    funext a
    apply Fin.ext
    match a with
    | ⟨0, _⟩ => show (b.val - 0) / (0 + 1) = b.val; omega
    | ⟨1, _⟩ => show (c.val - 0) / (0 + 1) = c.val; omega
    | ⟨2, _⟩ => show (h.val - 1) / (0 + 1) = ((h.val - 1) * 28 + (w.val - 1)) / 28; omega
    | ⟨3, _⟩ => show (w.val - 1) / (0 + 1) = ((h.val - 1) * 28 + (w.val - 1)) % 28; omega
  · rw [dif_neg hc, dif_neg (by
      intro hin
      have h2 : 1 ≤ h.val ∧ (h.val - 1) % (0 + 1) = 0 ∧ (h.val - 1) / (0 + 1) < 28 := hin 2
      have h3 : 1 ≤ w.val ∧ (w.val - 1) % (0 + 1) = 0 ∧ (w.val - 1) / (0 + 1) < 28 := hin 3
      omega)]
    exact hz

theorem shifted (x : Vec Ideal S64x64x28x28 .f32) (b : Fin 64) (k : Fin 576) (h w : Fin 28) :
    val_main_v10 (F := Ideal) x (ix4 b k h w) = val_main_v0 (F := Ideal) x
      (ix4 b ⟨k.val % 64, by omega⟩ ⟨h.val + k.val / 64 / 3, by omega⟩ ⟨w.val + k.val / 64 % 3, by omega⟩) := by
  unfold val_main_v10
  pointwise
  simp only [val_main_v1_apply, val_main_v2_apply, val_main_v3_apply, val_main_v4_apply, val_main_v5_apply, val_main_v6_apply,
    val_main_v7_apply, val_main_v8_apply, val_main_v9_apply]
  split_ifs
  all_goals
    congr 1
    funext a
    apply Fin.ext
    match a with
    | ⟨0, _⟩ => rfl
    | ⟨1, _⟩ => simp only [ix4]; omega
    | ⟨2, _⟩ => simp only [ix4]; omega
    | ⟨3, _⟩ => simp only [ix4]; omega

/-- The convolution. -/
theorem conv_read (x : Vec Ideal S64x64x28x28 .f32) (w : Vec Ideal S64x64x3x3 .f32) (b o : Fin 64) (p : Fin 784) :
    val_main_v14 (F := Ideal) x w (ix4 b o ⟨p.val / 28, by omega⟩ ⟨p.val % 28, by omega⟩)
      = ConvSpec.conv (weights w) (pixels x b) o p := by
  rw [val_main_v14_apply, val_main_v13_apply, sum_576]
  unfold ConvSpec.conv
  refine Finset.sum_congr rfl fun dh _ => Finset.sum_congr rfl fun dw _ => Finset.sum_congr rfl fun ci _ => ?_
  rw [mul_comm]
  refine congrArg₂ (· * ·) ?_ ?_
  · rw [val_main_v12_apply, val_main_v11_apply]
    unfold weights
    congr 1
    funext a
    apply Fin.ext
    match a with
    | ⟨0, _⟩ => show (o.val * 576 + ((dh.val * 3 + dw.val) * 64 + ci.val)) / 576 = o.val; omega
    | ⟨1, _⟩ => show (o.val * 576 + ((dh.val * 3 + dw.val) * 64 + ci.val)) % 64 = ci.val; omega
    | ⟨2, _⟩ => show (o.val * 576 + ((dh.val * 3 + dw.val) * 64 + ci.val)) / 192 % 3 = dh.val; omega
    | ⟨3, _⟩ => show (o.val * 576 + ((dh.val * 3 + dw.val) * 64 + ci.val)) / 64 % 3 = dw.val; omega
  · have e : lidx_main_v13 (idx_main_v14 (ix4 b o (⟨p.val / 28, by omega⟩ : Fin 28) (⟨p.val % 28, by omega⟩ : Fin 28)))
        ⟨(dh.val * 3 + dw.val) * 64 + ci.val, by omega⟩
        = ix4 b ⟨(dh.val * 3 + dw.val) * 64 + ci.val, by omega⟩ ⟨p.val / 28, by omega⟩ ⟨p.val % 28, by omega⟩ := by
      funext a; apply Fin.ext
      match a with
      | ⟨0, _⟩ => rfl
      | ⟨1, _⟩ => rfl
      | ⟨2, _⟩ => rfl
      | ⟨3, _⟩ => rfl
    rw [e, shifted]
    rw [padded]
    have e1 : ((dh.val * 3 + dw.val) * 64 + ci.val) / 64 / 3 = dh.val := by omega
    have e2 : ((dh.val * 3 + dw.val) * 64 + ci.val) / 64 % 3 = dw.val := by omega
    have e3 : (⟨((dh.val * 3 + dw.val) * 64 + ci.val) % 64, by omega⟩ : Fin 64) = ci := Fin.ext (by show _ % 64 = ci.val; omega)
    simp only [e1, e2, e3]

/-- Dividing by the square root and scaling is scaling by the scale times its reciprocal. -/
theorem normalise (z g : EReal) :
    Ideal.div z (Ideal.sqrt (Ideal.ofBits .f32 0x3F800054#32)) * g = z * (g * ConvSpec.invBn) := by
  have e : Ideal.ofBits .f32 0x3F800054#32 = ((2097173 / 2097152 : ℝ) : EReal) := by
    simp [Ideal.ofBits, Ideal.ieee, -EReal.coe_mul]; norm_num
  have hs : Real.sqrt (2097173 / 2097152) ≠ 0 := (Real.sqrt_pos.mpr (by norm_num)).ne'
  rw [e, Ideal.sqrt_coe]
  rw [if_neg (by norm_num), Ideal.div_coe hs, one_div, mul_assoc, mul_comm ((_ : ℝ) : EReal) g]
  rfl

/-- One layer. -/
theorem layer_read (x : Vec Ideal S64x64x28x28 .f32) (w : Vec Ideal S64x64x3x3 .f32) (g s : Vec Ideal S64 .f32) (b : Fin 64) :
    pixels (val_main_v25 (F := Ideal) x w g s) b = ConvSpec.layer (weights w) (entries g) (entries s) (pixels x b) := by
  funext o p
  unfold pixels ConvSpec.layer
  rw [val_main_v25_apply, val_main_v24_apply, val_main_v21_apply, val_main_v18_apply, conv_read, val_main_v17_apply,
    val_main_v16_apply, val_main_v15_apply, val_main_cst_apply, val_main_v20_apply, val_main_v19_apply, val_main_v23_apply,
    val_main_v22_apply, val_main_call1_v0_apply, val_main_call1_cst_apply]
  simp only [Ideal.maximumf_def, Ideal.addf_def, Ideal.mulf_def, Ideal.hostDivf_def, Ideal.hostUnary_sqrt_def, Ideal.ofBits_def,
    Ideal.ofBits_zero_f32, normalise]
  unfold entries
  have e1 : idx_main_v19 (idx_main_v20 (ix4 b o (⟨p.val / 28, by omega⟩ : Fin 28) (⟨p.val % 28, by omega⟩ : Fin 28))) = ix1 o := by
    funext a; apply Fin.ext
    match a with
    | ⟨0, _⟩ => rfl
  have e2 : idx_main_v22 (idx_main_v23 (ix4 b o (⟨p.val / 28, by omega⟩ : Fin 28) (⟨p.val % 28, by omega⟩ : Fin 28))) = ix1 o := by
    funext a; apply Fin.ext
    match a with
    | ⟨0, _⟩ => rfl
  rw [e1, e2]
  rfl

/-- The second layer is the first one's text again. -/
theorem second (x : Vec Ideal S64x64x28x28 .f32) (w1 : Vec Ideal S64x64x3x3 .f32) (g1 s1 : Vec Ideal S64 .f32)
    (w2 : Vec Ideal S64x64x3x3 .f32) (g2 s2 : Vec Ideal S64 .f32) :
    val_main_v51 (F := Ideal) x w1 g1 s1 w2 g2 s2 = val_main_v25 (F := Ideal) (val_main_v25 (F := Ideal) x w1 g1 s1) w2 g2 s2 := by
  rfl

/-- The result. -/
theorem result (x : Vec Ideal S64x64x28x28 .f32) (w1 : Vec Ideal S64x64x3x3 .f32) (g1 s1 : Vec Ideal S64 .f32)
    (w2 : Vec Ideal S64x64x3x3 .f32) (g2 s2 : Vec Ideal S64 .f32) (b o : Fin 64) (z : Fin 1) :
    val_main_v56 (F := Ideal) x w1 g1 s1 w2 g2 s2 (ix3 b o z) = ConvSpec.feat (weights w1) (entries g1) (entries s1) (weights w2)
      (entries g2) (entries s2) (pixels x b) o := by
  unfold ConvSpec.feat ConvSpec.pool
  rw [val_main_v56_apply, val_main_v55_apply, val_main_v53_apply, val_main_v54_apply, val_main_cst_2_apply, val_main_cst_3_apply,
    ← layer_read, ← layer_read, ← second]
  have h784 : Ideal.ofBits .f32 0x44440000#32 = ((784 : ℝ) : EReal) := by
    simp [Ideal.ofBits, Ideal.ieee, -EReal.coe_mul]; norm_num
  simp only [Ideal.hostDivf_def, Ideal.ofBits_def, Ideal.ofBits_zero_f32, zero_add, h784]
  rw [Ideal.div_coe (by norm_num)]
  refine congrArg (· * _) (Finset.sum_congr rfl fun p _ => ?_)
  rw [val_main_v52_apply]
  generalize val_main_v51 (F := Ideal) x w1 g1 s1 w2 g2 s2 = y
  unfold pixels
  refine congrArg y ?_
  funext a; apply Fin.ext
  match a with
  | ⟨0, _⟩ => show ((b.val * 64 + o.val) * 784 + p.val) / 50176 = b.val; omega
  | ⟨1, _⟩ => show ((b.val * 64 + o.val) * 784 + p.val) / 784 % 64 = o.val; omega
  | ⟨2, _⟩ => show ((b.val * 64 + o.val) * 784 + p.val) / 28 % 28 = p.val / 28; omega
  | ⟨3, _⟩ => show ((b.val * 64 + o.val) * 784 + p.val) % 28 = p.val % 28; omega

end Cert.ReferenceIdeal.RefValue

end
-- ==== Proof.StreamFrame.lean ====
/- The stream kernel's frame at any float values: every run of the program ends, nothing faults, the argument arrays end
   unchanged and the counters at zero. Nothing is said here of the two results. -/
module

public import proofs.«01_k».proof.Proof.StreamBody
public import proofs.«01_k».proof.Proof.Gen.Stream.Frame

@[expose] public section

set_option maxRecDepth 16384

noncomputable section

namespace Cert.Stream.Run

open Cert.Stream Cert.Stream.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F] [Nonempty (F .f32)] [∀ e, Nonempty (Elt F e)]

local notation "𝕄" => MT nD τ sig Unit (Elt F) ℕ (UR sig nD τ) ℕ

variable (m : (ℓ : Loc nD τ sig) → Buf (Elt F) ℓ) (ρ : Dev nD → PrngReg)

/-- No point is both the first and the last. -/
theorem not_both : ∀ t : Fin cfg0.N, Body.isFirst (grid0.coords t) = 1#1 → ¬ k0_cond2 (grid0.coords t) = 1#1 :=
  (by decide +kernel : ∀ t : Fin grid0.N, Body.isFirst (grid0.coords t) = 1#1 → ¬ k0_cond2 (grid0.coords t) = 1#1)

/-- The two results' windows are forgotten: the frame does not read them. -/
def forgets : Fin 12 → Bool := fun w => match w with | ⟨10, _⟩ => true | ⟨11, _⟩ => true | _ => false

/-- The proof data: each input's buffer at its block (filled by anything beyond the array's edge), the results unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => win0_3.fill (grid0.coords t) (fun _ => Classical.arbitrary _) (iblk m c 3 t)
    | ⟨4, _⟩ => win0_4.fill (grid0.coords t) (fun _ => Classical.arbitrary _) (iblk m c 4 t)
    | ⟨5, _⟩ => win0_5.fill (grid0.coords t) (fun _ => Classical.arbitrary _) (iblk m c 5 t)
    | ⟨6, _⟩ => iblk m c 6 t
    | ⟨7, _⟩ => iblk m c 7 t
    | ⟨8, _⟩ => iblk m c 8 t
    | ⟨9, _⟩ => iblk m c 9 t
    | ⟨10, _⟩ => Pipeline.Dat.unnamed (cfg := cfg0) 10 t
    | ⟨11, _⟩ => Pipeline.Dat.unnamed (cfg := cfg0) 11 t
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = win0_3.fill (grid0.coords t) (fun _ => Classical.arbitrary _) (iblk m c 3 t) := by dsimp only [dats]
theorem after4 (c : Dev nD) (t : Fin cfg0.N) : (dats m 0 c).after 4 t = win0_4.fill (grid0.coords t) (fun _ => Classical.arbitrary _) (iblk m c 4 t) := by dsimp only [dats]
theorem after5 (c : Dev nD) (t : Fin cfg0.N) : (dats m 0 c).after 5 t = win0_5.fill (grid0.coords t) (fun _ => Classical.arbitrary _) (iblk m c 5 t) := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = win0_3.fill (grid0.coords t) d (iblk m c 3 t) := by
  unfold Dat.before; rw [if_pos (fetch0_3 t)]; rfl
theorem before4 (c : Dev nD) (t : Fin cfg0.N) (d) : (dats m 0 c).before 4 t d = win0_4.fill (grid0.coords t) d (iblk m c 4 t) := by
  unfold Dat.before; rw [if_pos (fetch0_4 t)]; rfl
theorem before5 (c : Dev nD) (t : Fin cfg0.N) (d) : (dats m 0 c).before 5 t d = win0_5.fill (grid0.coords t) d (iblk m c 5 t) := by
  unfold Dat.before; rw [if_pos (fetch0_5 t)]; rfl
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- The invariant, conjunct by conjunct: the five scratch buffers at some contents and the generator register. -/
theorem PhiA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)
        ∗ (∃ d, owns (c : Thread nD τ) (Memref.whole cc0_scratch4) fullShare d)) ∗ (∃ r, prngReg c r)) := by
  unfold Pipeline.ΦA; rw [scopedRest0_eq]; simp only [owns_whole]; try rfl

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d))
      ∗ (∃ d, owns (c : Thread nD τ) (st0_9 t) fullShare ((dats m 0 c).before 9 t d))
      ∗ (∃ X, owns (c : Thread nD τ) (st0_10 t) fullShare X)
      ∗ (∃ X, owns (c : Thread nD τ) (st0_11 t) fullShare X))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ (∃ d, owns (c : Thread nD τ) (st0_3 t) fullShare ((cfg0.win 3).fill (cfg0.grid.coords t) d ((cfg0.win 3).cut (cfg0.grid.coords t) ((dats m 0 c).after 3 t))))
      ∗ (∃ d, owns (c : Thread nD τ) (st0_4 t) fullShare ((cfg0.win 4).fill (cfg0.grid.coords t) d ((cfg0.win 4).cut (cfg0.grid.coords t) ((dats m 0 c).after 4 t))))
      ∗ (∃ d, owns (c : Thread nD τ) (st0_5 t) fullShare ((cfg0.win 5).fill (cfg0.grid.coords t) d ((cfg0.win 5).cut (cfg0.grid.coords t) ((dats m 0 c).after 5 t))))
      ∗ owns (c : Thread nD τ) (st0_6 t) fullShare ((dats m 0 c).after 6 t)
      ∗ owns (c : Thread nD τ) (st0_7 t) fullShare ((dats m 0 c).after 7 t)
      ∗ owns (c : Thread nD τ) (st0_8 t) fullShare ((dats m 0 c).after 8 t)
      ∗ owns (c : Thread nD τ) (st0_9 t) fullShare ((dats m 0 c).after 9 t)
      ∗ (∃ X, owns (c : Thread nD τ) (st0_10 t) fullShare X)
      ∗ (∃ X, owns (c : Thread nD τ) (st0_11 t) fullShare X))

/-- The body at any point runs to its return. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  rw [show (dats m 0 c).Φ t.castSucc = Pipeline.ΦA spec0 c from rfl, PhiA_eq]
  iintro ⟨⟨⟨⟨%e0, S0⟩, ⟨%e1, S1⟩, ⟨%e2, S2⟩, ⟨%e3, S3⟩, ⟨%e4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%X10, H10⟩, ⟨%X11, H11⟩⟩
  by_cases hc1 : Body.isFirst (grid0.coords t) = 1#1
  · have hc2 := not_both t hc1
    iapply (Body.run_first c (grid0.coords t) _ _ _ _ _ _ _ _ _ _ _ _ _ _ _ _ _ _ _ _ _ _ _ _ _ _ _ _ _ _ _ _ _ _ (iblk m c 0 t) (iblk m c 1 t) (iblk m c 2 t) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) (iblk m c 9 t) X10 X11 e0 e1 e2 e3 e4 hc1 hc2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    iintro ⟨H0, H1, H2, H3, H4, H5, H6, H7, H8, H9, H10, H11, S0, S1, S2, S3, S4⟩
    isplitl [S0 S1 S2 S3 S4 Hg]
    · isplitl [S0 S1 S2 S3 S4]
      · isplitl [S0]; · iexists _; iexact S0
        isplitl [S1]; · iexists _; iexact S1
        isplitl [S2]; · iexists _; iexact S2
        isplitl [S3]; · iexists _; iexact S3
        iexists _; iexact S4
      iexact Hg
    isplitl [Ho]; · iexact Ho
    isplitl [H0]; · iexact H0
    isplitl [H1]; · iexact H1
    isplitl [H2]; · iexact H2
    isplitl [H3]; · iexists d3; rw [show (cfg0.win 3).cut (cfg0.grid.coords t) (win0_3.fill (grid0.coords t) (fun _ => Classical.arbitrary _) (iblk m c 3 t)) = iblk m c 3 t from Pipeline.Window.cut_fill _ _ _ _]; iexact H3
    isplitl [H4]; · iexists d4; rw [show (cfg0.win 4).cut (cfg0.grid.coords t) (win0_4.fill (grid0.coords t) (fun _ => Classical.arbitrary _) (iblk m c 4 t)) = iblk m c 4 t from Pipeline.Window.cut_fill _ _ _ _]; iexact H4
    isplitl [H5]; · iexists d5; rw [show (cfg0.win 5).cut (cfg0.grid.coords t) (win0_5.fill (grid0.coords t) (fun _ => Classical.arbitrary _) (iblk m c 5 t)) = iblk m c 5 t from Pipeline.Window.cut_fill _ _ _ _]; iexact H5
    isplitl [H6]; · iexact H6
    isplitl [H7]; · iexact H7
    isplitl [H8]; · iexact H8
    isplitl [H9]; · iexact H9
    isplitl [H10]; · iexists _; iexact H10
    iexists _; iexact H11
  · by_cases hc2 : k0_cond2 (grid0.coords t) = 1#1
    · iapply (Body.run_last c (grid0.coords t) _ _ _ _ _ _ _ _ _ _ _ _ _ _ _ _ _ _ _ _ _ _ _ _ _ _ _ _ _ _ _ _ _ _ (iblk m c 0 t) (iblk m c 1 t) (iblk m c 2 t) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) (iblk m c 9 t) X10 X11 e0 e1 e2 e3 e4 hc1 hc2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [S0]; · iexact S0
      isplitl [S1]; · iexact S1
      isplitl [S2]; · iexact S2
      isplitl [S3]; · iexact S3
      isplitl [S4]; · iexact S4
      iintro ⟨H0, H1, H2, H3, H4, H5, H6, H7, H8, H9, H10, H11, S0, S1, S2, S3, S4⟩
      isplitl [S0 S1 S2 S3 S4 Hg]
      · isplitl [S0 S1 S2 S3 S4]
        · isplitl [S0]; · iexists _; iexact S0
          isplitl [S1]; · iexists _; iexact S1
          isplitl [S2]; · iexists _; iexact S2
          isplitl [S3]; · iexists _; iexact S3
          iexists _; iexact S4
        iexact Hg
      isplitl [Ho]; · iexact Ho
      isplitl [H0]; · iexact H0
      isplitl [H1]; · iexact H1
      isplitl [H2]; · iexact H2
      isplitl [H3]; · iexists d3; rw [show (cfg0.win 3).cut (cfg0.grid.coords t) (win0_3.fill (grid0.coords t) (fun _ => Classical.arbitrary _) (iblk m c 3 t)) = iblk m c 3 t from Pipeline.Window.cut_fill _ _ _ _]; iexact H3
      isplitl [H4]; · iexists d4; rw [show (cfg0.win 4).cut (cfg0.grid.coords t) (win0_4.fill (grid0.coords t) (fun _ => Classical.arbitrary _) (iblk m c 4 t)) = iblk m c 4 t from Pipeline.Window.cut_fill _ _ _ _]; iexact H4
      isplitl [H5]; · iexists d5; rw [show (cfg0.win 5).cut (cfg0.grid.coords t) (win0_5.fill (grid0.coords t) (fun _ => Classical.arbitrary _) (iblk m c 5 t)) = iblk m c 5 t from Pipeline.Window.cut_fill _ _ _ _]; iexact H5
      isplitl [H6]; · iexact H6
      isplitl [H7]; · iexact H7
      isplitl [H8]; · iexact H8
      isplitl [H9]; · iexact H9
      isplitl [H10]; · iexists _; iexact H10
      iexists _; iexact H11
    · iapply (Body.run_mid c (grid0.coords t) _ _ _ _ _ _ _ _ _ _ _ _ _ _ _ _ _ _ _ _ _ _ _ _ _ _ _ _ _ _ _ _ _ _ (iblk m c 0 t) (iblk m c 1 t) (iblk m c 2 t) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) (iblk m c 9 t) X10 X11 e0 e1 e2 e3 e4 hc1 hc2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [S0]; · iexact S0
      isplitl [S1]; · iexact S1
      isplitl [S2]; · iexact S2
      isplitl [S3]; · iexact S3
      isplitl [S4]; · iexact S4
      iintro ⟨H0, H1, H2, H3, H4, H5, H6, H7, H8, H9, H10, H11, S0, S1, S2, S3, S4⟩
      isplitl [S0 S1 S2 S3 S4 Hg]
      · isplitl [S0 S1 S2 S3 S4]
        · isplitl [S0]; · iexists _; iexact S0
          isplitl [S1]; · iexists _; iexact S1
          isplitl [S2]; · iexists _; iexact S2
          isplitl [S3]; · iexists _; iexact S3
          iexists _; iexact S4
        iexact Hg
      isplitl [Ho]; · iexact Ho
      isplitl [H0]; · iexact H0
      isplitl [H1]; · iexact H1
      isplitl [H2]; · iexact H2
      isplitl [H3]; · iexists d3; rw [show (cfg0.win 3).cut (cfg0.grid.coords t) (win0_3.fill (grid0.coords t) (fun _ => Classical.arbitrary _) (iblk m c 3 t)) = iblk m c 3 t from Pipeline.Window.cut_fill _ _ _ _]; iexact H3
      isplitl [H4]; · iexists d4; rw [show (cfg0.win 4).cut (cfg0.grid.coords t) (win0_4.fill (grid0.coords t) (fun _ => Classical.arbitrary _) (iblk m c 4 t)) = iblk m c 4 t from Pipeline.Window.cut_fill _ _ _ _]; iexact H4
      isplitl [H5]; · iexists d5; rw [show (cfg0.win 5).cut (cfg0.grid.coords t) (win0_5.fill (grid0.coords t) (fun _ => Classical.arbitrary _) (iblk m c 5 t)) = iblk m c 5 t from Pipeline.Window.cut_fill _ _ _ _]; iexact H5
      isplitl [H6]; · iexact H6
      isplitl [H7]; · iexact H7
      isplitl [H8]; · iexact H8
      isplitl [H9]; · iexact H9
      isplitl [H10]; · iexists _; iexact H10
      iexists _; iexact H11

/-- The body table's row is the body at the point. -/
theorem defs₀_row (t : Fin cfg0.N) : defs₀ (F := F) .tc cfg0.body (cfg0.bodyArgs t (cfg0.slots t)) = bodyAt0 t := by
  unfold defs₀; rw [Defs.onTc_tc]

/-- The body obligation, the results' windows forgotten. -/
theorem body_obligation (c : Dev nD) :
    BodyObligationLoose (dats (F := F) m 0 c) (defs₀ (F := F)) Variants.none () Set.univ forgets := fun t => by
  rw [bigSep_W0, bigSep_W0, defs₀_row]
  exact triple_restated (sound_body m c t) rfl .rfl fun _ => .rfl

/-- The buffers written after the region. -/
def T : Finset (Ref sig .tc) := {main_v14, main_v15}
theorem sfx_T : ∀ ops ∈ ([hostOps1] : List (List (HloOp τ sig (Elt F)))), ∀ op ∈ ops, ∀ b : Ref sig .tc, Proc.devRef .tc b ∈ op.writes → b ∈ T := by
  intro ops hops op hop b hb
  simp only [List.mem_cons, List.not_mem_nil, or_false] at hops; subst hops
  simp only [hostOps1, List.mem_cons, List.not_mem_nil, or_false] at hop
  rcases hop with rfl | rfl
  · have : b = main_v14 := Proc.devRef_injective .tc (by simpa using hb)
    subst this; decide
  · have : b = main_v15 := Proc.devRef_injective .tc (by simpa using hb)
    subst this; decide

set_option backward.isDefEq.respectTransparency.types false in
/-- The run: the inputs end as the region found them, and so does every buffer the rest of the program does not write. -/
theorem run_main :
    θ_run defs (onTc (τ := τ) (main (F := F))) (s₀ m ρ)
      (fun r => Pipeline.RDat.FramePostR (cfgs 0) (fun c => (dats m 0 c).toRForget forgets) T (V m) r ∧ r.2.sem = fun _ => 0) :=
  Pipeline.θ_run_frame_around_T_forget (Q' := _) cfgs (dats m) (0 : Fin 1) launch0 defs₀ Variants.none forgets T m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps) (hT := sfx_T)
    (hmain := hmain m Variants.none) (hA := A_eq m) (hΦ := fun _ _ => rfl)
    (hQ' := fun _ h => h)

/-- THE FRAME. -/
theorem frame : θ_run defs (onTc (τ := τ) (main (F := F))) ⟨m, fun _ => 0, ρ⟩ (fun r => r.2.sem = (fun _ => 0) ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h => ⟨h.2, fun c => ⟨(h.1.arr_in c 0 rfl).trans (V_main_arg0 m c),
    ((h.1 c).2 main_arg1 (Finset.mem_sdiff.mpr ⟨Pipeline.mem_restRefs_of main_arg1 (by decide) (by decide), by decide⟩)).trans (V_main_arg1 m c),
    ((h.1 c).2 main_arg2 (Finset.mem_sdiff.mpr ⟨Pipeline.mem_restRefs_of main_arg2 (by decide) (by decide), by decide⟩)).trans (V_main_arg2 m c),
    ((h.1 c).2 main_arg3 (Finset.mem_sdiff.mpr ⟨Pipeline.mem_restRefs_of main_arg3 (by decide) (by decide), by decide⟩)).trans (V_main_arg3 m c),
    (h.1.arr_in c 1 rfl).trans (V_main_arg4 m c),
    ((h.1 c).2 main_arg5 (Finset.mem_sdiff.mpr ⟨Pipeline.mem_restRefs_of main_arg5 (by decide) (by decide), by decide⟩)).trans (V_main_arg5 m c),
    (h.1.arr_in c 3 rfl).trans (V_main_arg6 m c),
    ((h.1 c).2 main_arg7 (Finset.mem_sdiff.mpr ⟨Pipeline.mem_restRefs_of main_arg7 (by decide) (by decide), by decide⟩)).trans (V_main_arg7 m c)⟩⟩) (run_main m ρ)

end Cert.Stream.Run

end
-- ==== Proof.StreamIdealBody.lean ====
/- The stream kernel's body at a grid point: what it leaves in its scratch buffers and results, as functions of what it
   finds, and the three runs of the body (the first point, a point in the middle, the last point). -/
module

public import proofs.«01_k».proof.Proof.Gen.StreamIdeal.Frame
public import proofs.«01_k».proof.Proof.Gen.StreamIdeal.Skeleton
public import Idealize.ShloMosaic.Lib.VecWindow

@[expose] public section

set_option maxRecDepth 16384

noncomputable section

namespace Cert.StreamIdeal.Body

open Cert.StreamIdeal Cert.StreamIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F] [Named F]

local notation "𝕄" => MT nD τ sig Unit (Elt F) ℕ (UR sig nD τ) ℕ

/-- The hidden layer, computed at the first point and kept. -/
def hFirst (x1 : Vec F S64x64 .f32) (x2 : Vec F S64x128 .f32) (x3 : Vec F S1x128 .f32) : Vec F S64x128 .f32 := k0_pay13 x1 x2 x3
/-- The running maximum after a point. -/
def mNew (i : grid0.Coords) (h : Vec F S64x128 .f32) (w : Vec F S128x16384 .f32) (b : Vec F S1x16384 .f32) (mo : Vec F S64x1 .f32) : Vec F S64x1 .f32 :=
  k0_pay21 (k0_pay16 i h w b mo)
/-- The running sum of exponentials after a point. -/
def sNew (i : grid0.Coords) (h : Vec F S64x128 .f32) (w : Vec F S128x16384 .f32) (b : Vec F S1x16384 .f32) (mo so : Vec F S64x1 .f32) : Vec F S64x1 .f32 :=
  k0_pay22 (k0_pay17 i h w b mo mo) (k0_pay18 i h w b mo) so
/-- The running weighted sum of the class memory's rows after a point. -/
def accNew (i : grid0.Coords) (h : Vec F S64x128 .f32) (w : Vec F S128x16384 .f32) (b : Vec F S1x16384 .f32) (r : Vec F S16384x64 .f32) (mo : Vec F S64x1 .f32) (ao : Vec F S64x64 .f32) : Vec F S64x64 .f32 :=
  k0_pay20 (k0_pay15 i r) (k0_pay17 i h w b mo mo) (k0_pay18 i h w b mo) ao
/-- The logits picked at the items' classes, after a point. -/
def tlNew (i : grid0.Coords) (h : Vec F S64x128 .f32) (w : Vec F S128x16384 .f32) (b : Vec F S1x16384 .f32) (rt : Vec F S1x64 .i32) (tlo : Vec F S64x64 .f32) : Vec F S64x64 .f32 :=
  k0_pay23 (BitVec.ofNat 32 (i 0).val) (k0_pay14 i h w b) rt tlo
/-- The running maximum as the last point reads it. -/
def mLast (i : grid0.Coords) (h : Vec F S64x128 .f32) (w : Vec F S128x16384 .f32) (b : Vec F S1x16384 .f32) (mo : Vec F S64x1 .f32) : Vec F S64x1 .f32 :=
  k0_pay16 i h w b mo
/-- The running sum as the last point reads it. -/
def sLast (i : grid0.Coords) (h : Vec F S64x128 .f32) (w : Vec F S128x16384 .f32) (b : Vec F S1x16384 .f32) (mo so : Vec F S64x1 .f32) : Vec F S64x1 .f32 :=
  k0_pay19 (k0_pay17 i h w b mo mo) (k0_pay18 i h w b mo) so
/-- The first result, from what the last point leaves in the scratch. -/
def outLast (rr : Vec F S1x64 .i32) (rc : Vec F S64x1 .i32) (rx old : Vec F S64x64 .f32) (mv sv : Vec F S64x1 .f32) (av tv : Vec F S64x64 .f32) : Vec F S64x64 .f32 :=
  k0_pay1 (k0_pay3 mv sv) (k0_pay4 sv av) (k0_pay6 rr rc) (k0_pay7 rr rc) (k0_pay8 rr rc rx) (Named.named κ "ln_m" 0xBC24AA2A#32) old tv rx
/-- The second result, likewise. -/
def lossLast (mv sv : Vec F S64x1 .f32) (tv : Vec F S64x64 .f32) : Vec F S1x1 .f32 :=
  k0_pay2 (k0_pay3 mv sv) (iota .tc S64x64 32 [0] iota_S64x64_d0_w32) (iota .tc S64x64 32 [1] iota_S64x64_d1_w32) tv

/-- Whether a point is the first, as the kernel computes it. -/
def isFirst (i : grid0.Coords) : BitVec 1 := Scalar.cmpi .ne (Scalar.extui (Scalar.cmpi .eq (BitVec.ofNat 32 (i 0).val) 0#32) : BitVec 32) 0#32

/-! Whole loads and whole stores, at the shapes of the kernel's buffers: a load reads what the buffer holds, a store leaves its value, a load after a store reads that value. -/

theorem rd_S64x64 {κ : Kind} {sp : Space} {e : EltTy} (v : View sig κ sp S64x64 e) (f : v.ty.Contents (Elt F)) (inb) :
    v.readAt (Elt F) (Rect.unit (s := S64x64) ![0, 0] ![64, 64] inb).toLoadRect f = v.read (Elt F) f := View.readAt_full v f inb
theorem wr_S64x64 {κ : Kind} {sp : Space} {e : EltTy} (v : View sig κ sp S64x64 e) (f : v.ty.Contents (Elt F)) (inb) (w : S64x64.Idx → Elt F e) (L) :
    v.read (Elt F) (v.writes (Elt F) f (⟨Rect.unit (s := S64x64) ![0, 0] ![64, 64] inb, w⟩ :: L)) = w := View.read_writes_full v f inb w L
theorem rw_S64x64 {κ : Kind} {sp : Space} {e : EltTy} (v : View sig κ sp S64x64 e) (inb inb') (w : S64x64.Idx → Elt F e) (L) :
    v.readCov (⟨Rect.unit (s := S64x64) ![0, 0] ![64, 64] inb', w⟩ :: L) (Rect.unit (s := S64x64) ![0, 0] ![64, 64] inb).toLoadRect = w := View.readCov_full v inb inb' w L

theorem rd_S64x128 {κ : Kind} {sp : Space} {e : EltTy} (v : View sig κ sp S64x128 e) (f : v.ty.Contents (Elt F)) (inb) :
    v.readAt (Elt F) (Rect.unit (s := S64x128) ![0, 0] ![64, 128] inb).toLoadRect f = v.read (Elt F) f := View.readAt_full v f inb
theorem wr_S64x128 {κ : Kind} {sp : Space} {e : EltTy} (v : View sig κ sp S64x128 e) (f : v.ty.Contents (Elt F)) (inb) (w : S64x128.Idx → Elt F e) (L) :
    v.read (Elt F) (v.writes (Elt F) f (⟨Rect.unit (s := S64x128) ![0, 0] ![64, 128] inb, w⟩ :: L)) = w := View.read_writes_full v f inb w L
theorem rw_S64x128 {κ : Kind} {sp : Space} {e : EltTy} (v : View sig κ sp S64x128 e) (inb inb') (w : S64x128.Idx → Elt F e) (L) :
    v.readCov (⟨Rect.unit (s := S64x128) ![0, 0] ![64, 128] inb', w⟩ :: L) (Rect.unit (s := S64x128) ![0, 0] ![64, 128] inb).toLoadRect = w := View.readCov_full v inb inb' w L

theorem rd_S1x128 {κ : Kind} {sp : Space} {e : EltTy} (v : View sig κ sp S1x128 e) (f : v.ty.Contents (Elt F)) (inb) :
    v.readAt (Elt F) (Rect.unit (s := S1x128) ![0, 0] ![1, 128] inb).toLoadRect f = v.read (Elt F) f := View.readAt_full v f inb
theorem wr_S1x128 {κ : Kind} {sp : Space} {e : EltTy} (v : View sig κ sp S1x128 e) (f : v.ty.Contents (Elt F)) (inb) (w : S1x128.Idx → Elt F e) (L) :
    v.read (Elt F) (v.writes (Elt F) f (⟨Rect.unit (s := S1x128) ![0, 0] ![1, 128] inb, w⟩ :: L)) = w := View.read_writes_full v f inb w L
theorem rw_S1x128 {κ : Kind} {sp : Space} {e : EltTy} (v : View sig κ sp S1x128 e) (inb inb') (w : S1x128.Idx → Elt F e) (L) :
    v.readCov (⟨Rect.unit (s := S1x128) ![0, 0] ![1, 128] inb', w⟩ :: L) (Rect.unit (s := S1x128) ![0, 0] ![1, 128] inb).toLoadRect = w := View.readCov_full v inb inb' w L

theorem rd_S128x16384 {κ : Kind} {sp : Space} {e : EltTy} (v : View sig κ sp S128x16384 e) (f : v.ty.Contents (Elt F)) (inb) :
    v.readAt (Elt F) (Rect.unit (s := S128x16384) ![0, 0] ![128, 16384] inb).toLoadRect f = v.read (Elt F) f := View.readAt_full v f inb
theorem wr_S128x16384 {κ : Kind} {sp : Space} {e : EltTy} (v : View sig κ sp S128x16384 e) (f : v.ty.Contents (Elt F)) (inb) (w : S128x16384.Idx → Elt F e) (L) :
    v.read (Elt F) (v.writes (Elt F) f (⟨Rect.unit (s := S128x16384) ![0, 0] ![128, 16384] inb, w⟩ :: L)) = w := View.read_writes_full v f inb w L
theorem rw_S128x16384 {κ : Kind} {sp : Space} {e : EltTy} (v : View sig κ sp S128x16384 e) (inb inb') (w : S128x16384.Idx → Elt F e) (L) :
    v.readCov (⟨Rect.unit (s := S128x16384) ![0, 0] ![128, 16384] inb', w⟩ :: L) (Rect.unit (s := S128x16384) ![0, 0] ![128, 16384] inb).toLoadRect = w := View.readCov_full v inb inb' w L

theorem rd_S1x16384 {κ : Kind} {sp : Space} {e : EltTy} (v : View sig κ sp S1x16384 e) (f : v.ty.Contents (Elt F)) (inb) :
    v.readAt (Elt F) (Rect.unit (s := S1x16384) ![0, 0] ![1, 16384] inb).toLoadRect f = v.read (Elt F) f := View.readAt_full v f inb
theorem wr_S1x16384 {κ : Kind} {sp : Space} {e : EltTy} (v : View sig κ sp S1x16384 e) (f : v.ty.Contents (Elt F)) (inb) (w : S1x16384.Idx → Elt F e) (L) :
    v.read (Elt F) (v.writes (Elt F) f (⟨Rect.unit (s := S1x16384) ![0, 0] ![1, 16384] inb, w⟩ :: L)) = w := View.read_writes_full v f inb w L
theorem rw_S1x16384 {κ : Kind} {sp : Space} {e : EltTy} (v : View sig κ sp S1x16384 e) (inb inb') (w : S1x16384.Idx → Elt F e) (L) :
    v.readCov (⟨Rect.unit (s := S1x16384) ![0, 0] ![1, 16384] inb', w⟩ :: L) (Rect.unit (s := S1x16384) ![0, 0] ![1, 16384] inb).toLoadRect = w := View.readCov_full v inb inb' w L

theorem rd_S16384x64 {κ : Kind} {sp : Space} {e : EltTy} (v : View sig κ sp S16384x64 e) (f : v.ty.Contents (Elt F)) (inb) :
    v.readAt (Elt F) (Rect.unit (s := S16384x64) ![0, 0] ![16384, 64] inb).toLoadRect f = v.read (Elt F) f := View.readAt_full v f inb
theorem wr_S16384x64 {κ : Kind} {sp : Space} {e : EltTy} (v : View sig κ sp S16384x64 e) (f : v.ty.Contents (Elt F)) (inb) (w : S16384x64.Idx → Elt F e) (L) :
    v.read (Elt F) (v.writes (Elt F) f (⟨Rect.unit (s := S16384x64) ![0, 0] ![16384, 64] inb, w⟩ :: L)) = w := View.read_writes_full v f inb w L
theorem rw_S16384x64 {κ : Kind} {sp : Space} {e : EltTy} (v : View sig κ sp S16384x64 e) (inb inb') (w : S16384x64.Idx → Elt F e) (L) :
    v.readCov (⟨Rect.unit (s := S16384x64) ![0, 0] ![16384, 64] inb', w⟩ :: L) (Rect.unit (s := S16384x64) ![0, 0] ![16384, 64] inb).toLoadRect = w := View.readCov_full v inb inb' w L

theorem rd_S1x64 {κ : Kind} {sp : Space} {e : EltTy} (v : View sig κ sp S1x64 e) (f : v.ty.Contents (Elt F)) (inb) :
    v.readAt (Elt F) (Rect.unit (s := S1x64) ![0, 0] ![1, 64] inb).toLoadRect f = v.read (Elt F) f := View.readAt_full v f inb
theorem wr_S1x64 {κ : Kind} {sp : Space} {e : EltTy} (v : View sig κ sp S1x64 e) (f : v.ty.Contents (Elt F)) (inb) (w : S1x64.Idx → Elt F e) (L) :
    v.read (Elt F) (v.writes (Elt F) f (⟨Rect.unit (s := S1x64) ![0, 0] ![1, 64] inb, w⟩ :: L)) = w := View.read_writes_full v f inb w L
theorem rw_S1x64 {κ : Kind} {sp : Space} {e : EltTy} (v : View sig κ sp S1x64 e) (inb inb') (w : S1x64.Idx → Elt F e) (L) :
    v.readCov (⟨Rect.unit (s := S1x64) ![0, 0] ![1, 64] inb', w⟩ :: L) (Rect.unit (s := S1x64) ![0, 0] ![1, 64] inb).toLoadRect = w := View.readCov_full v inb inb' w L

theorem rd_S64x1 {κ : Kind} {sp : Space} {e : EltTy} (v : View sig κ sp S64x1 e) (f : v.ty.Contents (Elt F)) (inb) :
    v.readAt (Elt F) (Rect.unit (s := S64x1) ![0, 0] ![64, 1] inb).toLoadRect f = v.read (Elt F) f := View.readAt_full v f inb
theorem wr_S64x1 {κ : Kind} {sp : Space} {e : EltTy} (v : View sig κ sp S64x1 e) (f : v.ty.Contents (Elt F)) (inb) (w : S64x1.Idx → Elt F e) (L) :
    v.read (Elt F) (v.writes (Elt F) f (⟨Rect.unit (s := S64x1) ![0, 0] ![64, 1] inb, w⟩ :: L)) = w := View.read_writes_full v f inb w L
theorem rw_S64x1 {κ : Kind} {sp : Space} {e : EltTy} (v : View sig κ sp S64x1 e) (inb inb') (w : S64x1.Idx → Elt F e) (L) :
    v.readCov (⟨Rect.unit (s := S64x1) ![0, 0] ![64, 1] inb', w⟩ :: L) (Rect.unit (s := S64x1) ![0, 0] ![64, 1] inb).toLoadRect = w := View.readCov_full v inb inb' w L

theorem rd_S1x1 {κ : Kind} {sp : Space} {e : EltTy} (v : View sig κ sp S1x1 e) (f : v.ty.Contents (Elt F)) (inb) :
    v.readAt (Elt F) (Rect.unit (s := S1x1) ![0, 0] ![1, 1] inb).toLoadRect f = v.read (Elt F) f := View.readAt_full v f inb
theorem wr_S1x1 {κ : Kind} {sp : Space} {e : EltTy} (v : View sig κ sp S1x1 e) (f : v.ty.Contents (Elt F)) (inb) (w : S1x1.Idx → Elt F e) (L) :
    v.read (Elt F) (v.writes (Elt F) f (⟨Rect.unit (s := S1x1) ![0, 0] ![1, 1] inb, w⟩ :: L)) = w := View.read_writes_full v f inb w L
theorem rw_S1x1 {κ : Kind} {sp : Space} {e : EltTy} (v : View sig κ sp S1x1 e) (inb inb') (w : S1x1.Idx → Elt F e) (L) :
    v.readCov (⟨Rect.unit (s := S1x1) ![0, 0] ![1, 1] inb', w⟩ :: L) (Rect.unit (s := S1x1) ![0, 0] ![1, 1] inb).toLoadRect = w := View.readCov_full v inb inb' w L

set_option maxHeartbeats 4000000 in
/-- A point that is neither the first nor the last: the running values move on, everything else stays. -/
theorem run_mid (c : Dev nD) (i : grid0.Coords) (arg1 : Memref sig .tc .vmem S64x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x16384 .f32) (harg4 : arg4.IsWhole) (arg5 : Memref sig .tc .vmem S1x16384 .f32) (harg5 : arg5.IsWhole) (arg6 : Memref sig .tc .vmem S16384x64 .f32) (harg6 : arg6.IsWhole) (arg7 : Memref sig .tc .vmem S1x64 .i32) (harg7 : arg7.IsWhole) (arg8 : Memref sig .tc .vmem S64x1 .i32) (harg8 : arg8.IsWhole) (arg9 : Memref sig .tc .vmem S64x64 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S1x1 .f32) (harg12 : arg12.IsWhole) (arg13 : Memref sig .tc .vmem S64x1 .f32) (harg13 : arg13.IsWhole) (arg14 : Memref sig .tc .vmem S64x1 .f32) (harg14 : arg14.IsWhole) (arg15 : Memref sig .tc .vmem S64x64 .f32) (harg15 : arg15.IsWhole) (arg16 : Memref sig .tc .vmem S64x64 .f32) (harg16 : arg16.IsWhole) (arg17 : Memref sig .tc .vmem S64x128 .f32) (harg17 : arg17.IsWhole)
    (x1 : Vec F S64x64 .f32) (x2 : Vec F S64x128 .f32) (x3 : Vec F S1x128 .f32) (x4 : Vec F S128x16384 .f32) (x5 : Vec F S1x16384 .f32) (x6 : Vec F S16384x64 .f32) (x7 : Vec F S1x64 .i32) (x8 : Vec F S64x1 .i32) (x9 : Vec F S64x64 .f32) (x10 : Vec F S64x64 .f32) (x11 : Vec F S64x64 .f32) (x12 : Vec F S1x1 .f32) (x13 : Vec F S64x1 .f32) (x14 : Vec F S64x1 .f32) (x15 : Vec F S64x64 .f32) (x16 : Vec F S64x64 .f32) (x17 : Vec F S64x128 .f32)
    (hc1 : ¬ isFirst i = 1#1) (hc2 : ¬ k0_cond2 i = 1#1)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (mNew i x17 x4 x5 x13) ∗ owns (c : Thread nD τ) arg14 fullShare (sNew i x17 x4 x5 x13 x14) ∗ owns (c : Thread nD τ) arg15 fullShare (accNew i x17 x4 x5 x6 x13 x15) ∗ owns (c : Thread nD τ) arg16 fullShare (tlNew i x17 x4 x5 x7 x16) ∗ owns (c : Thread nD τ) arg17 fullShare x17) -∗ K ⟨⟩))
      ⊢ wp frame (wpE (defs₀ (F := F)) Variants.none c none) E (cc0__lambda_ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold isFirst at hc1
  simp only [cc0__lambda__eq_skeleton]; unfold cc0__lambda__skel
  simp only [k0_part1_eq_skeleton, k0_part2_eq_skeleton, k0_part3_eq_skeleton]
  unfold k0_part1_skel k0_part2_skel k0_part3_skel
  simp only [dif_neg hc1, dif_neg hc2]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; sl_unfold_run_names; simp only [rd_S64x64, wr_S64x64, rw_S64x64, rd_S64x128, wr_S64x128, rw_S64x128, rd_S1x128, wr_S1x128, rw_S1x128, rd_S128x16384, wr_S128x16384, rw_S128x16384, rd_S1x16384, wr_S1x16384, rw_S1x16384, rd_S16384x64, wr_S16384x64, rw_S16384x64, rd_S1x64, wr_S1x64, rw_S1x64, rd_S64x1, wr_S64x1, rw_S64x1, rd_S1x1, wr_S1x1, rw_S1x1, Memref.IsWhole.read_unread]; rfl
  isplitl [H14]
  · iexists _; isplitr; swap; · iexact H14
    ipureintro; sl_unfold_run_names; simp only [rd_S64x64, wr_S64x64, rw_S64x64, rd_S64x128, wr_S64x128, rw_S64x128, rd_S1x128, wr_S1x128, rw_S1x128, rd_S128x16384, wr_S128x16384, rw_S128x16384, rd_S1x16384, wr_S1x16384, rw_S1x16384, rd_S16384x64, wr_S16384x64, rw_S16384x64, rd_S1x64, wr_S1x64, rw_S1x64, rd_S64x1, wr_S64x1, rw_S64x1, rd_S1x1, wr_S1x1, rw_S1x1, Memref.IsWhole.read_unread]; rfl
  isplitl [H15]
  · iexists _; isplitr; swap; · iexact H15
    ipureintro; sl_unfold_run_names; simp only [rd_S64x64, wr_S64x64, rw_S64x64, rd_S64x128, wr_S64x128, rw_S64x128, rd_S1x128, wr_S1x128, rw_S1x128, rd_S128x16384, wr_S128x16384, rw_S128x16384, rd_S1x16384, wr_S1x16384, rw_S1x16384, rd_S16384x64, wr_S16384x64, rw_S16384x64, rd_S1x64, wr_S1x64, rw_S1x64, rd_S64x1, wr_S64x1, rw_S64x1, rd_S1x1, wr_S1x1, rw_S1x1, Memref.IsWhole.read_unread]; rfl
  isplitl [H16]
  · iexists _; isplitr; swap; · iexact H16
    ipureintro; sl_unfold_run_names; simp only [rd_S64x64, wr_S64x64, rw_S64x64, rd_S64x128, wr_S64x128, rw_S64x128, rd_S1x128, wr_S1x128, rw_S1x128, rd_S128x16384, wr_S128x16384, rw_S128x16384, rd_S1x16384, wr_S1x16384, rw_S1x16384, rd_S16384x64, wr_S16384x64, rw_S16384x64, rd_S1x64, wr_S1x64, rw_S1x64, rd_S64x1, wr_S64x1, rw_S64x1, rd_S1x1, wr_S1x1, rw_S1x1, Memref.IsWhole.read_unread]; rfl
  iexists _; isplitr; swap; · iexact H17
  ipureintro; exact harg17.read_unread _

set_option maxHeartbeats 4000000 in
/-- The first point: the running values start afresh and take the first block in. -/
theorem run_first (c : Dev nD) (i : grid0.Coords) (arg1 : Memref sig .tc .vmem S64x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x16384 .f32) (harg4 : arg4.IsWhole) (arg5 : Memref sig .tc .vmem S1x16384 .f32) (harg5 : arg5.IsWhole) (arg6 : Memref sig .tc .vmem S16384x64 .f32) (harg6 : arg6.IsWhole) (arg7 : Memref sig .tc .vmem S1x64 .i32) (harg7 : arg7.IsWhole) (arg8 : Memref sig .tc .vmem S64x1 .i32) (harg8 : arg8.IsWhole) (arg9 : Memref sig .tc .vmem S64x64 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S1x1 .f32) (harg12 : arg12.IsWhole) (arg13 : Memref sig .tc .vmem S64x1 .f32) (harg13 : arg13.IsWhole) (arg14 : Memref sig .tc .vmem S64x1 .f32) (harg14 : arg14.IsWhole) (arg15 : Memref sig .tc .vmem S64x64 .f32) (harg15 : arg15.IsWhole) (arg16 : Memref sig .tc .vmem S64x64 .f32) (harg16 : arg16.IsWhole) (arg17 : Memref sig .tc .vmem S64x128 .f32) (harg17 : arg17.IsWhole)
    (x1 : Vec F S64x64 .f32) (x2 : Vec F S64x128 .f32) (x3 : Vec F S1x128 .f32) (x4 : Vec F S128x16384 .f32) (x5 : Vec F S1x16384 .f32) (x6 : Vec F S16384x64 .f32) (x7 : Vec F S1x64 .i32) (x8 : Vec F S64x1 .i32) (x9 : Vec F S64x64 .f32) (x10 : Vec F S64x64 .f32) (x11 : Vec F S64x64 .f32) (x12 : Vec F S1x1 .f32) (x13 : Vec F S64x1 .f32) (x14 : Vec F S64x1 .f32) (x15 : Vec F S64x64 .f32) (x16 : Vec F S64x64 .f32) (x17 : Vec F S64x128 .f32)
    (hc1 : isFirst i = 1#1) (hc2 : ¬ k0_cond2 i = 1#1)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (mNew i (hFirst x1 x2 x3) x4 x5 k0_pay9) ∗ owns (c : Thread nD τ) arg14 fullShare (sNew i (hFirst x1 x2 x3) x4 x5 k0_pay9 k0_pay10) ∗ owns (c : Thread nD τ) arg15 fullShare (accNew i (hFirst x1 x2 x3) x4 x5 x6 k0_pay9 k0_pay11) ∗ owns (c : Thread nD τ) arg16 fullShare (tlNew i (hFirst x1 x2 x3) x4 x5 x7 k0_pay12) ∗ owns (c : Thread nD τ) arg17 fullShare (hFirst x1 x2 x3)) -∗ K ⟨⟩))
      ⊢ wp frame (wpE (defs₀ (F := F)) Variants.none c none) E (cc0__lambda_ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold isFirst at hc1
  simp only [cc0__lambda__eq_skeleton]; unfold cc0__lambda__skel
  simp only [k0_part1_eq_skeleton, k0_part2_eq_skeleton, k0_part3_eq_skeleton]
  unfold k0_part1_skel k0_part2_skel k0_part3_skel
  simp only [dif_pos hc1, dif_neg hc2]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; sl_unfold_run_names; simp only [rd_S64x64, wr_S64x64, rw_S64x64, rd_S64x128, wr_S64x128, rw_S64x128, rd_S1x128, wr_S1x128, rw_S1x128, rd_S128x16384, wr_S128x16384, rw_S128x16384, rd_S1x16384, wr_S1x16384, rw_S1x16384, rd_S16384x64, wr_S16384x64, rw_S16384x64, rd_S1x64, wr_S1x64, rw_S1x64, rd_S64x1, wr_S64x1, rw_S64x1, rd_S1x1, wr_S1x1, rw_S1x1, Memref.IsWhole.read_unread]; rfl
  isplitl [H14]
  · iexists _; isplitr; swap; · iexact H14
    ipureintro; sl_unfold_run_names; simp only [rd_S64x64, wr_S64x64, rw_S64x64, rd_S64x128, wr_S64x128, rw_S64x128, rd_S1x128, wr_S1x128, rw_S1x128, rd_S128x16384, wr_S128x16384, rw_S128x16384, rd_S1x16384, wr_S1x16384, rw_S1x16384, rd_S16384x64, wr_S16384x64, rw_S16384x64, rd_S1x64, wr_S1x64, rw_S1x64, rd_S64x1, wr_S64x1, rw_S64x1, rd_S1x1, wr_S1x1, rw_S1x1, Memref.IsWhole.read_unread]; rfl
  isplitl [H15]
  · iexists _; isplitr; swap; · iexact H15
    ipureintro; sl_unfold_run_names; simp only [rd_S64x64, wr_S64x64, rw_S64x64, rd_S64x128, wr_S64x128, rw_S64x128, rd_S1x128, wr_S1x128, rw_S1x128, rd_S128x16384, wr_S128x16384, rw_S128x16384, rd_S1x16384, wr_S1x16384, rw_S1x16384, rd_S16384x64, wr_S16384x64, rw_S16384x64, rd_S1x64, wr_S1x64, rw_S1x64, rd_S64x1, wr_S64x1, rw_S64x1, rd_S1x1, wr_S1x1, rw_S1x1, Memref.IsWhole.read_unread]; rfl
  isplitl [H16]
  · iexists _; isplitr; swap; · iexact H16
    ipureintro; sl_unfold_run_names; simp only [rd_S64x64, wr_S64x64, rw_S64x64, rd_S64x128, wr_S64x128, rw_S64x128, rd_S1x128, wr_S1x128, rw_S1x128, rd_S128x16384, wr_S128x16384, rw_S128x16384, rd_S1x16384, wr_S1x16384, rw_S1x16384, rd_S16384x64, wr_S16384x64, rw_S16384x64, rd_S1x64, wr_S1x64, rw_S1x64, rd_S64x1, wr_S64x1, rw_S64x1, rd_S1x1, wr_S1x1, rw_S1x1, Memref.IsWhole.read_unread]; rfl
  iexists _; isplitr; swap; · iexact H17
  ipureintro; sl_unfold_run_names; simp only [rd_S64x64, wr_S64x64, rw_S64x64, rd_S64x128, wr_S64x128, rw_S64x128, rd_S1x128, wr_S1x128, rw_S1x128, rd_S128x16384, wr_S128x16384, rw_S128x16384, rd_S1x16384, wr_S1x16384, rw_S1x16384, rd_S16384x64, wr_S16384x64, rw_S16384x64, rd_S1x64, wr_S1x64, rw_S1x64, rd_S64x1, wr_S64x1, rw_S64x1, rd_S1x1, wr_S1x1, rw_S1x1, Memref.IsWhole.read_unread]; rfl

set_option maxHeartbeats 4000000 in
/-- The last point: the running values move on and the two results are stored. -/
theorem run_last (c : Dev nD) (i : grid0.Coords) (arg1 : Memref sig .tc .vmem S64x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x16384 .f32) (harg4 : arg4.IsWhole) (arg5 : Memref sig .tc .vmem S1x16384 .f32) (harg5 : arg5.IsWhole) (arg6 : Memref sig .tc .vmem S16384x64 .f32) (harg6 : arg6.IsWhole) (arg7 : Memref sig .tc .vmem S1x64 .i32) (harg7 : arg7.IsWhole) (arg8 : Memref sig .tc .vmem S64x1 .i32) (harg8 : arg8.IsWhole) (arg9 : Memref sig .tc .vmem S64x64 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S1x1 .f32) (harg12 : arg12.IsWhole) (arg13 : Memref sig .tc .vmem S64x1 .f32) (harg13 : arg13.IsWhole) (arg14 : Memref sig .tc .vmem S64x1 .f32) (harg14 : arg14.IsWhole) (arg15 : Memref sig .tc .vmem S64x64 .f32) (harg15 : arg15.IsWhole) (arg16 : Memref sig .tc .vmem S64x64 .f32) (harg16 : arg16.IsWhole) (arg17 : Memref sig .tc .vmem S64x128 .f32) (harg17 : arg17.IsWhole)
    (x1 : Vec F S64x64 .f32) (x2 : Vec F S64x128 .f32) (x3 : Vec F S1x128 .f32) (x4 : Vec F S128x16384 .f32) (x5 : Vec F S1x16384 .f32) (x6 : Vec F S16384x64 .f32) (x7 : Vec F S1x64 .i32) (x8 : Vec F S64x1 .i32) (x9 : Vec F S64x64 .f32) (x10 : Vec F S64x64 .f32) (x11 : Vec F S64x64 .f32) (x12 : Vec F S1x1 .f32) (x13 : Vec F S64x1 .f32) (x14 : Vec F S64x1 .f32) (x15 : Vec F S64x64 .f32) (x16 : Vec F S64x64 .f32) (x17 : Vec F S64x128 .f32)
    (hc1 : ¬ isFirst i = 1#1) (hc2 : k0_cond2 i = 1#1)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outLast x7 x8 x9 x10 (mLast i x17 x4 x5 x13) (sLast i x17 x4 x5 x13 x14) (accNew i x17 x4 x5 x6 x13 x15) (tlNew i x17 x4 x5 x7 x16)) ∗ owns (c : Thread nD τ) arg12 fullShare (lossLast (mLast i x17 x4 x5 x13) (sLast i x17 x4 x5 x13 x14) (tlNew i x17 x4 x5 x7 x16)) ∗ owns (c : Thread nD τ) arg13 fullShare (mNew i x17 x4 x5 x13) ∗ owns (c : Thread nD τ) arg14 fullShare (sNew i x17 x4 x5 x13 x14) ∗ owns (c : Thread nD τ) arg15 fullShare (accNew i x17 x4 x5 x6 x13 x15) ∗ owns (c : Thread nD τ) arg16 fullShare (tlNew i x17 x4 x5 x7 x16) ∗ owns (c : Thread nD τ) arg17 fullShare x17) -∗ K ⟨⟩))
      ⊢ wp frame (wpE (defs₀ (F := F)) Variants.none c none) E (cc0__lambda_ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold isFirst at hc1
  simp only [cc0__lambda__eq_skeleton]; unfold cc0__lambda__skel
  simp only [k0_part1_eq_skeleton, k0_part2_eq_skeleton, k0_part3_eq_skeleton]
  unfold k0_part1_skel k0_part2_skel k0_part3_skel
  simp only [dif_neg hc1, dif_pos hc2]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; sl_unfold_run_names; simp only [rd_S64x64, wr_S64x64, rw_S64x64, rd_S64x128, wr_S64x128, rw_S64x128, rd_S1x128, wr_S1x128, rw_S1x128, rd_S128x16384, wr_S128x16384, rw_S128x16384, rd_S1x16384, wr_S1x16384, rw_S1x16384, rd_S16384x64, wr_S16384x64, rw_S16384x64, rd_S1x64, wr_S1x64, rw_S1x64, rd_S64x1, wr_S64x1, rw_S64x1, rd_S1x1, wr_S1x1, rw_S1x1, Memref.IsWhole.read_unread]; rfl
  isplitl [H12]
  · iexists _; isplitr; swap; · iexact H12
    ipureintro; sl_unfold_run_names; simp only [rd_S64x64, wr_S64x64, rw_S64x64, rd_S64x128, wr_S64x128, rw_S64x128, rd_S1x128, wr_S1x128, rw_S1x128, rd_S128x16384, wr_S128x16384, rw_S128x16384, rd_S1x16384, wr_S1x16384, rw_S1x16384, rd_S16384x64, wr_S16384x64, rw_S16384x64, rd_S1x64, wr_S1x64, rw_S1x64, rd_S64x1, wr_S64x1, rw_S64x1, rd_S1x1, wr_S1x1, rw_S1x1, Memref.IsWhole.read_unread]; rfl
  isplitl [H13]
  · iexists _; isplitr; swap; · iexact H13
    ipureintro; sl_unfold_run_names; simp only [rd_S64x64, wr_S64x64, rw_S64x64, rd_S64x128, wr_S64x128, rw_S64x128, rd_S1x128, wr_S1x128, rw_S1x128, rd_S128x16384, wr_S128x16384, rw_S128x16384, rd_S1x16384, wr_S1x16384, rw_S1x16384, rd_S16384x64, wr_S16384x64, rw_S16384x64, rd_S1x64, wr_S1x64, rw_S1x64, rd_S64x1, wr_S64x1, rw_S64x1, rd_S1x1, wr_S1x1, rw_S1x1, Memref.IsWhole.read_unread]; rfl
  isplitl [H14]
  · iexists _; isplitr; swap; · iexact H14
    ipureintro; sl_unfold_run_names; simp only [rd_S64x64, wr_S64x64, rw_S64x64, rd_S64x128, wr_S64x128, rw_S64x128, rd_S1x128, wr_S1x128, rw_S1x128, rd_S128x16384, wr_S128x16384, rw_S128x16384, rd_S1x16384, wr_S1x16384, rw_S1x16384, rd_S16384x64, wr_S16384x64, rw_S16384x64, rd_S1x64, wr_S1x64, rw_S1x64, rd_S64x1, wr_S64x1, rw_S64x1, rd_S1x1, wr_S1x1, rw_S1x1, Memref.IsWhole.read_unread]; rfl
  isplitl [H15]
  · iexists _; isplitr; swap; · iexact H15
    ipureintro; sl_unfold_run_names; simp only [rd_S64x64, wr_S64x64, rw_S64x64, rd_S64x128, wr_S64x128, rw_S64x128, rd_S1x128, wr_S1x128, rw_S1x128, rd_S128x16384, wr_S128x16384, rw_S128x16384, rd_S1x16384, wr_S1x16384, rw_S1x16384, rd_S16384x64, wr_S16384x64, rw_S16384x64, rd_S1x64, wr_S1x64, rw_S1x64, rd_S64x1, wr_S64x1, rw_S64x1, rd_S1x1, wr_S1x1, rw_S1x1, Memref.IsWhole.read_unread]; rfl
  isplitl [H16]
  · iexists _; isplitr; swap; · iexact H16
    ipureintro; sl_unfold_run_names; simp only [rd_S64x64, wr_S64x64, rw_S64x64, rd_S64x128, wr_S64x128, rw_S64x128, rd_S1x128, wr_S1x128, rw_S1x128, rd_S128x16384, wr_S128x16384, rw_S128x16384, rd_S1x16384, wr_S1x16384, rw_S1x16384, rd_S16384x64, wr_S16384x64, rw_S16384x64, rd_S1x64, wr_S1x64, rw_S1x64, rd_S64x1, wr_S64x1, rw_S64x1, rd_S1x1, wr_S1x1, rw_S1x1, Memref.IsWhole.read_unread]; rfl
  iexists _; isplitr; swap; · iexact H17
  ipureintro; exact harg17.read_unread _

end Cert.StreamIdeal.Body

end
-- ==== Proof.StreamReads.lean ====
/- The stream kernel's expressions over the extended reals, entry by entry. -/
module

public import proofs.«01_k».proof.Proof.StreamIdealBody
public import Idealize.ShloMosaic.Lib.Pointwise.Tactic
public import Idealize.ShloMosaic.Lib.Pointwise.Contract
public import Idealize.ShloMosaic.Lib.Pointwise.Select
public import Idealize.ShloMosaic.Lib.Pointwise.Reshape
public import Idealize.ShloMosaic.Lib.Pointwise.Reduce
public import Idealize.ShloMosaic.Lib.ValueIdx

@[expose] public section

set_option maxRecDepth 16384

noncomputable section

namespace Cert.StreamIdeal.Reads

open Cert.StreamIdeal Cert.StreamIdeal.Gen Idealize.ShloMosaic Idealize.ShloMosaic.TcCoe Idealize.SL.Sem

/-- A one-bit word read as a number: one or zero. -/
theorem bit_num (c : BitVec 1) : (FloatOps.sitofp (F := Ideal) .f32 (BitVec.setWidth 32 c) : EReal) = if c = 1#1 then 1 else 0 := by
  have h : c = 0#1 ∨ c = 1#1 := by revert c; decide
  rcases h with rfl | rfl
  · show (((BitVec.setWidth 32 0#1).toInt : ℝ) : EReal) = _
    simp
  · show (((BitVec.setWidth 32 1#1).toInt : ℝ) : EReal) = _
    have : (BitVec.setWidth 32 1#1).toInt = 1 := by decide
    rw [this]; simp

theorem cmp_eq (a b : BitVec 32) : IntOp.cmpi .eq a b = 1#1 ↔ a = b := by
  show BitVec.ofBool (a == b) = 1#1 ↔ _
  by_cases h : a = b
  · subst h; simp
  · rw [beq_eq_false_iff_ne.mpr h]; simp [h]

theorem cmp_slt (a b : ℕ) (ha : a < 2 ^ 31) (hb : b < 2 ^ 31) : IntOp.cmpi .slt (BitVec.ofNat 32 a) (BitVec.ofNat 32 b) = 1#1 ↔ a < b := by
  show BitVec.ofBool ((BitVec.ofNat 32 a).slt (BitVec.ofNat 32 b)) = 1#1 ↔ _
  have ea : (BitVec.ofNat 32 a).toInt = a := by rw [BitVec.toInt_ofNat', Int.bmod_eq_of_le] <;> omega
  have eb : (BitVec.ofNat 32 b).toInt = b := by rw [BitVec.toInt_ofNat', Int.bmod_eq_of_le] <;> omega
  rw [BitVec.slt_eq_decide, ea, eb]
  by_cases h : a < b <;> simp [h]

theorem cmp_sgt (a b : ℕ) (ha : a < 2 ^ 31) (hb : b < 2 ^ 31) : IntOp.cmpi .sgt (BitVec.ofNat 32 a) (BitVec.ofNat 32 b) = 1#1 ↔ b < a :=
  cmp_slt b a hb ha

/-- The columns (or rows) of block `a` that lie inside the class axis. -/
theorem inside_bit (a q : ℕ) (ha : a < 7) (hq : q < 16384) :
    IntOp.cmpi .slt (BitVec.ofNat 32 q) (Scalar.subi 100000#32 (Scalar.muli (BitVec.ofNat 32 a) 16384#32)) = 1#1 ↔ 16384 * a + q < 100000 := by
  have : Scalar.subi 100000#32 (Scalar.muli (BitVec.ofNat 32 a) 16384#32) = BitVec.ofNat 32 (100000 - 16384 * a) := by
    interval_cases a <;> decide
  rw [this, cmp_slt q (100000 - 16384 * a) (by omega) (by omega)]
  omega

/-- Which column of block `a` is class `t`. -/
theorem column_bit (a q t : ℕ) (ha : a < 7) (hq : q < 16384) (ht : t < 100000) :
    IntOp.cmpi .eq (BitVec.ofNat 32 q) (IntOp.subi (BitVec.ofNat 32 t) (Scalar.muli (BitVec.ofNat 32 a) 16384#32)) = 1#1 ↔ 16384 * a + q = t := by
  rw [cmp_eq]
  have e : Scalar.muli (BitVec.ofNat 32 a) 16384#32 = BitVec.ofNat 32 (16384 * a) := by
    interval_cases a <;> decide
  rw [e]
  show BitVec.ofNat 32 q = BitVec.ofNat 32 t - BitVec.ofNat 32 (16384 * a) ↔ _
  rw [← BitVec.toNat_inj, BitVec.toNat_sub, BitVec.toNat_ofNat, BitVec.toNat_ofNat, BitVec.toNat_ofNat]
  omega

theorem lt7 (i : grid0.Coords) : (i 0).val < 7 := (i 0).isLt

theorem mask_val : (Named.named (F := Ideal) (φ := .f32) κ "mask" 0xF149F2CA#32 : EReal) = ⊥ := IdealRules.named_const.ideal_named_scalar _ _ _ _ rfl
theorem ln_val : (Named.named (F := Ideal) (φ := .f32) κ "ln_m" 0xBC24AA2A#32 : EReal) = ((Real.log (99 / 100) : ℝ) : EReal) := IdealRules.named_const.ideal_named_scalar _ _ _ _ rfl
theorem one_m_val : (Named.named (F := Ideal) (φ := .f32) κ "one_m" 0x3C23D70A#32 : EReal) = ((1 / 100 : ℝ) : EReal) := IdealRules.named_const.ideal_named_scalar _ _ _ _ rfl

/-- The logits of a block: below the class axis's end the product plus the bias, past it minus infinity. -/
theorem pay14_read (i : grid0.Coords) (h : Vec Ideal S64x128 .f32) (w : Vec Ideal S128x16384 .f32) (b : Vec Ideal S1x16384 .f32) (r : Fin 64) (q : Fin 16384) :
    k0_pay14 i h w b (ix2 r q) = if 16384 * (i 0).val + q.val < 100000 then ∑ x, h (ix2 r x) * w (ix2 x q) + b (ix2 0 q) else ⊥ := by
  unfold_payloads; pointwise
  unfold Scalar.select
  rw [mask_val]
  exact if_congr (inside_bit _ _ (lt7 i) q.isLt) rfl rfl

/-- The class memory's rows of a block, zero past the class axis's end. -/
theorem pay15_read (i : grid0.Coords) (x : Vec Ideal S16384x64 .f32) (q : Fin 16384) (d : Fin 64) :
    k0_pay15 i x (ix2 q d) = if 16384 * (i 0).val + q.val < 100000 then x (ix2 q d) else 0 := by
  unfold_payloads; pointwise
  unfold Scalar.select
  exact if_congr (inside_bit _ _ (lt7 i) q.isLt) rfl rfl

theorem pay16_read (i : grid0.Coords) (h : Vec Ideal S64x128 .f32) (w : Vec Ideal S128x16384 .f32) (b : Vec Ideal S1x16384 .f32) (mo : Vec Ideal S64x1 .f32) (r : Fin 64)  :
    k0_pay16 i h w b mo (ix2 r 0) = max (mo (ix2 r 0)) (Finset.univ.sup fun q => k0_pay14 i h w b (ix2 r q)) := by
  unfold k0_pay16; generalize k0_pay14 i h w b = L; pointwise
  have : Ideal.ofBits FTy.f32 4286578688#32 = ⊥ := by simp [Ideal.ofBits, Ideal.ieee]
  rw [this]; rfl

theorem pay17_read (i : grid0.Coords) (h : Vec Ideal S64x128 .f32) (w : Vec Ideal S128x16384 .f32) (b : Vec Ideal S1x16384 .f32) (mo : Vec Ideal S64x1 .f32) (r : Fin 64)  :
    k0_pay17 i h w b mo mo (ix2 r 0) = Ideal.exp (mo (ix2 r 0) - k0_pay16 i h w b mo (ix2 r 0)) := by
  unfold k0_pay17; generalize k0_pay16 i h w b mo = L; pointwise

theorem pay18_read (i : grid0.Coords) (h : Vec Ideal S64x128 .f32) (w : Vec Ideal S128x16384 .f32) (b : Vec Ideal S1x16384 .f32) (mo : Vec Ideal S64x1 .f32) (r : Fin 64) (q : Fin 16384)  :
    k0_pay18 i h w b mo (ix2 r q) = Ideal.exp (k0_pay14 i h w b (ix2 r q) - k0_pay16 i h w b mo (ix2 r 0)) := by
  unfold k0_pay18; generalize k0_pay16 i h w b mo = L;  generalize k0_pay14 i h w b = L'; pointwise

theorem pay21_read (m : Vec Ideal S64x1 .f32) (r : Fin 64)  : (k0_pay21 m : FVec Ideal S64x1 .f32) (ix2 r 0) = m (ix2 r 0) := by
  unfold_payloads; pointwise

theorem pay19_read (a : Vec Ideal S64x1 .f32) (e : Vec Ideal S64x16384 .f32) (s : Vec Ideal S64x1 .f32) (r : Fin 64)  :
    k0_pay19 a e s (ix2 r 0) = s (ix2 r 0) * a (ix2 r 0) + ∑ x, e (ix2 r x) := by
  unfold_payloads; pointwise

theorem pay22_read (a : Vec Ideal S64x1 .f32) (e : Vec Ideal S64x16384 .f32) (s : Vec Ideal S64x1 .f32) (r : Fin 64)  :
    k0_pay22 a e s (ix2 r 0) = s (ix2 r 0) * a (ix2 r 0) + ∑ x, e (ix2 r x) := by
  unfold_payloads; pointwise

theorem pay20_read (x : Vec Ideal S16384x64 .f32) (a : Vec Ideal S64x1 .f32) (e : Vec Ideal S64x16384 .f32) (s : Vec Ideal S64x64 .f32) (r d : Fin 64)  :
    k0_pay20 x a e s (ix2 r d) = s (ix2 r d) * a (ix2 r 0) + ∑ q, e (ix2 r q) * x (ix2 q d) := by
  unfold_payloads; pointwise

/-- The picked logits: what was there plus the block's logits at the columns of the items' classes. -/
theorem pay23_read (i : grid0.Coords) (L : Vec Ideal S64x16384 .f32) (rt : Vec Ideal S1x64 .i32) (s : Vec Ideal S64x64 .f32) (r j : Fin 64) (t : ℕ) (ht : t < 100000)
    (hrt : rt (ix2 0 j) = BitVec.ofNat 32 t) :
    k0_pay23 (BitVec.ofNat 32 (i 0).val) L rt s (ix2 r j) = s (ix2 r j) + ∑ q : Fin 16384, L (ix2 r q) * if 16384 * (i 0).val + q.val = t then 1 else 0 := by
  unfold_payloads; pointwise
  refine congrArg _ (Finset.sum_congr rfl fun q _ => congrArg _ ?_)
  rw [bit_num, hrt]
  exact if_congr (column_bit _ _ _ (lt7 i) q.isLt ht) rfl rfl

theorem pay13_read (x : Vec Ideal S64x64 .f32) (w : Vec Ideal S64x128 .f32) (b : Vec Ideal S1x128 .f32) (r : Fin 64) (k : Fin 128) :
    k0_pay13 x w b (ix2 r k) = max (∑ c, x (ix2 r c) * w (ix2 c k) + b (ix2 0 k)) 0 := by
  unfold_payloads; pointwise

theorem pay9_read (r : Fin 64) : (k0_pay9 : FVec Ideal S64x1 .f32) (ix2 r 0) = ⊥ := by
  unfold_payloads; pointwise
  exact mask_val
theorem pay10_read (r : Fin 64) : (k0_pay10 : FVec Ideal S64x1 .f32) (ix2 r 0) = 0 := by
  unfold_payloads; pointwise
theorem pay11_read (r d : Fin 64) : (k0_pay11 : FVec Ideal S64x64 .f32) (ix2 r d) = 0 := by
  unfold_payloads; pointwise
theorem pay12_read (r d : Fin 64) : (k0_pay12 : FVec Ideal S64x64 .f32) (ix2 r d) = 0 := by
  unfold_payloads; pointwise

theorem pay3_read (m s : Vec Ideal S64x1 .f32) (r : Fin 64) : (k0_pay3 m s : FVec Ideal S64x1 .f32) (ix2 r 0) = m (ix2 r 0) + Ideal.log (s (ix2 r 0)) := by
  unfold_payloads; pointwise
theorem pay4_read (s : Vec Ideal S64x1 .f32) (a : Vec Ideal S64x64 .f32) (r d : Fin 64) : (k0_pay4 s a : FVec Ideal S64x64 .f32) (ix2 r d) = Ideal.div (a (ix2 r d)) (s (ix2 r 0)) := by
  unfold_payloads; pointwise

/-- Which items share a class, as a number. -/
theorem pay5_read (rr : Vec Ideal S1x64 .i32) (rc : Vec Ideal S64x1 .i32)  (r j : Fin 64)  :
    (k0_pay5 rr rc : FVec Ideal S64x64 .f32) (ix2 r j) = if rc (ix2 r 0) = rr (ix2 0 j) then 1 else 0 := by
  unfold_payloads; pointwise
  rw [bit_num]
  exact if_congr (cmp_eq _ _) rfl rfl

theorem pay6_read (rr : Vec Ideal S1x64 .i32) (rc : Vec Ideal S64x1 .i32)  (r : Fin 64)  :
    (k0_pay6 rr rc : FVec Ideal S64x1 .f32) (ix2 r 0) = ∑ j, (k0_pay5 rr rc : FVec Ideal S64x64 .f32) (ix2 r j) := by
  unfold k0_pay6; generalize (k0_pay5 rr rc : FVec Ideal S64x64 .f32) = E; pointwise

theorem pay7_read (rr : Vec Ideal S1x64 .i32) (rc : Vec Ideal S64x1 .i32)  (j : Fin 64)  :
    (k0_pay7 rr rc : FVec Ideal S1x64 .f32) (ix2 0 j)
      = if (∑ k : Fin 64, (k0_pay5 rr rc : FVec Ideal S64x64 .f32) (ix2 k j) * (if k.val < j.val then 1 else 0)) = 0 then 1 else 0 := by
  unfold k0_pay7; generalize (k0_pay5 rr rc : FVec Ideal S64x64 .f32) = E; pointwise
  rw [bit_num]
  have e : ∀ k : Fin 64, (FloatOps.sitofp (F := Ideal) .f32 (BitVec.setWidth 32 (IntOp.cmpi .slt (BitVec.ofNat 32 k.val) (BitVec.ofNat 32 j.val))) : EReal) = if k.val < j.val then 1 else 0 := fun k => by
    rw [bit_num]; exact if_congr (cmp_slt _ _ (by omega) (by omega)) rfl rfl
  simp only [e]
  refine if_congr ?_ rfl rfl
  generalize (∑ k : Fin 64, E (ix2 k j) * (if k.val < j.val then (1 : EReal) else 0)) = S
  by_cases h : S = 0 <;> simp [h]

theorem pay8_read (rr : Vec Ideal S1x64 .i32) (rc : Vec Ideal S64x1 .i32) (rx : Vec Ideal S64x64 .f32) (r d : Fin 64)  :
    k0_pay8 rr rc rx (ix2 r d) = ∑ j : Fin 64, (k0_pay5 rr rc : FVec Ideal S64x64 .f32) (ix2 r j)
      * (((1 / 100 : ℝ) : EReal) * Ideal.exp ((∑ k : Fin 64, (k0_pay5 rr rc : FVec Ideal S64x64 .f32) (ix2 k j) * (if j.val < k.val then 1 else 0)) * ((Real.log (99 / 100) : ℝ) : EReal)))
      * rx (ix2 j d) := by
  unfold k0_pay8; generalize (k0_pay5 rr rc : FVec Ideal S64x64 .f32) = E; pointwise
  refine Finset.sum_congr rfl fun j _ => ?_
  have e : ∀ k : Fin 64, (FloatOps.sitofp (F := Ideal) .f32 (BitVec.setWidth 32 (IntOp.cmpi .sgt (BitVec.ofNat 32 k.val) (BitVec.ofNat 32 j.val))) : EReal) = if j.val < k.val then 1 else 0 := fun k => by
    rw [bit_num]; exact if_congr (cmp_sgt _ _ (by omega) (by omega)) rfl rfl
  simp only [e]
  rw [one_m_val, ln_val]

/-- The first result: the weighted mean of the old rows, plus the correction of the rows the items update, plus the item's own row. -/
theorem pay1_read (lse : Vec Ideal S64x1 .f32) (a : Vec Ideal S64x64 .f32) (cnt : Vec Ideal S64x1 .f32) (fc : Vec Ideal S1x64 .f32) (st : Vec Ideal S64x64 .f32) (z : Ideal .f32)  (old tl rx : Vec Ideal S64x64 .f32) (r d : Fin 64) :
    k0_pay1 lse a cnt fc st z old tl rx (ix2 r d) = a (ix2 r d)
      + ∑ x, Ideal.exp (tl (ix2 r x) - lse (ix2 r 0)) * fc (ix2 0 x) * ((Ideal.exp (cnt (ix2 x 0) * z) - 1) * old (ix2 x d) + st (ix2 x d)) + rx (ix2 r d) := by
  unfold_payloads; pointwise

/-- The second result: the mean over the items of the log of the sum less the item's own logit. -/
theorem pay2_read (lse : Vec Ideal S64x1 .f32) (tl : Vec Ideal S64x64 .f32)  :
    k0_pay2 lse (iota .tc S64x64 32 [0] iota_S64x64_d0_w32) (iota .tc S64x64 32 [1] iota_S64x64_d1_w32) tl (ix2 0 0)
      = (∑ b, (lse (ix2 b 0) - tl (ix2 b b))) * ((1 / 64 : ℝ) : EReal) := by
  unfold_payloads; pointwise
  have hc : Ideal.ofBits FTy.f32 1015021568#32 = ((1 / 64 : ℝ) : EReal) := by
    simp [Ideal.ofBits, Ideal.ieee, -EReal.coe_mul]; norm_num
  rw [hc]
  refine congrArg (· * _) (Finset.sum_congr rfl fun b _ => congrArg _ ?_)
  rw [Finset.sum_eq_single b]
  · rw [bit_num, if_pos ((cmp_eq _ _).mpr rfl), mul_one]
  · intro k _ hk
    rw [bit_num, if_neg, mul_zero]
    rw [cmp_eq]
    intro h
    have := congrArg BitVec.toNat h
    rw [BitVec.toNat_ofNat, BitVec.toNat_ofNat, Nat.mod_eq_of_lt (by omega), Nat.mod_eq_of_lt (by omega)] at this
    exact hk (Fin.ext this.symm)
  · intro h; exact absurd (Finset.mem_univ b) h

end Cert.StreamIdeal.Reads

end
-- ==== Proof.StreamBlocks.lean ====
/- The blocks the stream kernel is handed at each grid point, read off the arrays; the part of a block past the class
   axis's end has no say in what the body computes. -/
module

public import proofs.«01_k».proof.Proof.StreamReads
public import Idealize.ShloMosaic.Lib.Pipeline.ValueKit
public import Idealize.ShloMosaic.Lib.StableHlo.RunRead

@[expose] public section

set_option maxRecDepth 16384

noncomputable section

namespace Cert.StreamIdeal.Blocks

open Cert.StreamIdeal Cert.StreamIdeal.Gen Idealize.ShloMosaic Idealize.ShloMosaic.TcCoe Idealize.SL.Sem
open Cert.StreamIdeal.Reads Cert.StreamIdeal.Body

variable (m : (ℓ : Loc nD τ sig) → Buf (Elt Ideal) ℓ)

/-- The blocks' positions at each grid point. -/
theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, (grid0.coords t 0).val] := (by decide +kernel : ∀ t : Fin grid0.N, _)
theorem index4 : ∀ t : Fin cfg0.N, win0_4.index t = ![0, (grid0.coords t 0).val] := (by decide +kernel : ∀ t : Fin grid0.N, _)
theorem index5 : ∀ t : Fin cfg0.N, win0_5.index t = ![(grid0.coords t 0).val, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)

theorem block0 (c : Dev nD) (t : Fin cfg0.N) : iblk m c 0 t = V m c main_arg0 := by blk_ext! [iblk, index0 t]
theorem block1 (c : Dev nD) (t : Fin cfg0.N) : iblk m c 1 t = V m c main_arg4 := by blk_ext! [iblk, index1 t]
theorem block2 (c : Dev nD) (t : Fin cfg0.N) : iblk m c 2 t = V m c main_v11 := by blk_ext! [iblk, index2 t]
theorem block6 (c : Dev nD) (t : Fin cfg0.N) : iblk m c 6 t = V m c main_v8 := by blk_ext! [iblk, index6 t]
theorem block7 (c : Dev nD) (t : Fin cfg0.N) : iblk m c 7 t = V m c main_v9 := by blk_ext! [iblk, index7 t]
theorem block8 (c : Dev nD) (t : Fin cfg0.N) : iblk m c 8 t = V m c main_v10 := by blk_ext! [iblk, index8 t]
theorem block9 (c : Dev nD) (t : Fin cfg0.N) : iblk m c 9 t = V m c main_v7 := by blk_ext! [iblk, index9 t]

/-- How much of a block lies inside its array. -/
theorem size3 : ∀ t : Fin cfg0.N, win0_3.xsize (grid0.coords t) = ![128, min 16384 (100000 - 16384 * (grid0.coords t 0).val)] :=
  (by decide +kernel : ∀ t : Fin grid0.N, _)
theorem size4 : ∀ t : Fin cfg0.N, win0_4.xsize (grid0.coords t) = ![1, min 16384 (100000 - 16384 * (grid0.coords t 0).val)] :=
  (by decide +kernel : ∀ t : Fin grid0.N, _)
theorem size5 : ∀ t : Fin cfg0.N, win0_5.xsize (grid0.coords t) = ![min 16384 (100000 - 16384 * (grid0.coords t 0).val), 64] :=
  (by decide +kernel : ∀ t : Fin grid0.N, _)

/-- A column inside the array of the second layer's weights, as the body finds it. -/
theorem fill3 (c : Dev nD) (t : Fin cfg0.N) (d : win0_3.block.Idx → Elt Ideal .f32) (k : Fin 128) (q : Fin 16384)
    (h : 16384 * (grid0.coords t 0).val + q.val < 100000) :
    win0_3.fill (grid0.coords t) d (iblk m c 3 t) (ix2 k q) = V m c main_arg6 (ix2 k ⟨16384 * (grid0.coords t 0).val + q.val, h⟩) := by
  have hm : win0_3.moved (grid0.coords t) (ix2 k q) = true := by
    rw [Pipeline.Window.moved_iff]
    intro a
    rw [size3 t]
    match a with
    | ⟨0, _⟩ => exact k.isLt
    | ⟨1, _⟩ => show q.val < min 16384 _; omega
  unfold Pipeline.Window.fill
  rw [dif_pos hm]
  blk_simp [iblk, index3 t]
  congr 1
  funext a; apply Fin.ext
  match a with
  | ⟨0, _⟩ => blk_simp [index3 t]
  | ⟨1, _⟩ => blk_simp [index3 t]; show (grid0.coords t 0).val * 16384 + q.val = 16384 * (grid0.coords t 0).val + q.val; omega

/-- A column inside the array of the second layer's bias, likewise. -/
theorem fill4 (c : Dev nD) (t : Fin cfg0.N) (d : win0_4.block.Idx → Elt Ideal .f32) (q : Fin 16384)
    (h : 16384 * (grid0.coords t 0).val + q.val < 100000) :
    win0_4.fill (grid0.coords t) d (iblk m c 4 t) (ix2 0 q) = V m c main_v12 (ix2 0 ⟨16384 * (grid0.coords t 0).val + q.val, h⟩) := by
  have hm : win0_4.moved (grid0.coords t) (ix2 0 q) = true := by
    rw [Pipeline.Window.moved_iff]
    intro a
    rw [size4 t]
    match a with
    | ⟨0, _⟩ => exact Nat.one_pos
    | ⟨1, _⟩ => show q.val < min 16384 _; omega
  unfold Pipeline.Window.fill
  rw [dif_pos hm]
  blk_simp [iblk, index4 t]
  congr 1
  funext a; apply Fin.ext
  match a with
  | ⟨0, _⟩ => blk_simp [index4 t]
  | ⟨1, _⟩ => blk_simp [index4 t]; show (grid0.coords t 0).val * 16384 + q.val = 16384 * (grid0.coords t 0).val + q.val; omega

/-- A row inside the array of the class memory, likewise. -/
theorem fill5 (c : Dev nD) (t : Fin cfg0.N) (d : win0_5.block.Idx → Elt Ideal .f32) (q : Fin 16384) (k : Fin 64)
    (h : 16384 * (grid0.coords t 0).val + q.val < 100000) :
    win0_5.fill (grid0.coords t) d (iblk m c 5 t) (ix2 q k) = V m c main_v0 (ix2 ⟨16384 * (grid0.coords t 0).val + q.val, h⟩ k) := by
  have hm : win0_5.moved (grid0.coords t) (ix2 q k) = true := by
    rw [Pipeline.Window.moved_iff]
    intro a
    rw [size5 t]
    match a with
    | ⟨0, _⟩ => show q.val < min 16384 _; omega
    | ⟨1, _⟩ => exact k.isLt
  unfold Pipeline.Window.fill
  rw [dif_pos hm]
  blk_simp [iblk, index5 t]
  congr 1
  funext a; apply Fin.ext
  match a with
  | ⟨0, _⟩ => blk_simp [index5 t]; show (grid0.coords t 0).val * 16384 + q.val = 16384 * (grid0.coords t 0).val + q.val; omega
  | ⟨1, _⟩ => blk_simp [index5 t]

/-- The blocks as the proof names them: zero past the array's end. -/
def wblk (c : Dev nD) (t : Fin cfg0.N) : Vec Ideal S128x16384 .f32 := win0_3.fill (grid0.coords t) (fun _ => (0 : EReal)) (iblk m c 3 t)
def bblk (c : Dev nD) (t : Fin cfg0.N) : Vec Ideal S1x16384 .f32 := win0_4.fill (grid0.coords t) (fun _ => (0 : EReal)) (iblk m c 4 t)
def rblk (c : Dev nD) (t : Fin cfg0.N) : Vec Ideal S16384x64 .f32 := win0_5.fill (grid0.coords t) (fun _ => (0 : EReal)) (iblk m c 5 t)

/-- The masked logits do not depend on what lies past the array's end. -/
theorem pay14_fill (c : Dev nD) (t : Fin cfg0.N) (h : Vec Ideal S64x128 .f32) (d3 : win0_3.block.Idx → Elt Ideal .f32) (d4 : win0_4.block.Idx → Elt Ideal .f32) :
    k0_pay14 (F := Ideal) (grid0.coords t) h (win0_3.fill (grid0.coords t) d3 (iblk m c 3 t)) (win0_4.fill (grid0.coords t) d4 (iblk m c 4 t))
      = k0_pay14 (grid0.coords t) h (wblk m c t) (bblk m c t) := by
  funext j
  obtain ⟨r, q, rfl⟩ : ∃ (r : Fin 64) (q : Fin 16384), j = ix2 r q := ⟨j 0, j 1, by funext a; match a with | ⟨0, _⟩ => rfl | ⟨1, _⟩ => rfl⟩
  rw [pay14_read, pay14_read]
  split
  next hq =>
    unfold wblk bblk
    rw [fill4 m c t _ q hq, fill4 m c t _ q hq]
    refine congrArg (· + _) (Finset.sum_congr rfl fun k _ => ?_)
    rw [fill3 m c t _ k q hq, fill3 m c t _ k q hq]
  next => rfl

/-- Nor do the masked rows of the class memory. -/
theorem pay15_fill (c : Dev nD) (t : Fin cfg0.N) (d5 : win0_5.block.Idx → Elt Ideal .f32) :
    k0_pay15 (F := Ideal) (grid0.coords t) (win0_5.fill (grid0.coords t) d5 (iblk m c 5 t)) = k0_pay15 (grid0.coords t) (rblk m c t) := by
  funext j
  obtain ⟨q, d, rfl⟩ : ∃ (q : Fin 16384) (d : Fin 64), j = ix2 q d := ⟨j 0, j 1, by funext a; match a with | ⟨0, _⟩ => rfl | ⟨1, _⟩ => rfl⟩
  rw [pay15_read, pay15_read]
  split
  next hq => unfold rblk; rw [fill5 m c t _ q d hq, fill5 m c t _ q d hq]
  next => rfl

section
variable (c : Dev nD) (t : Fin cfg0.N) (h : Vec Ideal S64x128 .f32) (d3 : win0_3.block.Idx → Elt Ideal .f32) (d4 : win0_4.block.Idx → Elt Ideal .f32)
  (d5 : win0_5.block.Idx → Elt Ideal .f32) (mo so : Vec Ideal S64x1 .f32) (ao tlo : Vec Ideal S64x64 .f32) (rt : Vec Ideal S1x64 .i32)

theorem pay16_fill : k0_pay16 (F := Ideal) (grid0.coords t) h (win0_3.fill (grid0.coords t) d3 (iblk m c 3 t)) (win0_4.fill (grid0.coords t) d4 (iblk m c 4 t)) mo
    = k0_pay16 (grid0.coords t) h (wblk m c t) (bblk m c t) mo := by unfold k0_pay16; rw [pay14_fill]
theorem pay17_fill : k0_pay17 (F := Ideal) (grid0.coords t) h (win0_3.fill (grid0.coords t) d3 (iblk m c 3 t)) (win0_4.fill (grid0.coords t) d4 (iblk m c 4 t)) mo mo
    = k0_pay17 (grid0.coords t) h (wblk m c t) (bblk m c t) mo mo := by unfold k0_pay17; rw [pay16_fill]
theorem pay18_fill : k0_pay18 (F := Ideal) (grid0.coords t) h (win0_3.fill (grid0.coords t) d3 (iblk m c 3 t)) (win0_4.fill (grid0.coords t) d4 (iblk m c 4 t)) mo
    = k0_pay18 (grid0.coords t) h (wblk m c t) (bblk m c t) mo := by unfold k0_pay18; rw [pay16_fill, pay14_fill]
/-- So what the body leaves in its scratch buffers and results does not either. -/
theorem mNew_fill : mNew (F := Ideal) (grid0.coords t) h (win0_3.fill (grid0.coords t) d3 (iblk m c 3 t)) (win0_4.fill (grid0.coords t) d4 (iblk m c 4 t)) mo
    = mNew (grid0.coords t) h (wblk m c t) (bblk m c t) mo := by unfold mNew; rw [pay16_fill]
theorem sNew_fill : sNew (F := Ideal) (grid0.coords t) h (win0_3.fill (grid0.coords t) d3 (iblk m c 3 t)) (win0_4.fill (grid0.coords t) d4 (iblk m c 4 t)) mo so
    = sNew (grid0.coords t) h (wblk m c t) (bblk m c t) mo so := by unfold sNew; rw [pay17_fill, pay18_fill]
theorem accNew_fill : accNew (F := Ideal) (grid0.coords t) h (win0_3.fill (grid0.coords t) d3 (iblk m c 3 t)) (win0_4.fill (grid0.coords t) d4 (iblk m c 4 t))
      (win0_5.fill (grid0.coords t) d5 (iblk m c 5 t)) mo ao
    = accNew (grid0.coords t) h (wblk m c t) (bblk m c t) (rblk m c t) mo ao := by unfold accNew; rw [pay17_fill, pay18_fill, pay15_fill]
theorem tlNew_fill : tlNew (F := Ideal) (grid0.coords t) h (win0_3.fill (grid0.coords t) d3 (iblk m c 3 t)) (win0_4.fill (grid0.coords t) d4 (iblk m c 4 t)) rt tlo
    = tlNew (grid0.coords t) h (wblk m c t) (bblk m c t) rt tlo := by unfold tlNew; rw [pay14_fill]
theorem mLast_fill : mLast (F := Ideal) (grid0.coords t) h (win0_3.fill (grid0.coords t) d3 (iblk m c 3 t)) (win0_4.fill (grid0.coords t) d4 (iblk m c 4 t)) mo
    = mLast (grid0.coords t) h (wblk m c t) (bblk m c t) mo := by unfold mLast; rw [pay16_fill]
theorem sLast_fill : sLast (F := Ideal) (grid0.coords t) h (win0_3.fill (grid0.coords t) d3 (iblk m c 3 t)) (win0_4.fill (grid0.coords t) d4 (iblk m c 4 t)) mo so
    = sLast (grid0.coords t) h (wblk m c t) (bblk m c t) mo so := by unfold sLast; rw [pay17_fill, pay18_fill]
end

end Cert.StreamIdeal.Blocks

end
-- ==== Proof.StreamRun.lean ====
/- The run of the stream kernel over the extended reals: the running state after each grid point, and what the two
   results hold at the end. -/
module

public import proofs.«01_k».proof.Proof.StreamBlocks

@[expose] public section

set_option maxRecDepth 16384

noncomputable section

namespace Cert.StreamIdeal.Run

open Cert.StreamIdeal Cert.StreamIdeal.Gen Cert.StreamIdeal.Body Cert.StreamIdeal.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

local notation "𝕄" => MT nD τ sig Unit (Elt Ideal) ℕ (UR sig nD τ) ℕ

variable (m : (ℓ : Loc nD τ sig) → Buf (Elt Ideal) ℓ) (ρ : Dev nD → PrngReg)

/-- The running state: maximum, sum of exponentials, weighted sum of rows, picked logits, and the hidden layer. -/
structure St where
  m : Vec Ideal S64x1 .f32
  s : Vec Ideal S64x1 .f32
  acc : Vec Ideal S64x64 .f32
  tl : Vec Ideal S64x64 .f32
  h : Vec Ideal S64x128 .f32

/-- The state the first point starts from. -/
def init (c : Dev nD) : St := ⟨k0_pay9 (F := Ideal), k0_pay10 (F := Ideal), k0_pay11 (F := Ideal), k0_pay12 (F := Ideal), hFirst (iblk m c 0 t0_0) (iblk m c 1 t0_0) (iblk m c 2 t0_0)⟩

/-- One point's step. -/
def step (c : Dev nD) (t : Fin cfg0.N) (x : St) : St :=
  ⟨mNew (grid0.coords t) x.h (wblk m c t) (bblk m c t) x.m, sNew (grid0.coords t) x.h (wblk m c t) (bblk m c t) x.m x.s,
    accNew (grid0.coords t) x.h (wblk m c t) (bblk m c t) (rblk m c t) x.m x.acc,
    tlNew (grid0.coords t) x.h (wblk m c t) (bblk m c t) (iblk m c 6 t) x.tl, x.h⟩

/-- The grid point numbered `n`. -/
def pt (n : ℕ) : Fin cfg0.N := if h : n < cfg0.N then ⟨n, h⟩ else t0_0
theorem pt_val (t : Fin cfg0.N) : pt t.val = t := by unfold pt; rw [dif_pos t.isLt]

/-- The state after `n` points. -/
def st (c : Dev nD) : ℕ → St
  | 0 => init m c
  | n + 1 => step m c (pt n) (st c n)

theorem st_next (c : Dev nD) (t : Fin cfg0.N) : st m c (t.val + 1) = step m c t (st m c t.val) := by
  show step m c (pt t.val) _ = _
  rw [pt_val]

/-- What the last point leaves as the results (stated at any point, from the state it finds). -/
def outAt (c : Dev nD) (t : Fin cfg0.N) : Vec Ideal S64x64 .f32 :=
  outLast (iblk m c 6 t) (iblk m c 7 t) (iblk m c 8 t) (iblk m c 9 t)
    (mLast (grid0.coords t) (st m c t.val).h (wblk m c t) (bblk m c t) (st m c t.val).m)
    (sLast (grid0.coords t) (st m c t.val).h (wblk m c t) (bblk m c t) (st m c t.val).m (st m c t.val).s)
    (accNew (grid0.coords t) (st m c t.val).h (wblk m c t) (bblk m c t) (rblk m c t) (st m c t.val).m (st m c t.val).acc)
    (tlNew (grid0.coords t) (st m c t.val).h (wblk m c t) (bblk m c t) (iblk m c 6 t) (st m c t.val).tl)
def lossAt (c : Dev nD) (t : Fin cfg0.N) : Vec Ideal S1x1 .f32 :=
  lossLast (mLast (grid0.coords t) (st m c t.val).h (wblk m c t) (bblk m c t) (st m c t.val).m)
    (sLast (grid0.coords t) (st m c t.val).h (wblk m c t) (bblk m c t) (st m c t.val).m (st m c t.val).s)
    (tlNew (grid0.coords t) (st m c t.val).h (wblk m c t) (bblk m c t) (iblk m c 6 t) (st m c t.val).tl)

/-- The five scratch buffers at a state, and the generator register. -/
def scr (c : Dev nD) (x : St) : sProp 𝕄 :=
  iprop((owns (c : Thread nD τ) (Memref.whole cc0_scratch0) fullShare x.m ∗ owns (c : Thread nD τ) (Memref.whole cc0_scratch1) fullShare x.s
        ∗ owns (c : Thread nD τ) (Memref.whole cc0_scratch2) fullShare x.acc ∗ owns (c : Thread nD τ) (Memref.whole cc0_scratch3) fullShare x.tl
        ∗ owns (c : Thread nD τ) (Memref.whole cc0_scratch4) fullShare x.h) ∗ (∃ r, prngReg c r))

/-- The invariant before point `n`: before the first nothing is known of the scratch, later it holds the state. -/
def PhiS (c : Dev nD) : ℕ → sProp 𝕄
  | 0 => Pipeline.ΦA spec0 c
  | n + 1 => scr c (st m c (n + 1))

/-- The proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => wblk m c t
    | ⟨4, _⟩ => bblk m c t
    | ⟨5, _⟩ => rblk m c t
    | ⟨6, _⟩ => iblk m c 6 t
    | ⟨7, _⟩ => iblk m c 7 t
    | ⟨8, _⟩ => iblk m c 8 t
    | ⟨9, _⟩ => iblk m c 9 t
    | ⟨10, _⟩ => outAt m c t
    | ⟨11, _⟩ => lossAt m c t
  Φ t := PhiS m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = wblk m c t := by dsimp only [dats]
theorem after4 (c : Dev nD) (t : Fin cfg0.N) : (dats m 0 c).after 4 t = bblk m c t := by dsimp only [dats]
theorem after5 (c : Dev nD) (t : Fin cfg0.N) : (dats m 0 c).after 5 t = rblk m c t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outAt m c t := by dsimp only [dats]
theorem after11 (c : Dev nD) (t : Fin cfg0.N) : (dats m 0 c).after 11 t = lossAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = win0_3.fill (grid0.coords t) d (iblk m c 3 t) := by
  unfold Dat.before; rw [if_pos (fetch0_3 t)]; rfl
theorem before4 (c : Dev nD) (t : Fin cfg0.N) (d) : (dats m 0 c).before 4 t d = win0_4.fill (grid0.coords t) d (iblk m c 4 t) := by
  unfold Dat.before; rw [if_pos (fetch0_4 t)]; rfl
theorem before5 (c : Dev nD) (t : Fin cfg0.N) (d) : (dats m 0 c).before 5 t d = win0_5.fill (grid0.coords t) d (iblk m c 5 t) := by
  unfold Dat.before; rw [if_pos (fetch0_5 t)]; rfl
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- Before the first point: the five scratch buffers at some contents and the generator register. -/
theorem PhiA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)
        ∗ (∃ d, owns (c : Thread nD τ) (Memref.whole cc0_scratch4) fullShare d)) ∗ (∃ r, prngReg c r)) := by
  unfold Pipeline.ΦA; rw [scopedRest0_eq]; simp only [owns_whole]; try rfl

theorem Phi_succ (c : Dev nD) (t : Fin cfg0.N) : (dats m 0 c).Φ t.succ = scr c (st m c (t.val + 1)) := rfl
theorem PhiS_close (c : Dev nD) (t : Fin cfg0.N) : (scr c (st m c (t.val + 1)) : sProp 𝕄) ⊢ (dats m 0 c).Φ t.succ := by rw [Phi_succ]
theorem Phi_first (c : Dev nD) (t : Fin cfg0.N) (h : t.val = 0) : (dats m 0 c).Φ t.castSucc = Pipeline.ΦA spec0 c := by
  show PhiS m c t.val = _
  rw [h]; rfl
theorem Phi_later (c : Dev nD) (t : Fin cfg0.N) (h : t.val ≠ 0) : (dats m 0 c).Φ t.castSucc = scr c (st m c t.val) := by
  show PhiS m c t.val = _
  obtain ⟨n, hn⟩ := Nat.exists_eq_succ_of_ne_zero h
  rw [hn]; rfl

/-- The points' kinds. -/
theorem first_val : ∀ t : Fin cfg0.N, isFirst (grid0.coords t) = 1#1 → t.val = 0 :=
  (by decide +kernel : ∀ t : Fin grid0.N, isFirst (grid0.coords t) = 1#1 → t.val = 0)
theorem later_val : ∀ t : Fin cfg0.N, ¬ isFirst (grid0.coords t) = 1#1 → t.val ≠ 0 :=
  (by decide +kernel : ∀ t : Fin grid0.N, ¬ isFirst (grid0.coords t) = 1#1 → t.val ≠ 0)
theorem not_both : ∀ t : Fin cfg0.N, isFirst (grid0.coords t) = 1#1 → ¬ k0_cond2 (grid0.coords t) = 1#1 :=
  (by decide +kernel : ∀ t : Fin grid0.N, isFirst (grid0.coords t) = 1#1 → ¬ k0_cond2 (grid0.coords t) = 1#1)
theorem not_last : ∀ t : Fin cfg0.N, ¬ k0_cond2 (grid0.coords t) = 1#1 → ¬ t.val % 7 = 6 :=
  (by decide +kernel : ∀ t : Fin grid0.N, ¬ k0_cond2 (grid0.coords t) = 1#1 → ¬ t.val % 7 = 6)
theorem flush10 (t : Fin cfg0.N) (h : ¬ k0_cond2 (grid0.coords t) = 1#1) : (cfg0.win 10).flush t = false :=
  Bool.eq_false_iff.mpr fun e => not_last t h ((flush0_10 t).mp e)
theorem flush11 (t : Fin cfg0.N) (h : ¬ k0_cond2 (grid0.coords t) = 1#1) : (cfg0.win 11).flush t = false :=
  Bool.eq_false_iff.mpr fun e => not_last t h ((flush0_11 t).mp e)

theorem st_first (c : Dev nD) (t : Fin cfg0.N) (h : t.val = 0) : st m c (t.val + 1)
    = ⟨mNew (grid0.coords t) (hFirst (iblk m c 0 t) (iblk m c 1 t) (iblk m c 2 t)) (wblk m c t) (bblk m c t) (k0_pay9 (F := Ideal)),
      sNew (grid0.coords t) (hFirst (iblk m c 0 t) (iblk m c 1 t) (iblk m c 2 t)) (wblk m c t) (bblk m c t) (k0_pay9 (F := Ideal)) (k0_pay10 (F := Ideal)),
      accNew (grid0.coords t) (hFirst (iblk m c 0 t) (iblk m c 1 t) (iblk m c 2 t)) (wblk m c t) (bblk m c t) (rblk m c t) (k0_pay9 (F := Ideal)) (k0_pay11 (F := Ideal)),
      tlNew (grid0.coords t) (hFirst (iblk m c 0 t) (iblk m c 1 t) (iblk m c 2 t)) (wblk m c t) (bblk m c t) (iblk m c 6 t) (k0_pay12 (F := Ideal)),
      hFirst (iblk m c 0 t) (iblk m c 1 t) (iblk m c 2 t)⟩ := by
  have ht : t = t0_0 := Fin.ext h
  subst ht
  rw [st_next]
  rfl

/-- Where the results are not written their buffers are handed back as found, -/
theorem leaves10_idle (c : Dev nD) (t : Fin cfg0.N) (h : ¬ k0_cond2 (grid0.coords t) = 1#1) :
    iprop(∃ d, owns (c : Thread nD τ) (st0_10 t) fullShare ((dats m 0 c).before 10 t d)) ⊢ ((dats m 0 c).leaves 10 t : sProp 𝕄) := by
  have hi : cfg0.idle 10 (cfg0.grid.coords t) = true := by
    show (!(k0_cond2 (grid0.coords t) == 1#1)) = true
    simp [h]
  have hf : (cfg0.win 10).flush t = false := flush10 t h
  unfold Dat.leaves
  rw [hi, hf]
/-- and at the last point they hold the result. -/
theorem leaves10_last (c : Dev nD) (t : Fin cfg0.N) (h : k0_cond2 (grid0.coords t) = 1#1) :
    owns (c : Thread nD τ) (st0_10 t) fullShare (outAt m c t) ⊢ ((dats m 0 c).leaves 10 t : sProp 𝕄) := by
  have hi : cfg0.idle 10 (cfg0.grid.coords t) = false := by
    show (!(k0_cond2 (grid0.coords t) == 1#1)) = false
    simp [h]
  unfold Dat.leaves
  rw [hi, after10]
/-- Where the results are not written their buffers are handed back as found, -/
theorem leaves11_idle (c : Dev nD) (t : Fin cfg0.N) (h : ¬ k0_cond2 (grid0.coords t) = 1#1) :
    iprop(∃ d, owns (c : Thread nD τ) (st0_11 t) fullShare ((dats m 0 c).before 11 t d)) ⊢ ((dats m 0 c).leaves 11 t : sProp 𝕄) := by
  have hi : cfg0.idle 11 (cfg0.grid.coords t) = true := by
    show (!(k0_cond2 (grid0.coords t) == 1#1)) = true
    simp [h]
  have hf : (cfg0.win 11).flush t = false := flush11 t h
  unfold Dat.leaves
  rw [hi, hf]
/-- and at the last point they hold the result. -/
theorem leaves11_last (c : Dev nD) (t : Fin cfg0.N) (h : k0_cond2 (grid0.coords t) = 1#1) :
    owns (c : Thread nD τ) (st0_11 t) fullShare (lossAt m c t) ⊢ ((dats m 0 c).leaves 11 t : sProp 𝕄) := by
  have hi : cfg0.idle 11 (cfg0.grid.coords t) = false := by
    show (!(k0_cond2 (grid0.coords t) == 1#1)) = false
    simp [h]
  unfold Dat.leaves
  rw [hi, after11]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d))
      ∗ (∃ d, owns (c : Thread nD τ) (st0_9 t) fullShare ((dats m 0 c).before 9 t d))
      ∗ (∃ d, owns (c : Thread nD τ) (st0_10 t) fullShare ((dats m 0 c).before 10 t d))
      ∗ (∃ d, owns (c : Thread nD τ) (st0_11 t) fullShare ((dats m 0 c).before 11 t d)))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ (∃ d, owns (c : Thread nD τ) (st0_3 t) fullShare ((cfg0.win 3).fill (cfg0.grid.coords t) d ((cfg0.win 3).cut (cfg0.grid.coords t) ((dats m 0 c).after 3 t))))
      ∗ (∃ d, owns (c : Thread nD τ) (st0_4 t) fullShare ((cfg0.win 4).fill (cfg0.grid.coords t) d ((cfg0.win 4).cut (cfg0.grid.coords t) ((dats m 0 c).after 4 t))))
      ∗ (∃ d, owns (c : Thread nD τ) (st0_5 t) fullShare ((cfg0.win 5).fill (cfg0.grid.coords t) d ((cfg0.win 5).cut (cfg0.grid.coords t) ((dats m 0 c).after 5 t))))
      ∗ owns (c : Thread nD τ) (st0_6 t) fullShare ((dats m 0 c).after 6 t)
      ∗ owns (c : Thread nD τ) (st0_7 t) fullShare ((dats m 0 c).after 7 t)
      ∗ owns (c : Thread nD τ) (st0_8 t) fullShare ((dats m 0 c).after 8 t)
      ∗ owns (c : Thread nD τ) (st0_9 t) fullShare ((dats m 0 c).after 9 t)
      ∗ (dats m 0 c).leaves 10 t
      ∗ (dats m 0 c).leaves 11 t)

/-- The body at any point runs from the state it finds to the next. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl,
    after0, after1, after2, after3, after4, after5, after6, after7, after8, after9]
  by_cases hc1 : isFirst (grid0.coords t) = 1#1
  · have hc2 := not_both t hc1
    rw [Phi_first m c t (first_val t hc1), PhiA_eq]
    iintro ⟨⟨⟨⟨%e0, S0⟩, ⟨%e1, S1⟩, ⟨%e2, S2⟩, ⟨%e3, S3⟩, ⟨%e4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (Body.run_first c (grid0.coords t) _ _ _ _ _ _ _ _ _ _ _ _ _ _ _ _ _ _ _ _ _ _ _ _ _ _ _ _ _ _ _ _ _ _ (iblk m c 0 t) (iblk m c 1 t) (iblk m c 2 t) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) (iblk m c 9 t) ((dats m 0 c).before 10 t d10) ((dats m 0 c).before 11 t d11) e0 e1 e2 e3 e4 hc1 hc2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    rw [mNew_fill, sNew_fill, accNew_fill, tlNew_fill]
    iintro ⟨H0, H1, H2, H3, H4, H5, H6, H7, H8, H9, H10, H11, S0, S1, S2, S3, S4⟩
    isplitl [S0 S1 S2 S3 S4 Hg]
    · iapply (PhiS_close m c t); unfold scr
      rw [st_first m c t (first_val t hc1)]
      isplitl [S0 S1 S2 S3 S4]
      · isplitl [S0]; · iexact S0
        isplitl [S1]; · iexact S1
        isplitl [S2]; · iexact S2
        isplitl [S3]; · iexact S3
        iexact S4
      iexact Hg
    isplitl [Ho]; · iexact Ho
    isplitl [H0]; · iexact H0
    isplitl [H1]; · iexact H1
    isplitl [H2]; · iexact H2
    isplitl [H3]; · iexists d3; rw [show (cfg0.win 3).cut (cfg0.grid.coords t) (wblk m c t) = iblk m c 3 t from Pipeline.Window.cut_fill _ _ _ _]; iexact H3
    isplitl [H4]; · iexists d4; rw [show (cfg0.win 4).cut (cfg0.grid.coords t) (bblk m c t) = iblk m c 4 t from Pipeline.Window.cut_fill _ _ _ _]; iexact H4
    isplitl [H5]; · iexists d5; rw [show (cfg0.win 5).cut (cfg0.grid.coords t) (rblk m c t) = iblk m c 5 t from Pipeline.Window.cut_fill _ _ _ _]; iexact H5
    isplitl [H6]; · iexact H6
    isplitl [H7]; · iexact H7
    isplitl [H8]; · iexact H8
    isplitl [H9]; · iexact H9
    isplitl [H10]; · iapply (leaves10_idle m c t hc2); iexists _; iexact H10
    iapply (leaves11_idle m c t hc2); iexists _; iexact H11
  · rw [Phi_later m c t (later_val t hc1)]
    unfold scr
    iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    by_cases hc2 : k0_cond2 (grid0.coords t) = 1#1
    · iapply (Body.run_last c (grid0.coords t) _ _ _ _ _ _ _ _ _ _ _ _ _ _ _ _ _ _ _ _ _ _ _ _ _ _ _ _ _ _ _ _ _ _ (iblk m c 0 t) (iblk m c 1 t) (iblk m c 2 t) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) (iblk m c 9 t) ((dats m 0 c).before 10 t d10) ((dats m 0 c).before 11 t d11) (st m c t.val).m (st m c t.val).s (st m c t.val).acc (st m c t.val).tl (st m c t.val).h hc1 hc2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [S0]; · iexact S0
      isplitl [S1]; · iexact S1
      isplitl [S2]; · iexact S2
      isplitl [S3]; · iexact S3
      isplitl [S4]; · iexact S4
      rw [mNew_fill, sNew_fill, accNew_fill, tlNew_fill, mLast_fill, sLast_fill]
      iintro ⟨H0, H1, H2, H3, H4, H5, H6, H7, H8, H9, H10, H11, S0, S1, S2, S3, S4⟩
      isplitl [S0 S1 S2 S3 S4 Hg]
      · iapply (PhiS_close m c t); unfold scr
        rw [st_next m c t]
        isplitl [S0 S1 S2 S3 S4]
        · isplitl [S0]; · iexact S0
          isplitl [S1]; · iexact S1
          isplitl [S2]; · iexact S2
          isplitl [S3]; · iexact S3
          iexact S4
        iexact Hg
      isplitl [Ho]; · iexact Ho
      isplitl [H0]; · iexact H0
      isplitl [H1]; · iexact H1
      isplitl [H2]; · iexact H2
      isplitl [H3]; · iexists d3; rw [show (cfg0.win 3).cut (cfg0.grid.coords t) (wblk m c t) = iblk m c 3 t from Pipeline.Window.cut_fill _ _ _ _]; iexact H3
      isplitl [H4]; · iexists d4; rw [show (cfg0.win 4).cut (cfg0.grid.coords t) (bblk m c t) = iblk m c 4 t from Pipeline.Window.cut_fill _ _ _ _]; iexact H4
      isplitl [H5]; · iexists d5; rw [show (cfg0.win 5).cut (cfg0.grid.coords t) (rblk m c t) = iblk m c 5 t from Pipeline.Window.cut_fill _ _ _ _]; iexact H5
      isplitl [H6]; · iexact H6
      isplitl [H7]; · iexact H7
      isplitl [H8]; · iexact H8
      isplitl [H9]; · iexact H9
      isplitl [H10]; · iapply (leaves10_last m c t hc2); iexact H10
      iapply (leaves11_last m c t hc2); iexact H11
    · iapply (Body.run_mid c (grid0.coords t) _ _ _ _ _ _ _ _ _ _ _ _ _ _ _ _ _ _ _ _ _ _ _ _ _ _ _ _ _ _ _ _ _ _ (iblk m c 0 t) (iblk m c 1 t) (iblk m c 2 t) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) (iblk m c 9 t) ((dats m 0 c).before 10 t d10) ((dats m 0 c).before 11 t d11) (st m c t.val).m (st m c t.val).s (st m c t.val).acc (st m c t.val).tl (st m c t.val).h hc1 hc2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [S0]; · iexact S0
      isplitl [S1]; · iexact S1
      isplitl [S2]; · iexact S2
      isplitl [S3]; · iexact S3
      isplitl [S4]; · iexact S4
      rw [mNew_fill, sNew_fill, accNew_fill, tlNew_fill]
      iintro ⟨H0, H1, H2, H3, H4, H5, H6, H7, H8, H9, H10, H11, S0, S1, S2, S3, S4⟩
      isplitl [S0 S1 S2 S3 S4 Hg]
      · iapply (PhiS_close m c t); unfold scr
        rw [st_next m c t]
        isplitl [S0 S1 S2 S3 S4]
        · isplitl [S0]; · iexact S0
          isplitl [S1]; · iexact S1
          isplitl [S2]; · iexact S2
          isplitl [S3]; · iexact S3
          iexact S4
        iexact Hg
      isplitl [Ho]; · iexact Ho
      isplitl [H0]; · iexact H0
      isplitl [H1]; · iexact H1
      isplitl [H2]; · iexact H2
      isplitl [H3]; · iexists d3; rw [show (cfg0.win 3).cut (cfg0.grid.coords t) (wblk m c t) = iblk m c 3 t from Pipeline.Window.cut_fill _ _ _ _]; iexact H3
      isplitl [H4]; · iexists d4; rw [show (cfg0.win 4).cut (cfg0.grid.coords t) (bblk m c t) = iblk m c 4 t from Pipeline.Window.cut_fill _ _ _ _]; iexact H4
      isplitl [H5]; · iexists d5; rw [show (cfg0.win 5).cut (cfg0.grid.coords t) (rblk m c t) = iblk m c 5 t from Pipeline.Window.cut_fill _ _ _ _]; iexact H5
      isplitl [H6]; · iexact H6
      isplitl [H7]; · iexact H7
      isplitl [H8]; · iexact H8
      isplitl [H9]; · iexact H9
      isplitl [H10]; · iapply (leaves10_idle m c t hc2); iexists _; iexact H10
      iapply (leaves11_idle m c t hc2); iexists _; iexact H11

/-- The body table's row is the body at the point. -/
theorem defs₀_row (t : Fin cfg0.N) : defs₀ (F := Ideal) .tc cfg0.body (cfg0.bodyArgs t (cfg0.slots t)) = bodyAt0 t := by
  unfold defs₀; rw [Defs.onTc_tc]

/-- The body obligation. -/
theorem body_obligation (c : Dev nD) :
    BodyObligationLoose (dats m 0 c) (defs₀ (F := Ideal)) Variants.none () Set.univ := fun t => by
  rw [bigSep_W0, bigSep_W0, defs₀_row]
  exact triple_restated (sound_body m c t) rfl .rfl fun _ => .rfl

theorem scr_close (c : Dev nD) (x : St) : (scr c x : sProp 𝕄) ⊢ Pipeline.ΦA spec0 c := by
  rw [PhiA_eq]; unfold scr
  iintro ⟨⟨S0, S1, S2, S3, S4⟩, Hg⟩
  isplitl [S0 S1 S2 S3 S4]
  · isplitl [S0]; · iexists _; iexact S0
    isplitl [S1]; · iexists _; iexact S1
    isplitl [S2]; · iexists _; iexact S2
    isplitl [S3]; · iexists _; iexact S3
    iexists _; iexact S4
  iexact Hg

theorem hin (c : Dev nD) : (Pipeline.ΦA spec0 c : sProp 𝕄) ⊢ (dats m 0 c).Φ 0 := .rfl
theorem hout (c : Dev nD) : (dats m 0 c).Φ (Fin.last cfg0.N) ⊢ (Pipeline.ΦA spec0 c : sProp 𝕄) := scr_close c (st m c 7)

set_option backward.isDefEq.respectTransparency.types false in
/-- The run: every array ends with what the proof data say. -/
theorem run_main :
    θ_run defs (onTc (τ := τ) (main (F := Ideal))) (s₀ m ρ)
      (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := body_obligation m) (hshare := fun c w => (dats m 0 c).share_full (fun _ => rfl) w) (howed := fun _ _ => rfl)
    (V₀ := V0 m) (opss := [hostOps1]) (hsub := sfx_sub) (hfresh := sfx_fresh) (hkeep := sfx_keeps)
    (hmain := hmain m Variants.none) (hA := A_eq m) (hin := hin m) (hout := hout m)
    (hQ' := fun _ h => h)

/-- The result arrays after the region: what the last point leaves. -/
theorem final10 (c : Dev nD) : (dats m 0 c).arrAt 10 cfg0.N = outAt m c t0_6 := by
  refine (dats m 0 c).arrAt_eq_of_covers 10 _ (by decide +kernel) fun t hf y => ?_
  have ht : t = t0_6 := Fin.ext (by have := (flush0_10 t).mp hf; have h7 : t.val < 7 := t.isLt; show t.val = 6; omega)
  subst ht
  rw [after10]
  blk_simp
  congr 1
  funext a; apply Fin.ext
  match a with
  | ⟨0, _⟩ => blk_simp [index10 t0_6]
  | ⟨1, _⟩ => blk_simp [index10 t0_6]
theorem final11 (c : Dev nD) : (dats m 0 c).arrAt 11 cfg0.N = lossAt m c t0_6 := by
  refine (dats m 0 c).arrAt_eq_of_covers 11 _ (by decide +kernel) fun t hf y => ?_
  have ht : t = t0_6 := Fin.ext (by have := (flush0_11 t).mp hf; have h7 : t.val < 7 := t.isLt; show t.val = 6; omega)
  subst ht
  rw [after11]
  blk_simp
  congr 1
  funext a; apply Fin.ext
  match a with
  | ⟨0, _⟩ => blk_simp [index11 t0_6]
  | ⟨1, _⟩ => blk_simp [index11 t0_6]

/-- The two results as the program returns them. -/
theorem result14 (c : Dev nD) : Pipeline.afterTail₀ cfgs (dats m) 0 (V0 m) [hostOps1] c main_v14
    = (shapeCast S64x64x1x1 (outAt m c t0_6) shapeCasts_S64x64_S64x64x1x1 : Vec Ideal S64x64x1x1 .f32) := by
  unfold Pipeline.afterTail₀
  show StableHlo.after hostOps1 _ (Proc.devRef .tc main_v14) = _
  after_results
  rw [← final10 m c]
  have h := Pipeline.withArrays_arr cfg0.spec launch0.win.arr_inj c (V0 m c) (fun w => (dats m 0 c).arrAt w cfg0.N) 10
  funext i
  exact congrArg (fun x : Vec Ideal S64x64 .f32 => shapeCast S64x64x1x1 x shapeCasts_S64x64_S64x64x1x1 i) h
theorem result15 (c : Dev nD) : Pipeline.afterTail₀ cfgs (dats m) 0 (V0 m) [hostOps1] c main_v15
    = (shapeCast S_ (lossAt m c t0_6) shapeCasts_S1x1_S_ : Vec Ideal S_ .f32) := by
  unfold Pipeline.afterTail₀
  show StableHlo.after hostOps1 _ (Proc.devRef .tc main_v15) = _
  after_results
  rw [← final11 m c]
  have h := Pipeline.withArrays_arr cfg0.spec launch0.win.arr_inj c (V0 m c) (fun w => (dats m 0 c).arrAt w cfg0.N) 11
  funext i
  exact congrArg (fun x : Vec Ideal S1x1 .f32 => shapeCast S_ x shapeCasts_S1x1_S_ i) h

end Cert.StreamIdeal.Run

end
-- ==== Proof.StreamMath.lean ====
/- Mathematics on the real numbers behind the stream kernel: sums read in blocks, the softmax's indifference to a shift,
   and the closed form of the class memory after sixty-four updates. -/
module

public import Idealize.ShloMosaic.PureOps.Ideal
public import Idealize.ShloMosaic.Lib.Claim

@[expose] public section

noncomputable section

namespace Cert.StreamMath

open Finset Idealize.ShloMosaic

/-- A sum of real numbers, read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- The larger of two real numbers, read as extended reals. -/
theorem coe_max (a b : ℝ) : ((max a b : ℝ) : EReal) = max (a : EReal) (b : EReal) :=
  (EReal.coe_strictMono.monotone).map_max

/-- The greatest of finitely many entries none of which is `⊤`, one of which is a real number, is a real number. -/
theorem sup_real {ι : Type*} (s : Finset ι) (f : ι → EReal) (h : ∀ i ∈ s, f i ≠ ⊤) (i₀ : ι) (hi : i₀ ∈ s) (h₀ : f i₀ ≠ ⊥) :
    ∃ M : ℝ, s.sup f = (M : EReal) := by
  have h1 : s.sup f ≠ ⊥ := fun e => h₀ (le_bot_iff.mp (e ▸ Finset.le_sup (f := f) hi))
  have h2 : s.sup f ≠ ⊤ := by
    have : s.sup f < ⊤ := (Finset.sup_lt_iff (by simp)).mpr fun i hi => lt_top_iff_ne_top.mpr (h i hi)
    exact this.ne
  exact ⟨(s.sup f).toReal, (EReal.coe_toReal h2 h1).symm⟩

/-- A sum over the first `a + 16384` numbers: the first `a`, then the block of `16384`. -/
theorem sum_block (f : ℕ → ℝ) (a : ℕ) : ∑ r ∈ range (a + 16384), f r = ∑ r ∈ range a, f r + ∑ q : Fin 16384, f (a + q.val) := by
  rw [sum_range_add, ← Fin.sum_univ_eq_sum_range (fun q => f (a + q)) 16384]

/-- A sum over the seven blocks of entries that vanish past the last class is the sum over the classes. -/
theorem sum_all (f : ℕ → ℝ) : ∑ r ∈ range (16384 * 7), (if r < 100000 then f r else 0) = ∑ r : Fin 100000, f r.val := by
  rw [Fin.sum_univ_eq_sum_range f 100000, ← sum_filter]
  refine sum_congr ?_ fun _ _ => rfl
  ext r
  simp only [mem_filter, mem_range]
  omega

/-- Picking one class out of a sum. -/
theorem sum_pick {n : ℕ} (f : ℕ → ℝ) (t : ℕ) (h : t < n) : ∑ r : Fin n, (if r.val = t then f r.val else 0) = f t := by
  rw [sum_eq_single (⟨t, h⟩ : Fin n) (fun r _ hr => if_neg fun e => hr (Fin.ext e)) (fun hn => absurd (mem_univ _) hn), if_pos rfl]

/-- Shifting every logit leaves the softmax as it is. -/
theorem softmax_shift {n : ℕ} (L : Fin n → ℝ) (x M : ℝ) : Real.exp (x - M) / ∑ r, Real.exp (L r - M) = Real.exp x / ∑ r, Real.exp (L r) := by
  simp only [Real.exp_sub]
  rw [← sum_div, div_div_div_cancel_right₀ (Real.exp_pos M).ne']

/-- The sum of exponentials is positive. -/
theorem sum_exp_pos {n : ℕ} (hn : 0 < n) (L : Fin n → ℝ) (M : ℝ) : 0 < ∑ r, Real.exp (L r - M) :=
  sum_pos (fun _ _ => Real.exp_pos _) ⟨⟨0, hn⟩, mem_univ _⟩

/-- The logarithm of the sum of exponentials, whichever shift it is computed with. -/
theorem lse_shift {n : ℕ} (hn : 0 < n) (L : Fin n → ℝ) (M : ℝ) : M + Real.log (∑ r, Real.exp (L r - M)) = Real.log (∑ r, Real.exp (L r)) := by
  have h0 : 0 < ∑ r, Real.exp (L r) := by simpa using sum_exp_pos hn L 0
  simp only [Real.exp_sub]
  rw [← sum_div, Real.log_div h0.ne' (Real.exp_pos M).ne', Real.log_exp]
  ring

section Memory
variable (T : ℕ → ℕ) (X : ℕ → ℝ) (P : ℕ → ℝ)

/-- One column of the class memory after the first `n` items: each moves its class's entry a hundredth of the way. -/
def mem : ℕ → ℕ → ℝ
  | 0, r => P r
  | n + 1, r => if r = T n then 99 / 100 * mem n r + 1 / 100 * X n else mem n r

/-- How many of the first `n` items have class `r`. -/
def hits (n r : ℕ) : ℕ := ((range n).filter fun k => T k = r).card
/-- How many of the first `n` items after item `k` have its class. -/
def later (n k : ℕ) : ℕ := ((range n).filter fun l => T l = T k ∧ k < l).card

theorem hits_succ (n r : ℕ) : hits T (n + 1) r = hits T n r + if T n = r then 1 else 0 := by
  unfold hits
  rw [range_add_one, filter_insert]
  split_ifs with h
  · rw [card_insert_of_notMem (by simp)]
  · rfl
theorem later_succ (n k : ℕ) (hk : k < n) : later T (n + 1) k = later T n k + if T n = T k then 1 else 0 := by
  unfold later
  rw [range_add_one, filter_insert]
  by_cases h : T n = T k
  · rw [if_pos ⟨h, hk⟩, if_pos h, card_insert_of_notMem (by simp)]
  · rw [if_neg (fun e => h e.1), if_neg h]; rfl
theorem later_self (n : ℕ) : later T (n + 1) n = 0 := by
  unfold later
  rw [card_eq_zero, filter_eq_empty_iff]
  intro l hl
  have := mem_range.mp hl
  omega

/-- The memory in closed form. -/
theorem mem_closed (n r : ℕ) : mem T X P n r
    = (99 / 100) ^ hits T n r * P r + ∑ k ∈ range n, if T k = r then 1 / 100 * (99 / 100) ^ later T n k * X k else 0 := by
  induction n with
  | zero => simp [mem, hits]
  | succ n ih =>
    rw [sum_range_succ, hits_succ, later_self]
    have hl : ∀ k ∈ range n, (if T k = r then 1 / 100 * (99 / 100 : ℝ) ^ later T (n + 1) k * X k else 0)
        = (if T n = r then 99 / 100 else 1) * (if T k = r then 1 / 100 * (99 / 100 : ℝ) ^ later T n k * X k else 0) := fun k hk => by
      rw [later_succ T n k (mem_range.mp hk)]
      by_cases h : T k = r
      · subst h
        by_cases h2 : T n = T k
        · simp only [h2, if_true, pow_succ]; ring
        · simp only [h2, if_true, if_false, add_zero, one_mul]
      · simp [h]
    rw [sum_congr rfl hl, ← mul_sum, mem]
    by_cases h : r = T n
    · rw [if_pos h, ih, if_pos h.symm, if_pos h.symm, if_pos h.symm, pow_succ]; ring
    · have h' : ¬ T n = r := fun e => h e.symm
      rw [if_neg h, ih, if_neg h', if_neg h', if_neg h']; ring

/-- Item `j`'s correction: what its class's entry gains over all the updates. -/
def gain (n j : ℕ) : ℝ := ((99 / 100) ^ hits T n (T j) - 1) * P (T j) + ∑ k ∈ range n, if T k = T j then 1 / 100 * (99 / 100) ^ later T n k * X k else 0

/-- What a class's entry gains is the correction of the first item with that class, and nothing if there is none. -/
theorem mem_gain (n r : ℕ) : mem T X P n r = P r
    + ∑ j ∈ range n, (if (∀ k < j, T k ≠ T j) ∧ T j = r then gain T X P n j else 0) := by
  by_cases h : ∃ j, j < n ∧ T j = r
  · classical
    have hj := Nat.find_spec h
    have hmin := fun k (hk : k < Nat.find h) => Nat.find_min h hk
    set j := Nat.find h with hjdef
    have hone : ∑ i ∈ range n, (if (∀ k < i, T k ≠ T i) ∧ T i = r then gain T X P n i else 0) = gain T X P n j := by
      rw [sum_eq_single j]
      · rw [if_pos ⟨fun k hk e => hmin k hk ⟨lt_trans hk hj.1, e.trans hj.2⟩, hj.2⟩]
      · intro i hi hij
        rw [if_neg]
        rintro ⟨h1, h2⟩
        rcases lt_trichotomy i j with hlt | heq | hgt
        · exact hmin i hlt ⟨mem_range.mp hi, h2⟩
        · exact hij heq
        · exact h1 j hgt (hj.2.trans h2.symm)
      · intro hn; exact absurd (mem_range.mpr hj.1) hn
    rw [hone, mem_closed, gain, hj.2]
    ring
  · push Not at h
    have h1 : hits T n r = 0 := by
      unfold hits
      rw [card_eq_zero, filter_eq_empty_iff]
      exact fun k hk => h k (mem_range.mp hk)
    have h2 : ∀ k ∈ range n, (if T k = r then 1 / 100 * (99 / 100 : ℝ) ^ later T n k * X k else 0) = 0 := fun k hk =>
      if_neg (h k (mem_range.mp hk))
    have h3 : ∀ k ∈ range n, (if (∀ l < k, T l ≠ T k) ∧ T k = r then gain T X P n k else 0) = 0 := fun k hk =>
      if_neg fun e => h k (mem_range.mp hk) e.2
    rw [mem_closed, sum_congr rfl h2, sum_congr rfl h3, h1]
    simp

/-- Weighing the updated memory is weighing the old one and adding each first item's correction at its class's weight. -/
theorem weigh (w : ℕ → ℝ) (R n : ℕ) (hT : ∀ j < n, T j < R) : ∑ r ∈ range R, w r * mem T X P n r
    = ∑ r ∈ range R, w r * P r + ∑ j ∈ range n, w (T j) * (if ∀ k < j, T k ≠ T j then 1 else 0) * gain T X P n j := by
  simp only [mem_gain T X P n, mul_add, sum_add_distrib]
  congr 1
  simp only [mul_sum]
  rw [sum_comm]
  refine sum_congr rfl fun j hj => ?_
  rw [sum_eq_single (T j)]
  · by_cases h : ∀ k < j, T k ≠ T j
    · rw [if_pos ⟨h, rfl⟩, if_pos h]; ring
    · rw [if_neg (fun e => h e.1), if_neg h]; ring
  · intro r _ hr
    rw [if_neg fun e => hr e.2.symm, mul_zero]
  · intro hn
    exact absurd (mem_range.mpr (hT j (mem_range.mp hj))) hn
end Memory

/-- A power of the momentum through the exponential, as the kernel takes it. -/
theorem exp_count (n : ℕ) : Real.exp ((n : ℝ) * Real.log (99 / 100)) = (99 / 100) ^ n := by
  rw [Real.exp_nat_mul, Real.exp_log (by norm_num)]

end Cert.StreamMath

end
-- ==== Proof.StreamState.lean ====
/- The running state of the stream kernel on finite inputs: after `n` blocks it holds the shifted sums over the classes
   the blocks cover. -/
module

public import proofs.«01_k».proof.Proof.StreamRun
public import proofs.«01_k».proof.Proof.StreamMath

@[expose] public section

noncomputable section

namespace Cert.StreamIdeal.State

open Cert.StreamIdeal Cert.StreamIdeal.Gen Cert.StreamIdeal.Body Cert.StreamIdeal.Blocks Cert.StreamIdeal.Reads Cert.StreamIdeal.Run Cert.StreamMath
open Idealize.ShloMosaic Idealize.ShloMosaic.TcCoe Idealize.SL.Sem
open Finset

variable (m : (ℓ : Loc nD τ sig) → Buf (Elt Ideal) ℓ)

/-- The hidden layer the first point computes. -/
def hid (c : Dev nD) : Vec Ideal S64x128 .f32 := hFirst (iblk m c 0 t0_0) (iblk m c 1 t0_0) (iblk m c 2 t0_0)

/-- The real numbers the arrays hold: logits, rows of the class memory, classes. -/
structure Data (c : Dev nD) (L : Fin 64 → ℕ → ℝ) (P : ℕ → Fin 64 → ℝ) (T : Fin 64 → ℕ) : Prop where
  logit : ∀ b r (h : r < 100000), ∑ k : Fin 128, hid m c (ix2 b k) * V m c main_arg6 (ix2 k ⟨r, h⟩) + V m c main_v12 (ix2 0 ⟨r, h⟩) = ((L b r : ℝ) : EReal)
  row : ∀ r (h : r < 100000) d, V m c main_v0 (ix2 ⟨r, h⟩ d) = ((P r d : ℝ) : EReal)
  cls : ∀ j, V m c main_v8 (ix2 0 j) = BitVec.ofNat 32 (T j)
  lt : ∀ j, T j < 100000

/-- The part of a sum over the classes that the first `n` classes make up. -/
def part (n : ℕ) (f : ℕ → ℝ) : ℝ := ∑ r ∈ range n, if r < 100000 then f r else 0

theorem part_block (a : ℕ) (f : ℕ → ℝ) : part (a + 16384) f = part a f + ∑ q : Fin 16384, if a + q.val < 100000 then f (a + q.val) else 0 :=
  sum_block _ a

theorem coord_val : ∀ t : Fin cfg0.N, (grid0.coords t 0).val = t.val := (by decide +kernel : ∀ t : Fin grid0.N, _)

variable {m} {c : Dev nD} {L : Fin 64 → ℕ → ℝ} {P : ℕ → Fin 64 → ℝ} {T : Fin 64 → ℕ}

theorem logit_read (D : Data m c L P T) (t : Fin cfg0.N) (b : Fin 64) (q : Fin 16384) :
    k0_pay14 (grid0.coords t) (hid m c) (wblk m c t) (bblk m c t) (ix2 b q)
      = if 16384 * t.val + q.val < 100000 then ((L b (16384 * t.val + q.val) : ℝ) : EReal) else ⊥ := by
  rw [pay14_read, coord_val]
  by_cases h : 16384 * t.val + q.val < 100000
  · rw [if_pos h, if_pos h, ← D.logit b _ h]
    have h' : 16384 * (grid0.coords t 0).val + q.val < 100000 := by rw [coord_val]; exact h
    have hr : (⟨16384 * (grid0.coords t 0).val + q.val, h'⟩ : Fin 100000) = ⟨16384 * t.val + q.val, h⟩ := by simp only [coord_val]
    unfold wblk bblk
    rw [fill4 m c t _ q h', hr]
    refine congrArg (· + _) (sum_congr rfl fun k _ => ?_)
    rw [fill3 m c t _ k q h', hr]
  · rw [if_neg h, if_neg h]

theorem row_read (D : Data m c L P T) (t : Fin cfg0.N) (q : Fin 16384) (d : Fin 64) :
    k0_pay15 (grid0.coords t) (rblk m c t) (ix2 q d)
      = ((if 16384 * t.val + q.val < 100000 then P (16384 * t.val + q.val) d else 0 : ℝ) : EReal) := by
  rw [pay15_read, coord_val]
  by_cases h : 16384 * t.val + q.val < 100000
  · rw [if_pos h, if_pos h, ← D.row _ h d]
    have h' : 16384 * (grid0.coords t 0).val + q.val < 100000 := by rw [coord_val]; exact h
    have hr : (⟨16384 * (grid0.coords t 0).val + q.val, h'⟩ : Fin 100000) = ⟨16384 * t.val + q.val, h⟩ := by simp only [coord_val]
    unfold rblk
    rw [fill5 m c t _ q d h', hr]
  · rw [if_neg h, if_neg h]; rfl

/-- The new maximum is a real number. -/
theorem max_real (D : Data m c L P T) (t : Fin cfg0.N) (b : Fin 64) (mo : Vec Ideal S64x1 .f32) (M : ℝ)
    (hm : mo (ix2 b 0) = (M : EReal) ∨ (t.val = 0 ∧ mo (ix2 b 0) = ⊥)) :
    ∃ M' : ℝ, k0_pay16 (grid0.coords t) (hid m c) (wblk m c t) (bblk m c t) mo (ix2 b 0) = (M' : EReal) := by
  rw [pay16_read]
  have h7 : t.val < 7 := t.isLt
  obtain ⟨S, hS⟩ := sup_real (Finset.univ : Finset (Fin 16384))
    (fun q => k0_pay14 (grid0.coords t) (hid m c) (wblk m c t) (bblk m c t) (ix2 b q))
    (fun q _ => by rw [logit_read D]; split_ifs <;> simp) ⟨0, by norm_num⟩ (mem_univ _)
    (by rw [logit_read D, if_pos (show 16384 * t.val + 0 < 100000 by omega)]; exact EReal.coe_ne_bot _)
  rw [hS]
  rcases hm with h | ⟨_, h⟩
  · rw [h]; exact ⟨max M S, (coe_max M S).symm⟩
  · rw [h]; exact ⟨S, max_eq_right bot_le⟩

/-- An exponential of the block, at the new maximum. -/
theorem exp_read (D : Data m c L P T) (t : Fin cfg0.N) (b : Fin 64) (mo : Vec Ideal S64x1 .f32) (M' : ℝ)
    (hM : k0_pay16 (grid0.coords t) (hid m c) (wblk m c t) (bblk m c t) mo (ix2 b 0) = (M' : EReal)) (q : Fin 16384) :
    k0_pay18 (grid0.coords t) (hid m c) (wblk m c t) (bblk m c t) mo (ix2 b q)
      = ((if 16384 * t.val + q.val < 100000 then Real.exp (L b (16384 * t.val + q.val) - M') else 0 : ℝ) : EReal) := by
  rw [pay18_read, hM, logit_read D]
  split_ifs
  · rw [← EReal.coe_sub, Ideal.exp_coe]
  · rw [EReal.bot_sub, Ideal.exp_bot]; rfl

/-- Carrying a shifted sum over to the new maximum. -/
theorem rescale (t : Fin cfg0.N) (b : Fin 64) (mo : Vec Ideal S64x1 .f32) (h : Vec Ideal S64x128 .f32) (w : Vec Ideal S128x16384 .f32)
    (bb : Vec Ideal S1x16384 .f32) (M M' : ℝ) (hm : mo (ix2 b 0) = (M : EReal) ∨ (t.val = 0 ∧ mo (ix2 b 0) = ⊥))
    (hM : k0_pay16 (grid0.coords t) h w bb mo (ix2 b 0) = (M' : EReal)) (f g : ℕ → ℝ) :
    ((part (16384 * t.val) (fun r => Real.exp (f r - M) * g r) : ℝ) : EReal) * k0_pay17 (grid0.coords t) h w bb mo mo (ix2 b 0)
      = ((part (16384 * t.val) (fun r => Real.exp (f r - M') * g r) : ℝ) : EReal) := by
  rw [pay17_read, hM]
  rcases hm with e | ⟨e0, e⟩
  · rw [e, ← EReal.coe_sub, Ideal.exp_coe, ← EReal.coe_mul]
    congr 1
    unfold part
    rw [sum_mul]
    refine sum_congr rfl fun r _ => ?_
    split_ifs
    · show Real.exp (f r - M) * g r * Real.exp (M - M') = Real.exp (f r - M') * g r
      rw [Real.exp_sub, Real.exp_sub, Real.exp_sub]
      have := (Real.exp_pos M).ne'
      field_simp
    · rw [zero_mul]
  · rw [e0]
    simp [part]

/-- One block's step of the running state, row by row. -/
theorem step_row (D : Data m c L P T) (t : Fin cfg0.N) (b : Fin 64) (x : St) (hx : x.h = hid m c) (M : ℝ)
    (hm : x.m (ix2 b 0) = (M : EReal) ∨ (t.val = 0 ∧ x.m (ix2 b 0) = ⊥))
    (hs : x.s (ix2 b 0) = ((part (16384 * t.val) (fun r => Real.exp (L b r - M) * 1) : ℝ) : EReal))
    (ha : ∀ d, x.acc (ix2 b d) = ((part (16384 * t.val) (fun r => Real.exp (L b r - M) * P r d) : ℝ) : EReal))
    (ht : ∀ j, x.tl (ix2 b j) = ((part (16384 * t.val) (fun r => if r = T j then L b r else 0) : ℝ) : EReal)) :
    ∃ M' : ℝ, mLast (grid0.coords t) x.h (wblk m c t) (bblk m c t) x.m (ix2 b 0) = (M' : EReal)
      ∧ sLast (grid0.coords t) x.h (wblk m c t) (bblk m c t) x.m x.s (ix2 b 0) = ((part (16384 * t.val + 16384) (fun r => Real.exp (L b r - M') * 1) : ℝ) : EReal)
      ∧ (∀ d, accNew (grid0.coords t) x.h (wblk m c t) (bblk m c t) (rblk m c t) x.m x.acc (ix2 b d)
          = ((part (16384 * t.val + 16384) (fun r => Real.exp (L b r - M') * P r d) : ℝ) : EReal))
      ∧ (∀ j, tlNew (grid0.coords t) x.h (wblk m c t) (bblk m c t) (iblk m c 6 t) x.tl (ix2 b j)
          = ((part (16384 * t.val + 16384) (fun r => if r = T j then L b r else 0) : ℝ) : EReal)) := by
  rw [hx]
  obtain ⟨M', hM⟩ := max_real D t b x.m M hm
  refine ⟨M', hM, ?_, fun d => ?_, fun j => ?_⟩
  · unfold sLast
    rw [pay19_read, hs, rescale t b x.m _ _ _ M M' hm hM, part_block, EReal.coe_add, coe_sum]
    refine congrArg _ (sum_congr rfl fun q _ => ?_)
    rw [exp_read D t b x.m M' hM, mul_one]
  · unfold accNew
    rw [pay20_read, ha d, rescale t b x.m _ _ _ M M' hm hM, part_block, EReal.coe_add, coe_sum]
    refine congrArg _ (sum_congr rfl fun q _ => ?_)
    rw [exp_read D t b x.m M' hM, row_read D, ← EReal.coe_mul]
    split_ifs
    · rfl
    · rw [zero_mul]
  · unfold tlNew
    rw [pay23_read (grid0.coords t) _ (iblk m c 6 t) x.tl b j (T j) (D.lt j) (by rw [block6]; exact D.cls j), ht j, part_block, EReal.coe_add, coe_sum]
    refine congrArg _ (sum_congr rfl fun q _ => ?_)
    rw [logit_read D, coord_val]
    have hl := D.lt j
    by_cases h : 16384 * t.val + q.val = T j
    · rw [if_pos h, if_pos h, if_pos (by omega), if_pos (by omega), mul_one]
    · rw [if_neg h, if_neg h, mul_zero]; simp

/-- The picture of the state after `n` blocks. -/
theorem state (D : Data m c L P T) (b : Fin 64) : ∀ n, n ≤ 6 → (st m c n).h = hid m c ∧ ∃ M : ℝ,
    ((st m c n).m (ix2 b 0) = (M : EReal) ∨ (n = 0 ∧ (st m c n).m (ix2 b 0) = ⊥))
    ∧ (st m c n).s (ix2 b 0) = ((part (16384 * n) (fun r => Real.exp (L b r - M) * 1) : ℝ) : EReal)
    ∧ (∀ d, (st m c n).acc (ix2 b d) = ((part (16384 * n) (fun r => Real.exp (L b r - M) * P r d) : ℝ) : EReal))
    ∧ (∀ j, (st m c n).tl (ix2 b j) = ((part (16384 * n) (fun r => if r = T j then L b r else 0) : ℝ) : EReal))
  | 0, _ => by
    refine ⟨rfl, 0, Or.inr ⟨rfl, pay9_read b⟩, ?_, fun d => ?_, fun j => ?_⟩
    · exact (pay10_read b).trans (by simp [part])
    · exact (pay11_read b d).trans (by simp [part])
    · exact (pay12_read b j).trans (by simp [part])
  | n + 1, hn => by
    obtain ⟨hh, M, hm, hs, ha, ht⟩ := state D b n (by omega)
    have hlt : n < cfg0.N := by show n < 7; omega
    obtain ⟨M', h1, h2, h3, h4⟩ := step_row D ⟨n, hlt⟩ b (st m c n) hh M hm hs ha ht
    rw [show st m c (n + 1) = step m c ⟨n, hlt⟩ (st m c n) from st_next m c ⟨n, hlt⟩]
    refine ⟨hh, M', Or.inl ?_, ?_, ?_, ?_⟩
    · exact (pay21_read _ b).trans h1
    · refine Eq.trans ?_ h2
      show k0_pay22 _ _ _ _ = k0_pay19 _ _ _ _
      rw [pay22_read, pay19_read]
    · exact h3
    · exact h4

/-- What the last point ends with: the sums over all the classes. -/
theorem last (D : Data m c L P T) (b : Fin 64) : ∃ M : ℝ,
    mLast (grid0.coords t0_6) (st m c 6).h (wblk m c t0_6) (bblk m c t0_6) (st m c 6).m (ix2 b 0) = (M : EReal)
    ∧ sLast (grid0.coords t0_6) (st m c 6).h (wblk m c t0_6) (bblk m c t0_6) (st m c 6).m (st m c 6).s (ix2 b 0)
        = ((∑ r : Fin 100000, Real.exp (L b r.val - M) : ℝ) : EReal)
    ∧ (∀ d, accNew (grid0.coords t0_6) (st m c 6).h (wblk m c t0_6) (bblk m c t0_6) (rblk m c t0_6) (st m c 6).m (st m c 6).acc (ix2 b d)
        = ((∑ r : Fin 100000, Real.exp (L b r.val - M) * P r.val d : ℝ) : EReal))
    ∧ (∀ j, tlNew (grid0.coords t0_6) (st m c 6).h (wblk m c t0_6) (bblk m c t0_6) (iblk m c 6 t0_6) (st m c 6).tl (ix2 b j)
        = ((L b (T j) : ℝ) : EReal)) := by
  obtain ⟨hh, M, hm, hs, ha, ht⟩ := state D b 6 le_rfl
  obtain ⟨M', h1, h2, h3, h4⟩ := step_row D t0_6 b (st m c 6) hh M hm hs ha ht
  have hall : ∀ f, part (16384 * t0_6.val + 16384) f = ∑ r : Fin 100000, f r.val := fun f => sum_all f
  refine ⟨M', h1, ?_, fun d => ?_, fun j => ?_⟩
  · rw [h2, hall]; simp only [mul_one]
  · rw [h3, hall]
  · rw [h4, hall]
    exact congrArg _ (sum_pick (L b) (T j) (D.lt j))

end Cert.StreamIdeal.State

end
-- ==== Proof.StreamOut.lean ====
/- What the stream kernel's two results hold on finite inputs: the softmax-weighted rows of the updated class memory plus
   the item's own row, and the mean of the negated log-probabilities of the items' classes. -/
module

public import proofs.«01_k».proof.Proof.StreamState

@[expose] public section

noncomputable section

namespace Cert.StreamIdeal.Out

open Cert.StreamIdeal Cert.StreamIdeal.Gen Cert.StreamIdeal.Body Cert.StreamIdeal.Blocks Cert.StreamIdeal.Reads Cert.StreamIdeal.Run Cert.StreamIdeal.State Cert.StreamMath
open Idealize.ShloMosaic Idealize.ShloMosaic.TcCoe Idealize.SL.Sem
open Finset

/-- A sum over the sixty-four items, by number. -/
theorem sum_items (f : ℕ → ℝ) : ∑ j : Fin 64, f j.val = ∑ j ∈ range 64, f j := Fin.sum_univ_eq_sum_range f 64

section Items
variable {T : ℕ → ℕ} {rr : Vec Ideal S1x64 .i32} {rc : Vec Ideal S64x1 .i32}
  (hr : ∀ j : Fin 64, rr (ix2 0 j) = BitVec.ofNat 32 (T j.val)) (hc : ∀ j : Fin 64, rc (ix2 j 0) = BitVec.ofNat 32 (T j.val))
  (hT : ∀ j : Fin 64, T j.val < 100000)
include hr hc hT

/-- Whether two items share a class. -/
theorem same (i j : Fin 64) : (k0_pay5 rr rc : FVec Ideal S64x64 .f32) (ix2 i j) = ((if T j.val = T i.val then 1 else 0 : ℝ) : EReal) := by
  rw [pay5_read, hr, hc]
  have h1 := hT i
  have h2 := hT j
  have : (BitVec.ofNat 32 (T i.val) = BitVec.ofNat 32 (T j.val)) ↔ T j.val = T i.val := by
    rw [← BitVec.toNat_inj, BitVec.toNat_ofNat, BitVec.toNat_ofNat]
    omega
  rw [if_congr this rfl rfl]
  split_ifs <;> rfl

/-- How many items share item `j`'s class. -/
theorem count (j : Fin 64) : (k0_pay6 rr rc : FVec Ideal S64x1 .f32) (ix2 j 0) = ((hits T 64 (T j.val) : ℝ) : EReal) := by
  rw [pay6_read, sum_congr rfl fun k _ => same hr hc hT j k, ← coe_sum, sum_items (fun k => if T k = T j.val then 1 else 0)]
  unfold hits
  rw [sum_boole]

/-- How many items after item `j` share its class. -/
theorem after (j : Fin 64) : (∑ k : Fin 64, (k0_pay5 rr rc : FVec Ideal S64x64 .f32) (ix2 k j) * (if j.val < k.val then 1 else 0)) = ((later T 64 j.val : ℝ) : EReal) := by
  have : ∀ k : Fin 64, (k0_pay5 rr rc : FVec Ideal S64x64 .f32) (ix2 k j) * (if j.val < k.val then 1 else 0)
      = ((if T k.val = T j.val ∧ j.val < k.val then 1 else 0 : ℝ) : EReal) := fun k => by
    rw [same hr hc hT k j]
    by_cases h1 : T j.val = T k.val
    · by_cases h2 : j.val < k.val <;> simp [h1, h2]
    · have h1' : ¬ T k.val = T j.val := fun e => h1 e.symm
      simp [h1, h1']
  rw [sum_congr rfl fun k _ => this k, ← coe_sum, sum_items (fun k => if T k = T j.val ∧ j.val < k then 1 else 0)]
  unfold later
  rw [sum_boole]

/-- Whether item `j` is the first with its class. -/
theorem first (j : Fin 64) : (k0_pay7 rr rc : FVec Ideal S1x64 .f32) (ix2 0 j) = ((if ∀ k < j.val, T k ≠ T j.val then 1 else 0 : ℝ) : EReal) := by
  rw [pay7_read]
  have : ∀ k : Fin 64, (k0_pay5 rr rc : FVec Ideal S64x64 .f32) (ix2 k j) * (if k.val < j.val then 1 else 0)
      = ((if T k.val = T j.val ∧ k.val < j.val then 1 else 0 : ℝ) : EReal) := fun k => by
    rw [same hr hc hT k j]
    by_cases h1 : T j.val = T k.val
    · by_cases h2 : k.val < j.val <;> simp [h1, h2]
    · have h1' : ¬ T k.val = T j.val := fun e => h1 e.symm
      simp [h1, h1']
  rw [sum_congr rfl fun k _ => this k, ← coe_sum, sum_items (fun k => if T k = T j.val ∧ k < j.val then 1 else 0), sum_boole]
  have hiff : ((((((range 64).filter fun k => T k = T j.val ∧ k < j.val).card : ℝ)) : EReal) = 0) ↔ ∀ k < j.val, T k ≠ T j.val := by
    rw [EReal.coe_eq_zero, Nat.cast_eq_zero, card_eq_zero, filter_eq_empty_iff]
    constructor
    · intro h k hk e
      exact h (mem_range.mpr (lt_trans hk j.isLt)) ⟨e, hk⟩
    · rintro h k _ ⟨e, hk⟩
      exact h k hk e
  rw [if_congr hiff rfl rfl]
  split_ifs <;> rfl

/-- The weighted rows of the items of item `i`'s class. -/
theorem rows (X : ℕ → Fin 64 → ℝ) {rx : Vec Ideal S64x64 .f32} (hx : ∀ j d : Fin 64, rx (ix2 j d) = ((X j.val d : ℝ) : EReal)) (i d : Fin 64) :
    k0_pay8 rr rc rx (ix2 i d) = ((∑ k ∈ range 64, if T k = T i.val then 1 / 100 * (99 / 100) ^ later T 64 k * X k d else 0 : ℝ) : EReal) := by
  rw [pay8_read, ← sum_items, coe_sum]
  refine sum_congr rfl fun j _ => ?_
  rw [after hr hc hT j, same hr hc hT i j, hx, ← EReal.coe_mul, Ideal.exp_coe, exp_count, ← EReal.coe_mul, ← EReal.coe_mul, ← EReal.coe_mul]
  split_ifs <;> simp
end Items

variable {m : (ℓ : Loc nD τ sig) → Buf (Elt Ideal) ℓ} {c : Dev nD} {L : Fin 64 → ℕ → ℝ} {P : ℕ → Fin 64 → ℝ} {T : ℕ → ℕ} {X : ℕ → Fin 64 → ℝ}

/-- The log of the sum of exponentials of one item's logits. -/
def lse (L : Fin 64 → ℕ → ℝ) (b : Fin 64) : ℝ := Real.log (∑ r : Fin 100000, Real.exp (L b r.val))

/-- The second result. -/
theorem loss_value (D : Data m c L P (fun j => T j.val)) :
    lossAt m c t0_6 (ix2 0 0) = (((∑ b : Fin 64, (lse L b - L b (T b.val))) * (1 / 64) : ℝ) : EReal) := by
  unfold lossAt lossLast
  rw [show t0_6.val = 6 from rfl, pay2_read, EReal.coe_mul, coe_sum]
  refine congrArg (fun x : EReal => x * ((1 / 64 : ℝ) : EReal)) (sum_congr rfl fun b _ => ?_)
  obtain ⟨M, h1, h2, _, h4⟩ := State.last D b
  have hpos := sum_exp_pos (n := 100000) (by norm_num) (fun r => L b r.val) M
  rw [pay3_read, h1, h2, h4, Ideal.log_coe, if_neg (not_le.mpr hpos), ← EReal.coe_add, lse_shift (by norm_num) (fun r : Fin 100000 => L b r.val) M, ← EReal.coe_sub, lse]

/-- The first result. -/
theorem out_value (D : Data m c L P (fun j => T j.val)) (h9 : ∀ j : Fin 64, V m c main_v9 (ix2 j 0) = BitVec.ofNat 32 (T j.val))
    (h10 : ∀ j d : Fin 64, V m c main_v10 (ix2 j d) = ((X j.val d : ℝ) : EReal)) (h7 : ∀ j d : Fin 64, V m c main_v7 (ix2 j d) = ((P (T j.val) d : ℝ) : EReal))
    (b d : Fin 64) : outAt m c t0_6 (ix2 b d)
      = ((∑ r : Fin 100000, Real.exp (L b r.val) / (∑ r : Fin 100000, Real.exp (L b r.val)) * mem T (fun k => X k d) (fun r => P r d) 64 r.val + X b.val d : ℝ) : EReal) := by
  unfold outAt outLast
  rw [show t0_6.val = 6 from rfl, block6, block7, block8, block9]
  obtain ⟨M, h1, h2, h3, h4⟩ := State.last D b
  rw [block6] at h4
  have hr := D.cls
  have hT := D.lt
  have hpos := sum_exp_pos (n := 100000) (by norm_num) (fun r => L b r.val) M
  rw [pay1_read, ln_val, pay4_read, h3 d, h2, Ideal.div_coe hpos.ne', ← EReal.coe_mul, h10]
  have hterm : ∀ j : Fin 64, Ideal.exp (tlNew (grid0.coords t0_6) (st m c 6).h (wblk m c t0_6) (bblk m c t0_6) (V m c main_v8) (st m c 6).tl (ix2 b j)
        - (k0_pay3 (mLast (grid0.coords t0_6) (st m c 6).h (wblk m c t0_6) (bblk m c t0_6) (st m c 6).m) (sLast (grid0.coords t0_6) (st m c 6).h (wblk m c t0_6) (bblk m c t0_6) (st m c 6).m (st m c 6).s) : FVec Ideal S64x1 .f32) (ix2 b 0))
      * (k0_pay7 (V m c main_v8) (V m c main_v9) : FVec Ideal S1x64 .f32) (ix2 0 j)
      * ((Ideal.exp ((k0_pay6 (V m c main_v8) (V m c main_v9) : FVec Ideal S64x1 .f32) (ix2 j 0) * ((Real.log (99 / 100) : ℝ) : EReal)) - 1) * V m c main_v7 (ix2 j d)
        + k0_pay8 (V m c main_v8) (V m c main_v9) (V m c main_v10) (ix2 j d))
      = ((Real.exp (L b (T j.val)) / (∑ r : Fin 100000, Real.exp (L b r.val)) * (if ∀ k < j.val, T k ≠ T j.val then 1 else 0) * gain T (fun k => X k d) (fun r => P r d) 64 j.val : ℝ) : EReal) := fun j => by
    rw [h4, pay3_read, h1, h2, Ideal.log_coe, if_neg (not_le.mpr hpos), ← EReal.coe_add, lse_shift (by norm_num) (fun r : Fin 100000 => L b r.val) M,
      ← EReal.coe_sub, Ideal.exp_coe, first hr h9 hT j, count hr h9 hT j, rows hr h9 hT X h10 j d, h7, ← EReal.coe_mul, ← EReal.coe_mul, Ideal.exp_coe, exp_count,
      Real.exp_sub, Real.exp_log (by simpa using sum_exp_pos (n := 100000) (by norm_num) (fun r => L b r.val) 0)]
    rw [← EReal.coe_one, ← EReal.coe_sub, ← EReal.coe_mul, ← EReal.coe_add, ← EReal.coe_mul]
    rfl
  rw [sum_congr rfl fun j _ => hterm j, ← coe_sum, ← EReal.coe_add, ← EReal.coe_add]
  refine congrArg Real.toEReal (congrArg (fun x : ℝ => x + X b.val d) ?_)
  rw [sum_items (fun j => Real.exp (L b (T j)) / (∑ r : Fin 100000, Real.exp (L b r.val)) * (if ∀ k < j, T k ≠ T j then 1 else 0) * gain T (fun k => X k d) (fun r => P r d) 64 j)]
  have hw := weigh T (fun k => X k d) (fun r => P r d) (fun r => Real.exp (L b r) / (∑ r : Fin 100000, Real.exp (L b r.val))) 100000 64 (fun j hj => hT ⟨j, hj⟩)
  rw [← Fin.sum_univ_eq_sum_range (fun r => Real.exp (L b r) / (∑ r : Fin 100000, Real.exp (L b r.val)) * mem T (fun k => X k d) (fun r => P r d) 64 r) 100000,
    ← Fin.sum_univ_eq_sum_range (fun r => Real.exp (L b r) / (∑ r : Fin 100000, Real.exp (L b r.val)) * P r d) 100000] at hw
  rw [hw]
  refine congrArg (fun x : ℝ => x + _) ?_
  rw [sum_mul]
  refine sum_congr rfl fun r _ => ?_
  rw [← softmax_shift (fun r : Fin 100000 => L b r.val) (L b r.val) M]
  ring

end Cert.StreamIdeal.Out

end
-- ==== Proof.StreamInputs.lean ====
/- The real numbers behind finite inputs of the stream kernel, and its mathematics on them. -/
module

public import proofs.«01_k».proof.Proof.StreamMath
public import Idealize.ShloMosaic.Lib.Pointwise.Index

@[expose] public section

noncomputable section

namespace Cert.StreamMath

open Finset Idealize.ShloMosaic

/-- The hiddenLayer layer. -/
def hiddenLayer (x : Fin 64 → Fin 64 → ℝ) (w1 : Fin 64 → Fin 128 → ℝ) (b1 : Fin 128 → ℝ) (b : Fin 64) (k : Fin 128) : ℝ :=
  max (∑ c, x b c * w1 c k + b1 k) 0

/-- The logits. -/
def logits (x : Fin 64 → Fin 64 → ℝ) (w1 : Fin 64 → Fin 128 → ℝ) (b1 : Fin 128 → ℝ) (w2 : Fin 128 → ℕ → ℝ) (b2 : ℕ → ℝ) (b : Fin 64) (r : ℕ) : ℝ :=
  ∑ k, hiddenLayer x w1 b1 b k * w2 k r + b2 r

/-- That the eight inputs hold these real numbers and these classes. -/
structure Inputs (a0 : Vec Ideal ⟨2, ![64, 64]⟩ .f32) (a1 : Vec Ideal ⟨4, ![64, 64, 1, 1]⟩ .f32) (a2 : Vec Ideal ⟨1, ![64]⟩ .i32)
    (a3 : Vec Ideal ⟨4, ![100000, 64, 1, 1]⟩ .f32) (a4 : Vec Ideal ⟨2, ![64, 128]⟩ .f32) (a5 : Vec Ideal ⟨1, ![128]⟩ .f32)
    (a6 : Vec Ideal ⟨2, ![128, 100000]⟩ .f32) (a7 : Vec Ideal ⟨1, ![100000]⟩ .f32)
    (x : Fin 64 → Fin 64 → ℝ) (X : ℕ → Fin 64 → ℝ) (T : ℕ → ℕ) (P : ℕ → Fin 64 → ℝ) (w1 : Fin 64 → Fin 128 → ℝ) (b1 : Fin 128 → ℝ)
    (w2 : Fin 128 → ℕ → ℝ) (b2 : ℕ → ℝ) : Prop where
  feat : ∀ b c, a0 (ix2 b c) = ((x b c : ℝ) : EReal)
  own : ∀ j d, a1 (ix4 j d 0 0) = ((X j.val d : ℝ) : EReal)
  cls : ∀ j : Fin 64, a2 (ix1 j) = BitVec.ofNat 32 (T j.val)
  lt : ∀ j : Fin 64, T j.val < 100000
  row : ∀ r d, a3 (ix4 r d 0 0) = ((P r.val d : ℝ) : EReal)
  weight1 : ∀ c k, a4 (ix2 c k) = ((w1 c k : ℝ) : EReal)
  bias1 : ∀ k, a5 (ix1 k) = ((b1 k : ℝ) : EReal)
  weight2 : ∀ k r, a6 (ix2 k r) = ((w2 k r.val : ℝ) : EReal)
  bias2 : ∀ r, a7 (ix1 r) = ((b2 r.val : ℝ) : EReal)

end Cert.StreamMath

end
-- ==== Proof.StreamHost.lean ====
/- The arrays the stream kernel is launched on, read from the program's arguments, and its two results on finite inputs. -/
module

public import proofs.«01_k».proof.Proof.StreamOut
public import proofs.«01_k».proof.Proof.StreamInputs
public import Idealize.ShloMosaic.Lib.Routing.Ops
public import Idealize.ShloMosaic.Lib.DynamicIndex
public import Idealize.ShloMosaic.Lib.StableHlo.RunRead

@[expose] public section

set_option maxRecDepth 16384

noncomputable section

namespace Cert.StreamIdeal.Host

open Cert.StreamIdeal Cert.StreamIdeal.Gen Cert.StreamIdeal.Reads Cert.StreamIdeal.Run Cert.StreamMath
open Idealize.ShloMosaic Idealize.ShloMosaic.TcCoe Idealize.SL.Sem
open Finset

/-! Reshapes, at an entry. -/
theorem rows_read {α : Type} (x : S100000x64x1x1.Idx → α) (r : Fin 100000) (d : Fin 64) :
    shapeCast S100000x64 x shapeCasts_S100000x64x1x1_S100000x64 (ix2 r d) = x (ix4 r d 0 0) := by pointwise
theorem own_read {α : Type} (x : S64x64x1x1.Idx → α) (j d : Fin 64) : shapeCast S64x64 x shapeCasts_S64x64x1x1_S64x64 (ix2 j d) = x (ix4 j d 0 0) := by pointwise
theorem cls_row {α : Type} (x : S64.Idx → α) (j : Fin 64) : shapeCast S1x64 x shapeCasts_S64_S1x64 (ix2 0 j) = x (ix1 j) := by pointwise
theorem cls_col {α : Type} (x : S64.Idx → α) (j : Fin 64) : shapeCast S64x1 x shapeCasts_S64_S64x1 (ix2 j 0) = x (ix1 j) := by pointwise
theorem bias1_read {α : Type} (x : S128.Idx → α) (j : Fin 128) : shapeCast S1x128 x shapeCasts_S128_S1x128 (ix2 0 j) = x (ix1 j) := by pointwise
theorem bias2_read {α : Type} (x : S100000.Idx → α) (j : Fin 100000) : shapeCast S1x100000 x shapeCasts_S100000_S1x100000 (ix2 0 j) = x (ix1 j) := by pointwise

variable (m : (ℓ : Loc nD τ sig) → Buf (Elt Ideal) ℓ) (c : Dev nD)

theorem found0 : V m c main_v0 = shapeCast S100000x64 (m ((c : Thread nD τ).loc main_arg3)) shapeCasts_S100000x64x1x1_S100000x64 := by
  show StableHlo.after hostOps0 _ (Proc.devRef .tc main_v0) = _
  after_results
  rfl
theorem found8 : V m c main_v8 = shapeCast S1x64 (m ((c : Thread nD τ).loc main_arg2)) shapeCasts_S64_S1x64 := by
  show StableHlo.after hostOps0 _ (Proc.devRef .tc main_v8) = _
  after_results
  rfl
theorem found9 : V m c main_v9 = shapeCast S64x1 (m ((c : Thread nD τ).loc main_arg2)) shapeCasts_S64_S64x1 := by
  show StableHlo.after hostOps0 _ (Proc.devRef .tc main_v9) = _
  after_results
  rfl
theorem found10 : V m c main_v10 = shapeCast S64x64 (m ((c : Thread nD τ).loc main_arg1)) shapeCasts_S64x64x1x1_S64x64 := by
  show StableHlo.after hostOps0 _ (Proc.devRef .tc main_v10) = _
  after_results
  rfl
theorem found11 : V m c main_v11 = shapeCast S1x128 (m ((c : Thread nD τ).loc main_arg5)) shapeCasts_S128_S1x128 := by
  show StableHlo.after hostOps0 _ (Proc.devRef .tc main_v11) = _
  after_results
  rfl
theorem found12 : V m c main_v12 = shapeCast S1x100000 (m ((c : Thread nD τ).loc main_arg7)) shapeCasts_S100000_S1x100000 := by
  show StableHlo.after hostOps0 _ (Proc.devRef .tc main_v12) = _
  after_results
  rfl
/-- The class numbers as the row gather takes them: a negative one counts from the end. -/
def picks (a2 : Vec Ideal S64 .i32) : Vec Ideal S64x1 .i32 :=
  broadcastInDim S64x1 ![0] bcast_S64_S64x1_0 (select (cmpi .slt a2 (broadcastInDim S64 ![] bcast_S_S64 (constantI S_ 32 0#32)))
    (addi a2 (broadcastInDim S64 ![] bcast_S_S64 (constantI S_ 32 100000#32))) a2)
theorem found7 : V m c main_v7 = Host.gather gather_S100000x64_S64x1_S64x64_1_0_n_n_0_1_164
    (shapeCast S100000x64 (m ((c : Thread nD τ).loc main_arg3)) shapeCasts_S100000x64x1x1_S100000x64) (picks (m ((c : Thread nD τ).loc main_arg2))) := by
  show StableHlo.after hostOps0 _ (Proc.devRef .tc main_v7) = _
  after_results
  rfl

/-- A class number in range is taken as it is. -/
theorem picks_read (a2 : Vec Ideal S64 .i32) (j : Fin 64) (t : ℕ) (ht : t < 100000) (h : a2 (ix1 j) = BitVec.ofNat 32 t) :
    picks a2 (ix2 j 0) = BitVec.ofNat 32 t := by
  have : picks a2 (ix2 j 0) = select (cmpi .slt a2 (broadcastInDim S64 ![] bcast_S_S64 (constantI S_ 32 0#32)))
    (addi a2 (broadcastInDim S64 ![] bcast_S_S64 (constantI S_ 32 100000#32))) a2 (ix1 j) := by
    unfold picks; pointwise
  rw [this]
  have := select_slt_zero_of_nonneg a2 (addi a2 (broadcastInDim S64 ![] bcast_S_S64 (constantI S_ 32 100000#32))) a2 (ix1 j)
    (by rw [h, toInt_ofNat_of_lt (by omega)]; omega)
  exact Eq.trans this h

variable {m c} {x : Fin 64 → Fin 64 → ℝ} {X : ℕ → Fin 64 → ℝ} {T : ℕ → ℕ} {P : ℕ → Fin 64 → ℝ} {w1 : Fin 64 → Fin 128 → ℝ} {b1 : Fin 128 → ℝ}
    {w2 : Fin 128 → ℕ → ℝ} {b2 : ℕ → ℝ}
  (I : Inputs (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) x X T P w1 b1 w2 b2)
include I

theorem hid_read (b : Fin 64) (k : Fin 128) : State.hid m c (ix2 b k) = ((hiddenLayer x w1 b1 b k : ℝ) : EReal) := by
  unfold State.hid Body.hFirst
  rw [pay13_read, Blocks.block0, Blocks.block1, Blocks.block2, found11, bias1_read, V_main_arg0, V_main_arg4, I.bias1, hiddenLayer, coe_max, EReal.coe_add, coe_sum]
  refine congrArg₂ max (congrArg (fun z : EReal => z + _) (sum_congr rfl fun k' _ => ?_)) rfl
  rw [I.feat, I.weight1, EReal.coe_mul]

theorem data : State.Data m c (logits x w1 b1 w2 b2) P (fun j => T j.val) where
  logit b r h := by
    rw [found12, bias2_read, V_main_arg6, I.bias2 ⟨r, h⟩, logits, EReal.coe_add, coe_sum]
    refine congrArg (fun z : EReal => z + _) (sum_congr rfl fun k _ => ?_)
    rw [hid_read I, I.weight2 k ⟨r, h⟩, EReal.coe_mul]
  row r h d := by rw [found0, rows_read, I.row ⟨r, h⟩ d]
  cls j := by rw [found8, cls_row, I.cls]
  lt j := I.lt j

theorem old_read (j d : Fin 64) : V m c main_v7 (ix2 j d) = ((P (T j.val) d : ℝ) : EReal) := by
  rw [found7]
  have h := Routing.gather_row gather_S100000x64_S64x1_S64x64_1_0_n_n_0_1_164 rfl rfl rfl rfl rfl
    (shapeCast S100000x64 (m ((c : Thread nD τ).loc main_arg3)) shapeCasts_S100000x64x1x1_S100000x64) (picks (m ((c : Thread nD τ).loc main_arg2)))
    j d ⟨T j.val, I.lt j⟩ (picks_read _ j _ (I.lt j) (I.cls j)) (by norm_num)
  exact h.trans ((rows_read _ _ _).trans (I.row ⟨T j.val, I.lt j⟩ d))

/-- The first result on finite inputs. -/
theorem out_read (b d : Fin 64) : outAt m c t0_6 (ix2 b d) = ((∑ r : Fin 100000, Real.exp (logits x w1 b1 w2 b2 b r.val)
    / (∑ r : Fin 100000, Real.exp (logits x w1 b1 w2 b2 b r.val)) * mem T (fun k => X k d) (fun r => P r d) 64 r.val + X b.val d : ℝ) : EReal) :=
  Out.out_value (data I) (fun j => by rw [found9, cls_col, I.cls]) (fun j d => by rw [found10, own_read, I.own]) (old_read I) b d

/-- The second result on finite inputs. -/
theorem loss_read : lossAt m c t0_6 (ix2 0 0) = (((∑ b : Fin 64, (Out.lse (logits x w1 b1 w2 b2) b - logits x w1 b1 w2 b2 b (T b.val))) * (1 / 64) : ℝ) : EReal) :=
  Out.loss_value (data I)

end Cert.StreamIdeal.Host

end
-- ==== Proof.StreamRefLoop.lean ====
/- The reference's loop read as mathematics: sixty-four updates of the class memory, one item each. -/
module

public import proofs.«01_k».proof.Proof.StreamInputs
public import proofs.«01_k».proof.Proof.Gen.StreamReferenceIdeal.Run
public import Idealize.ShloMosaic.Lib.Pointwise.Tactic
public import Idealize.ShloMosaic.Lib.Pointwise.Reshape
public import Idealize.ShloMosaic.Lib.Pointwise.Select
public import Idealize.ShloMosaic.Lib.Routing.OpsSet
public import Idealize.ShloMosaic.Lib.DynamicIndex

@[expose] public section

set_option maxRecDepth 16384

noncomputable section

namespace Cert.StreamReferenceIdeal.Loop

open Cert.StreamReferenceIdeal Cert.StreamReferenceIdeal.Gen Cert.StreamReferenceIdeal.Value Cert.StreamMath
open Idealize.ShloMosaic Idealize.ShloMosaic.TcCoe Idealize.SL.Sem Idealize.ShloMosaic.StableHlo

/-- The item's class. -/
def pick (a2 : Vec Ideal S64 .i32) (n : Vec Ideal S_ .i32) : Vec Ideal S_ .i32 :=
  shapeCast S_ (Host.dynamicSlice S1 a2 (fun k => (((![n] : Fin 1 → Vec Ideal S_ .i32)) k (Shape.Idx.first h_S_)).toInt) sliceFits_S64_S1) shapeCasts_S1_S_
/-- A class number, a negative one counted from the end. -/
def wrap (t : Vec Ideal S_ .i32) : Vec Ideal S_ .i32 := select (cmpi .slt t (constantI S_ 32 0#32)) (addi t (constantI S_ 32 100000#32)) t
/-- The class's row of the memory. -/
def rowAt (p : FVec Ideal S100000x64x1x1 .f32) (t : Vec Ideal S_ .i32) : FVec Ideal S64x1x1 .f32 :=
  shapeCast S64x1x1 (Host.dynamicSlice S1x64x1x1 p (fun k => (((![wrap t, select (cmpi .slt (constantI S_ 32 0#32) (constantI S_ 32 0#32)) (addi (constantI S_ 32 0#32) (constantI S_ 32 64#32)) (constantI S_ 32 0#32),
    select (cmpi .slt (constantI S_ 32 0#32) (constantI S_ 32 0#32)) (addi (constantI S_ 32 0#32) (constantI S_ 32 1#32)) (constantI S_ 32 0#32),
    select (cmpi .slt (constantI S_ 32 0#32) (constantI S_ 32 0#32)) (addi (constantI S_ 32 0#32) (constantI S_ 32 1#32)) (constantI S_ 32 0#32)] : Fin 4 → Vec Ideal S_ .i32)) k (Shape.Idx.first h_S_)).toInt)
    sliceFits_S100000x64x1x1_S1x64x1x1) shapeCasts_S1x64x1x1_S64x1x1
/-- The item's own row. -/
def ownAt (x : FVec Ideal S64x64x1x1 .f32) (n : Vec Ideal S_ .i32) : FVec Ideal S64x1x1 .f32 :=
  shapeCast S64x1x1 (Host.dynamicSlice S1x64x1x1 x (fun k => (((![n, constantI S_ 32 0#32, constantI S_ 32 0#32, constantI S_ 32 0#32] : Fin 4 → Vec Ideal S_ .i32)) k (Shape.Idx.first h_S_)).toInt)
    sliceFits_S64x64x1x1_S1x64x1x1) shapeCasts_S1x64x1x1_S64x1x1
/-- The momentum. -/
def mom : FVec Ideal S_ .f32 := Host.divf (constant (F := Ideal) S_ .f32 0x42C60000#32) (constant (F := Ideal) S_ .f32 0x42C80000#32)
/-- The row written back. -/
def fresh (p : FVec Ideal S100000x64x1x1 .f32) (x : FVec Ideal S64x64x1x1 .f32) (t n : Vec Ideal S_ .i32) : FVec Ideal S64x1x1 .f32 :=
  addf (mulf (broadcastInDim S64x1x1 ![] bcast_S_S64x1x1 mom) (rowAt p t))
    (mulf (broadcastInDim S64x1x1 ![] bcast_S_S64x1x1 (subf (constant (F := Ideal) S_ .f32 0x3F800000#32) mom)) (ownAt x n))
/-- One update. -/
def update (a2 : Vec Ideal S64 .i32) (x : FVec Ideal S64x64x1x1 .f32) (n : Vec Ideal S_ .i32) (p : FVec Ideal S100000x64x1x1 .f32) : FVec Ideal S100000x64x1x1 .f32 :=
  Host.scatter scatter_S100000x64x1x1_S1_S64x1x1_012_0_0_0 (fun _ b => b) p (broadcastInDim S1 ![] bcast_S_S1 (wrap (pick a2 n))) (fresh p x (pick a2 n) n)

theorem step_eq (V0 : Valuation τ sig (Elt Ideal)) : step_main_v0_3 V0 = update (V0 (Proc.devRef .tc main_v0_0)) (V0 (Proc.devRef .tc main_v0_1))
    (V0 (Proc.devRef .tc main_v0_2)) (V0 (Proc.devRef .tc main_v0_3)) := by
  have h48 : res_main_while0b_v48 V0 = pick (V0 (Proc.devRef .tc main_v0_0)) (V0 (Proc.devRef .tc main_v0_2)) := by
    unfold res_main_while0b_v48 pick; rfl
  have h50 : res_main_while0b_v50 V0 = mom := by unfold res_main_while0b_v50 mom; rfl
  unfold step_main_v0_3 update fresh rowAt ownAt wrap
  rw [h48, h50]
  generalize pick _ _ = t
  generalize mom = μ
  exact id_eq _

/-- The momentum is ninety-nine hundredths, -/
theorem mom_val (i : S_.Idx) : mom i = ((99 / 100 : ℝ) : EReal) := by
  have h : mom i = Ideal.div (Ideal.ofBits .f32 0x42C60000#32) (Ideal.ofBits .f32 0x42C80000#32) := rfl
  have h1 : Ideal.ofBits .f32 0x42C60000#32 = ((99 : ℝ) : EReal) := by
    simp [Ideal.ofBits, Ideal.ieee]
    rw [← EReal.coe_mul]; norm_num
  have h2 : Ideal.ofBits .f32 0x42C80000#32 = ((100 : ℝ) : EReal) := by
    simp [Ideal.ofBits, Ideal.ieee]
    rw [← EReal.coe_mul]; norm_num
  rw [h, h1, h2, Ideal.div_coe (by norm_num), ← EReal.coe_mul]
  norm_num
/-- and its complement one hundredth. -/
theorem rest_val (i : S_.Idx) : subf (constant (F := Ideal) S_ .f32 0x3F800000#32) mom i = ((1 / 100 : ℝ) : EReal) := by
  have h : subf (constant (F := Ideal) S_ .f32 0x3F800000#32) mom i = Ideal.ofBits .f32 0x3F800000#32 - mom i := rfl
  have h1 : Ideal.ofBits .f32 0x3F800000#32 = ((1 : ℝ) : EReal) := by
    simp [Ideal.ofBits, Ideal.ieee, ← EReal.coe_mul]; norm_num
  rw [h, h1, mom_val, ← EReal.coe_sub]
  norm_num

theorem toInt_small (t : ℕ) (h : t < 100000) : (BitVec.ofNat 32 t).toInt = t := toInt_ofNat_of_lt (by omega)

theorem pick_read (a2 : Vec Ideal S64 .i32) (n : Vec Ideal S_ .i32) (k : Fin 64) (hn : ∀ i, n i = BitVec.ofNat 32 k.val) (i : S_.Idx) :
    pick a2 n i = a2 (ix1 k) := by
  unfold pick
  rw [Host.dynamicSlice_eq_extractStridedSlice S1 a2 _ ![k.val] sliceFits_S64_S1 ⟨rfl, fun a => by
    match a with
    | ⟨0, _⟩ => show k.val + 1 ≤ 64; omega⟩ (fun a => by
    match a with
    | ⟨0, _⟩ => show (n _).toInt = (k.val : Int); rw [hn]; exact toInt_small _ (by omega))]
  unfold shapeCast extractStridedSlice
  congr 1
  funext a; apply Fin.ext
  match a with
  | ⟨0, _⟩ =>
    show k.val + _ = k.val
    have h : ∀ j : Fin 1, j.val = 0 := fun j => by omega
    exact congrArg (k.val + ·) (h _)

theorem wrap_read (t : Vec Ideal S_ .i32) (T : ℕ) (hT : T < 100000) (i : S_.Idx) (h : t i = BitVec.ofNat 32 T) : wrap t i = BitVec.ofNat 32 T := by
  unfold wrap
  exact (select_slt_zero_of_nonneg t _ t i (by rw [h, toInt_small T hT]; omega)).trans h

theorem cast3 (z : FVec Ideal S1x64x1x1 .f32) (d : Fin 64) : shapeCast S64x1x1 z shapeCasts_S1x64x1x1_S64x1x1 (ix3 d 0 0) = z (ix4 0 d 0 0) := by pointwise

theorem zero_word (i : S_.Idx) (e : BitVec 32) : (select (cmpi .slt (constantI S_ 32 0#32) (constantI S_ 32 0#32)) (addi (constantI S_ 32 0#32) (constantI S_ 32 e)) (constantI S_ 32 0#32) i).toInt = 0 := by
  rw [select_slt_zero_of_nonneg _ _ _ i (by show 0 ≤ (0#32).toInt; decide)]; rfl

theorem row_read (p : FVec Ideal S100000x64x1x1 .f32) (t : Vec Ideal S_ .i32) (T : Fin 100000) (ht : ∀ i, t i = BitVec.ofNat 32 T.val) (d : Fin 64) :
    rowAt p t (ix3 d 0 0) = p (ix4 T d 0 0) := by
  unfold rowAt
  rw [cast3, Host.dynamicSlice_eq_extractStridedSlice S1x64x1x1 p _ ![T.val, 0, 0, 0] sliceFits_S100000x64x1x1_S1x64x1x1 ⟨rfl, fun a => by
    match a with
    | ⟨0, _⟩ => show T.val + 1 ≤ 100000; omega
    | ⟨1, _⟩ => show 0 + 64 ≤ 64; omega
    | ⟨2, _⟩ => show 0 + 1 ≤ 1; omega
    | ⟨3, _⟩ => show 0 + 1 ≤ 1; omega⟩ (fun a => by
    match a with
    | ⟨0, _⟩ => show (wrap t _).toInt = (T.val : Int); rw [wrap_read t T.val T.isLt _ (ht _)]; exact toInt_small _ T.isLt
    | ⟨1, _⟩ => exact zero_word (Shape.Idx.first h_S_) 64#32
    | ⟨2, _⟩ => exact zero_word (Shape.Idx.first h_S_) 1#32
    | ⟨3, _⟩ => exact zero_word (Shape.Idx.first h_S_) 1#32)]
  unfold extractStridedSlice
  congr 1
  funext a; apply Fin.ext
  match a with
  | ⟨0, _⟩ => show T.val + 0 = T.val; omega
  | ⟨1, _⟩ => show 0 + d.val = d.val; omega
  | ⟨2, _⟩ => rfl
  | ⟨3, _⟩ => rfl

theorem own_read (x : FVec Ideal S64x64x1x1 .f32) (n : Vec Ideal S_ .i32) (k : Fin 64) (hn : ∀ i, n i = BitVec.ofNat 32 k.val) (d : Fin 64) :
    ownAt x n (ix3 d 0 0) = x (ix4 k d 0 0) := by
  unfold ownAt
  rw [cast3, Host.dynamicSlice_eq_extractStridedSlice S1x64x1x1 x _ ![k.val, 0, 0, 0] sliceFits_S64x64x1x1_S1x64x1x1 ⟨rfl, fun a => by
    match a with
    | ⟨0, _⟩ => show k.val + 1 ≤ 64; omega
    | ⟨1, _⟩ => show 0 + 64 ≤ 64; omega
    | ⟨2, _⟩ => show 0 + 1 ≤ 1; omega
    | ⟨3, _⟩ => show 0 + 1 ≤ 1; omega⟩ (fun a => by
    match a with
    | ⟨0, _⟩ => show (n _).toInt = (k.val : Int); rw [hn]; exact toInt_small _ (by omega)
    | ⟨1, _⟩ => rfl
    | ⟨2, _⟩ => rfl
    | ⟨3, _⟩ => rfl)]
  unfold extractStridedSlice
  congr 1
  funext a; apply Fin.ext
  match a with
  | ⟨0, _⟩ => show k.val + 0 = k.val; omega
  | ⟨1, _⟩ => show 0 + d.val = d.val; omega
  | ⟨2, _⟩ => rfl
  | ⟨3, _⟩ => rfl

/-- Where an entry of the row written back lands: in the class's row. -/
theorem lands (idx : Vec Ideal S1 .i32) (T : Fin 100000) (ht : idx (ix1 0) = BitVec.ofNat 32 T.val) (j : S64x1x1.Idx) :
    scatter_S100000x64x1x1_S1_S64x1x1_012_0_0_0.resultIdx? j idx = some (ix4 T (j 0) 0 0) := by
  have hst : scatter_S100000x64x1x1_S1_S64x1x1_012_0_0_0.start j idx 0 = (T.val : Int) := by
    have : scatter_S100000x64x1x1_S1_S64x1x1_012_0_0_0.start j idx 0 = (idx (ix1 0)).toInt := by
      unfold ScatterDims.start
      rw [dif_pos (show (0 : Fin 4) ∈ scatter_S100000x64x1x1_S1_S64x1x1_012_0_0_0.scatterDimsToOperandDims from List.mem_singleton.2 rfl)]
      congr 2
      funext b
      match b with
      | ⟨0, _⟩ => exact Subsingleton.elim (α := Fin 1) _ _
    rw [this, ht]; exact toInt_small _ T.isLt
  have h1 : scatter_S100000x64x1x1_S1_S64x1x1_012_0_0_0.start j idx 1 = 0 := rfl
  have h2 : scatter_S100000x64x1x1_S1_S64x1x1_012_0_0_0.start j idx 2 = 0 := rfl
  have h3 : scatter_S100000x64x1x1_S1_S64x1x1_012_0_0_0.start j idx 3 = 0 := rfl
  have w0 : scatter_S100000x64x1x1_S1_S64x1x1_012_0_0_0.window j 0 = 0 := rfl
  have w1 : scatter_S100000x64x1x1_S1_S64x1x1_012_0_0_0.window j 1 = (j 0).val := rfl
  have w2 : scatter_S100000x64x1x1_S1_S64x1x1_012_0_0_0.window j 2 = (j 1).val := rfl
  have w3 : scatter_S100000x64x1x1_S1_S64x1x1_012_0_0_0.window j 3 = (j 2).val := rfl
  have j0 : (j 0).val < 64 := (j 0).isLt
  have j1 : (j 1).val < 1 := (j 1).isLt
  have j2 : (j 2).val < 1 := (j 2).isLt
  have hT := T.isLt
  unfold ScatterDims.resultIdx?
  rw [dif_pos (fun a => by
    match a with
    | ⟨0, _⟩ => show 0 ≤ scatter_S100000x64x1x1_S1_S64x1x1_012_0_0_0.start j idx 0 + ((scatter_S100000x64x1x1_S1_S64x1x1_012_0_0_0.window j 0 : ℕ) : Int) ∧ scatter_S100000x64x1x1_S1_S64x1x1_012_0_0_0.start j idx 0 + ((scatter_S100000x64x1x1_S1_S64x1x1_012_0_0_0.window j 0 : ℕ) : Int) < ((100000 : ℕ) : Int); rw [hst, w0]; omega
    | ⟨1, _⟩ => show 0 ≤ scatter_S100000x64x1x1_S1_S64x1x1_012_0_0_0.start j idx 1 + ((scatter_S100000x64x1x1_S1_S64x1x1_012_0_0_0.window j 1 : ℕ) : Int) ∧ scatter_S100000x64x1x1_S1_S64x1x1_012_0_0_0.start j idx 1 + ((scatter_S100000x64x1x1_S1_S64x1x1_012_0_0_0.window j 1 : ℕ) : Int) < ((64 : ℕ) : Int); rw [h1, w1]; omega
    | ⟨2, _⟩ => show 0 ≤ scatter_S100000x64x1x1_S1_S64x1x1_012_0_0_0.start j idx 2 + ((scatter_S100000x64x1x1_S1_S64x1x1_012_0_0_0.window j 2 : ℕ) : Int) ∧ scatter_S100000x64x1x1_S1_S64x1x1_012_0_0_0.start j idx 2 + ((scatter_S100000x64x1x1_S1_S64x1x1_012_0_0_0.window j 2 : ℕ) : Int) < ((1 : ℕ) : Int); rw [h2, w2]; omega
    | ⟨3, _⟩ => show 0 ≤ scatter_S100000x64x1x1_S1_S64x1x1_012_0_0_0.start j idx 3 + ((scatter_S100000x64x1x1_S1_S64x1x1_012_0_0_0.window j 3 : ℕ) : Int) ∧ scatter_S100000x64x1x1_S1_S64x1x1_012_0_0_0.start j idx 3 + ((scatter_S100000x64x1x1_S1_S64x1x1_012_0_0_0.window j 3 : ℕ) : Int) < ((1 : ℕ) : Int); rw [h3, w3]; omega)]
  refine congrArg some (funext fun a => Fin.ext ?_)
  match a with
  | ⟨0, _⟩ => show Int.toNat (scatter_S100000x64x1x1_S1_S64x1x1_012_0_0_0.start j idx 0 + ((scatter_S100000x64x1x1_S1_S64x1x1_012_0_0_0.window j 0 : ℕ) : Int)) = T.val; rw [hst, w0]; omega
  | ⟨1, _⟩ => show Int.toNat (scatter_S100000x64x1x1_S1_S64x1x1_012_0_0_0.start j idx 1 + ((scatter_S100000x64x1x1_S1_S64x1x1_012_0_0_0.window j 1 : ℕ) : Int)) = (j 0).val; rw [h1, w1]; omega
  | ⟨2, _⟩ => show Int.toNat (scatter_S100000x64x1x1_S1_S64x1x1_012_0_0_0.start j idx 2 + ((scatter_S100000x64x1x1_S1_S64x1x1_012_0_0_0.window j 2 : ℕ) : Int)) = 0; rw [h2, w2]; omega
  | ⟨3, _⟩ => show Int.toNat (scatter_S100000x64x1x1_S1_S64x1x1_012_0_0_0.start j idx 3 + ((scatter_S100000x64x1x1_S1_S64x1x1_012_0_0_0.window j 3 : ℕ) : Int)) = 0; rw [h3, w3]; omega

/-- One update, entry by entry. -/
theorem update_read (a2 : Vec Ideal S64 .i32) (x : FVec Ideal S64x64x1x1 .f32) (n : Vec Ideal S_ .i32) (p : FVec Ideal S100000x64x1x1 .f32) (k : Fin 64) (T : Fin 100000)
    (hn : ∀ i, n i = BitVec.ofNat 32 k.val) (ha : a2 (ix1 k) = BitVec.ofNat 32 T.val) (r : Fin 100000) (d : Fin 64) :
    update a2 x n p (ix4 r d 0 0) = if r = T then ((99 / 100 : ℝ) : EReal) * p (ix4 r d 0 0) + ((1 / 100 : ℝ) : EReal) * x (ix4 k d 0 0) else p (ix4 r d 0 0) := by
  have hp : ∀ i, pick a2 n i = BitVec.ofNat 32 T.val := fun i => (pick_read a2 n k hn i).trans ha
  have hidx : (broadcastInDim S1 ![] bcast_S_S1 (wrap (pick a2 n)) : Vec Ideal S1 .i32) (ix1 0) = BitVec.ofNat 32 T.val :=
    wrap_read _ T.val T.isLt _ (hp _)
  unfold update
  by_cases h : r = T
  · subst h
    rw [if_pos rfl]
    refine (Routing.scatter_set_hit _ p _ _ (ix4 r d 0 0) (fresh p x (pick a2 n) n (ix3 d 0 0)) (fun j hj => ?_) (ix3 d 0 0) (lands _ r hidx (ix3 d 0 0))).trans ?_
    · rw [lands _ r hidx j] at hj
      have hj0 : j 0 = d := congrFun (Option.some.inj hj) 1
      congr 1
      funext a
      match a with
      | ⟨0, _⟩ => exact hj0
      | ⟨1, _⟩ => exact Subsingleton.elim (α := Fin 1) _ _
      | ⟨2, _⟩ => exact Subsingleton.elim (α := Fin 1) _ _
    · have : fresh p x (pick a2 n) n (ix3 d 0 0) = mom ix0 * rowAt p (pick a2 n) (ix3 d 0 0)
          + subf (constant (F := Ideal) S_ .f32 0x3F800000#32) mom ix0 * ownAt x n (ix3 d 0 0) := by
        unfold fresh; generalize mom = μ; generalize rowAt p (pick a2 n) = R; generalize ownAt x n = O; pointwise
      rw [this, mom_val, rest_val, row_read p _ r hp d, own_read x n k hn d]
  · rw [if_neg h]
    refine Routing.scatter_set_miss _ p _ _ (ix4 r d 0 0) fun j hj => ?_
    rw [lands _ T hidx j] at hj
    exact h (congrFun (Option.some.inj hj) 0).symm

/-- The counter's word is counted up by one. -/
theorem succ_word (k : ℕ) : BitVec.ofNat 32 k + 1#32 = BitVec.ofNat 32 (k + 1) := by
  apply BitVec.eq_of_toNat_eq
  simp [BitVec.toNat_add, BitVec.toNat_ofNat]

variable (m : (ℓ : Loc nD τ sig) → Buf (Elt Ideal) ℓ) (c : Dev nD)

theorem entry0 : entryContents preI m c (Proc.devRef .tc main_v0_0) = m ((c.tc : Thread nD τ).loc main_arg2) := by
  simp only [entryContents, afterL_cons, afterL_nil]
  after_reads_simp
  rfl
theorem entry1 : entryContents preI m c (Proc.devRef .tc main_v0_1) = m ((c.tc : Thread nD τ).loc main_arg1) := by
  simp only [entryContents, afterL_cons, afterL_nil]
  after_reads_simp
  rfl
theorem entry3 : entryContents preI m c (Proc.devRef .tc main_v0_3) = m ((c.tc : Thread nD τ).loc main_arg3) := by
  simp only [entryContents, afterL_cons, afterL_nil]
  after_reads_simp
  rfl

/-- The class memory after `k` items. -/
theorem after_items {x : Fin 64 → Fin 64 → ℝ} {X : ℕ → Fin 64 → ℝ} {T : ℕ → ℕ} {P : ℕ → Fin 64 → ℝ} {w1 : Fin 64 → Fin 128 → ℝ} {b1 : Fin 128 → ℝ} {w2 : Fin 128 → ℕ → ℝ} {b2 : ℕ → ℝ}
    (I : Inputs (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) x X T P w1 b1 w2 b2) :
    ∀ k : ℕ, k ≤ 64 →
      (STEP^[k] (entryContents preI m c)) (Proc.devRef .tc main_v0_0) = m ((c.tc : Thread nD τ).loc main_arg2) ∧
      (STEP^[k] (entryContents preI m c)) (Proc.devRef .tc main_v0_1) = m ((c.tc : Thread nD τ).loc main_arg1) ∧
      (STEP^[k] (entryContents preI m c)) (Proc.devRef .tc main_v0_2) = (fun _ => (BitVec.ofNat 32 k : BitVec 32)) ∧
      ∀ (r : Fin 100000) (d : Fin 64), (show FVec Ideal S100000x64x1x1 .f32 from (STEP^[k] (entryContents preI m c)) (Proc.devRef .tc main_v0_3)) (ix4 r d 0 0)
        = ((mem T (fun k => X k d) (fun r => P r d) k r.val : ℝ) : EReal)
  | 0, _ => by
    simp only [Function.iterate_zero, id_eq]
    refine ⟨entry0 m c, entry1 m c, ctr_entry m c, fun r d => ?_⟩
    rw [entry3]; exact I.row r d
  | k + 1, hk => by
    obtain ⟨h0, h1, h2, h3⟩ := after_items I k (by omega)
    simp only [Function.iterate_succ_apply']
    generalize STEP^[k] (entryContents preI m c) = V at h0 h1 h2 h3
    refine ⟨(STEP_main_v0_0 V).trans h0, (STEP_main_v0_1 V).trans h1, (STEP_main_v0_2 V).trans ?_, fun r d => ?_⟩
    · funext i
      have : step_main_v0_2 V i = (show Vec Ideal S_ .i32 from V (Proc.devRef .tc main_v0_2)) i + 1#32 := rfl
      rw [this, h2]; exact succ_word k
    · rw [STEP_main_v0_3, step_eq]
      refine (update_read _ _ _ _ ⟨k, by omega⟩ ⟨T k, I.lt ⟨k, by omega⟩⟩ (fun i => congrFun h2 i) ?_ r d).trans ?_
      · rw [h0]; exact I.cls ⟨k, by omega⟩
      · have hx : (show FVec Ideal S64x64x1x1 .f32 from V (Proc.devRef .tc main_v0_1)) (ix4 ⟨k, by omega⟩ d 0 0) = ((X k d : ℝ) : EReal) := by
          rw [h1]; exact I.own ⟨k, by omega⟩ d
        have hr := h3 r d
        generalize V (Proc.devRef .tc main_v0_3) = p at hr ⊢
        generalize V (Proc.devRef .tc main_v0_1) = q at hx ⊢
        have hr' : (p : FVec Ideal S100000x64x1x1 .f32) (ix4 r d 0 0) = _ := hr
        have hx' : (q : FVec Ideal S64x64x1x1 .f32) (ix4 ⟨k, by omega⟩ d 0 0) = _ := hx
        rw [hr', hx']
        show _ = ((if r.val = T k then 99 / 100 * mem T (fun k => X k d) (fun r => P r d) k r.val + 1 / 100 * X k d else mem T (fun k => X k d) (fun r => P r d) k r.val : ℝ) : EReal)
        by_cases h : r.val = T k
        · rw [if_pos (Fin.ext h), if_pos h, EReal.coe_add, EReal.coe_mul, EReal.coe_mul]
        · rw [if_neg (fun e => h (congrArg Fin.val e)), if_neg h]

end Cert.StreamReferenceIdeal.Loop

end
-- ==== Proof.StreamRefValue.lean ====
/- The reference's two results on finite inputs, as real formulas. -/
module

public import proofs.«01_k».proof.Proof.StreamRefLoop
public import Idealize.ShloMosaic.Lib.Pointwise.Contract
public import Idealize.ShloMosaic.Lib.Pointwise.Reduce

@[expose] public section

set_option maxRecDepth 16384

noncomputable section

namespace Cert.StreamReferenceIdeal.Out

open Cert.StreamReferenceIdeal Cert.StreamReferenceIdeal.Gen Cert.StreamReferenceIdeal.Value Cert.StreamReferenceIdeal.Loop Cert.StreamMath
open Idealize.ShloMosaic Idealize.ShloMosaic.TcCoe Idealize.SL.Sem
open Finset

/-- The hidden layer. -/
def hid (a0 : FVec Ideal S64x64 .f32) (a4 : FVec Ideal S64x128 .f32) (a5 : FVec Ideal S128 .f32) : FVec Ideal S64x128 .f32 :=
  maximumf (addf (Host.dotGeneral dot_S64x64_S64x128_S64x128_1_0_0_1_n_n none a0 a4) (broadcastInDim S64x128 ![0, 1] bcast_S1x128_S64x128_0_1 (broadcastInDim S1x128 ![1] bcast_S128_S1x128_1 a5)))
    (broadcastInDim S64x128 ![] bcast_S_S64x128 (constant S_ .f32 0x00000000#32))
/-- The logits. -/
def lg (h : FVec Ideal S64x128 .f32) (a6 : FVec Ideal S128x100000 .f32) (a7 : FVec Ideal S100000 .f32) : FVec Ideal S64x100000 .f32 :=
  addf (Host.dotGeneral dot_S64x128_S128x100000_S64x100000_1_0_0_1_n_n none h a6) (broadcastInDim S64x100000 ![0, 1] bcast_S1x100000_S64x100000_0_1 (broadcastInDim S1x100000 ![1] bcast_S100000_S1x100000_1 a7))
/-- Each item's greatest logit. -/
def top (L : FVec Ideal S64x100000 .f32) : FVec Ideal S64 .f32 :=
  Host.reduce FloatOps.maximumf L (constant S_ .f32 0xFF800000#32) reducesTo_S64x100000_S64_d1 h_S_
/-- A number per item, along its row. -/
def spread (t : FVec Ideal S64 .f32) : FVec Ideal S64x100000 .f32 :=
  broadcastInDim S64x100000 ![0, 1] bcast_S64x1_S64x100000_0_1 (broadcastInDim S64x1 ![0] bcast_S64_S64x1_0 t)
/-- Each item's sum of a row. -/
def total (E : FVec Ideal S64x100000 .f32) : FVec Ideal S64 .f32 := Host.reduceAdd E (constant S_ .f32 0x00000000#32) reducesTo_S64x100000_S64_d1 h_S_
/-- The softmax. -/
def soft (L : FVec Ideal S64x100000 .f32) (t : FVec Ideal S64 .f32) : FVec Ideal S64x100000 .f32 :=
  Host.divf (Host.exp (subf L (spread t))) (spread (total (Host.exp (subf L (spread t)))))
/-- The weighted class memory. -/
def mix (W : FVec Ideal S64x100000 .f32) (p : FVec Ideal S100000x64x1x1 .f32) (a1 : FVec Ideal S64x64x1x1 .f32) : FVec Ideal S64x64x1x1 .f32 :=
  addf (shapeCast _ (Host.dotGeneral dot_S64x100000_S100000x64_S64x64_1_0_0_1_n_n none W (shapeCast _ p shapeCasts_S100000x64x1x1_S100000x64)) shapeCasts_S64x64_S64x64x1x1) a1
/-- The logarithm of the softmax. -/
def logp (L : FVec Ideal S64x100000 .f32) (t : FVec Ideal S64 .f32) : FVec Ideal S64x100000 .f32 :=
  subf (subf L (spread t)) (broadcastInDim S64x100000 ![0, 1] bcast_S64x1_S64x100000_0_1 (Host.log (broadcastInDim S64x1 ![0] bcast_S64_S64x1_0 (total (Host.exp (subf L (spread t)))))))
/-- The entries of the items' own classes. -/
def owned (a2 : Vec Ideal S64 .i32) (G : FVec Ideal S64x100000 .f32) : FVec Ideal S64x100000 .f32 :=
  select (cmpi .eq (broadcastInDim S64x100000 ![0, 1] bcast_S64x1_S64x100000_0_1 (broadcastInDim S64x1 ![0] bcast_S64_S64x1_0 a2))
    (broadcastInDim S64x100000 ![0, 1] bcast_S1x100000_S64x100000_0_1 (broadcastInDim S1x100000 ![1] bcast_S100000_S1x100000_1 (iotaInDim S100000 32 0))))
    G (broadcastInDim S64x100000 ![] bcast_S_S64x100000 (constant S_ .f32 0x00000000#32))
/-- The loss. -/
def loss (z : FVec Ideal S64 .f32) : FVec Ideal S_ .f32 :=
  Host.negf (Host.divf (Host.reduceAdd z (constant S_ .f32 0x00000000#32) reducesTo_S64_S_d0 h_S_) (constant S_ .f32 0x42800000#32))

theorem out47_eq (V0 : Valuation τ sig (Elt Ideal)) (L : FVec Ideal S64x100000 .f32)
    (hL : lg (hid (V0 (Proc.devRef .tc main_arg0)) (V0 (Proc.devRef .tc main_arg4)) (V0 (Proc.devRef .tc main_arg5))) (V0 (Proc.devRef .tc main_arg6)) (V0 (Proc.devRef .tc main_arg7)) = L) :
    out_main_v47 V0 = mix (soft L (maximumf (broadcastInDim S64 ![] bcast_S_S64 (constant S_ .f32 0xFF800000#32)) (top L))) (V0 (Proc.devRef .tc main_v0_3)) (V0 (Proc.devRef .tc main_arg1)) := by
  subst hL
  unfold out_main_v47 mix soft total spread top lg hid
  rfl
theorem out46_eq (V0 : Valuation τ sig (Elt Ideal)) (L : FVec Ideal S64x100000 .f32)
    (hL : lg (hid (V0 (Proc.devRef .tc main_arg0)) (V0 (Proc.devRef .tc main_arg4)) (V0 (Proc.devRef .tc main_arg5))) (V0 (Proc.devRef .tc main_arg6)) (V0 (Proc.devRef .tc main_arg7)) = L) :
    out_main_v46 V0 = loss (total (owned (V0 (Proc.devRef .tc main_arg2)) (logp L (top L)))) := by
  subst hL
  unfold out_main_v46 loss owned logp total spread top lg hid
  rfl

theorem low : Ideal.ofBits .f32 0xFF800000#32 = ⊥ := by simp [Ideal.ofBits, Ideal.ieee]
theorem sixty_four : Ideal.ofBits .f32 0x42800000#32 = ((64 : ℝ) : EReal) := by
  simp [Ideal.ofBits, Ideal.ieee]
  rw [← EReal.coe_mul]; norm_num

/-! Each piece at an entry. -/
theorem hid_read (a0 : FVec Ideal S64x64 .f32) (a4 : FVec Ideal S64x128 .f32) (a5 : FVec Ideal S128 .f32) (b : Fin 64) (k : Fin 128) :
    hid a0 a4 a5 (ix2 b k) = max ((∑ c : Fin 64, a0 (ix2 b c) * a4 (ix2 c k)) + a5 (ix1 k)) 0 := by
  unfold hid; pointwise
theorem lg_read (h : FVec Ideal S64x128 .f32) (a6 : FVec Ideal S128x100000 .f32) (a7 : FVec Ideal S100000 .f32) (b : Fin 64) (r : Fin 100000) :
    lg h a6 a7 (ix2 b r) = (∑ k : Fin 128, h (ix2 b k) * a6 (ix2 k r)) + a7 (ix1 r) := by
  unfold lg; pointwise
theorem spread_read (t : FVec Ideal S64 .f32) (b : Fin 64) (r : Fin 100000) : spread t (ix2 b r) = t (ix1 b) := by
  unfold spread; pointwise
theorem total_read (E : FVec Ideal S64x100000 .f32) (b : Fin 64) : total E (ix1 b) = ∑ r : Fin 100000, E (ix2 b r) := by
  unfold total; pointwise
theorem top_read (L : FVec Ideal S64x100000 .f32) (b : Fin 64) : top L (ix1 b) = (univ : Finset (Fin 100000)).sup fun r => L (ix2 b r) := by
  have e : top L (ix1 b) = fold max (Ideal.ofBits .f32 0xFF800000#32) (fun x => L (ix2 b x)) univ := by unfold top; pointwise
  rw [e, low]; rfl
theorem top2_read (t : FVec Ideal S64 .f32) (b : Fin 64) : maximumf (broadcastInDim S64 ![] bcast_S_S64 (constant (F := Ideal) S_ .f32 0xFF800000#32)) t (ix1 b) = t (ix1 b) := by
  have e : maximumf (broadcastInDim S64 ![] bcast_S_S64 (constant (F := Ideal) S_ .f32 0xFF800000#32)) t (ix1 b) = max (Ideal.ofBits .f32 0xFF800000#32) (t (ix1 b)) := by pointwise
  rw [e, low]; exact max_eq_right bot_le
theorem soft_read (L : FVec Ideal S64x100000 .f32) (t : FVec Ideal S64 .f32) (b : Fin 64) (r : Fin 100000) :
    soft L t (ix2 b r) = Ideal.div (Ideal.exp (L (ix2 b r) - t (ix1 b))) (∑ q : Fin 100000, Ideal.exp (L (ix2 b q) - t (ix1 b))) := by
  have h : ∀ q, Host.exp (subf L (spread t)) (ix2 b q) = Ideal.exp (L (ix2 b q) - t (ix1 b)) := fun q => by
    rw [← spread_read t b q]; rfl
  have e : ∀ E S : FVec Ideal S64x100000 .f32, Host.divf E S (ix2 b r) = Ideal.div (E (ix2 b r)) (S (ix2 b r)) := fun _ _ => rfl
  unfold soft
  rw [e, spread_read, total_read, h r]
  exact congrArg (fun s => Ideal.div (Ideal.exp (L (ix2 b r) - t (ix1 b))) s) (sum_congr rfl fun q _ => h q)
theorem mix_read (W : FVec Ideal S64x100000 .f32) (p : FVec Ideal S100000x64x1x1 .f32) (a1 : FVec Ideal S64x64x1x1 .f32) (b d : Fin 64) :
    mix W p a1 (ix4 b d 0 0) = (∑ r : Fin 100000, W (ix2 b r) * p (ix4 r d 0 0)) + a1 (ix4 b d 0 0) := by
  unfold mix; pointwise
theorem logp_read (L : FVec Ideal S64x100000 .f32) (t : FVec Ideal S64 .f32) (b : Fin 64) (r : Fin 100000) :
    logp L t (ix2 b r) = L (ix2 b r) - t (ix1 b) - Ideal.log (∑ q : Fin 100000, Ideal.exp (L (ix2 b q) - t (ix1 b))) := by
  have h : ∀ q, Host.exp (subf L (spread t)) (ix2 b q) = Ideal.exp (L (ix2 b q) - t (ix1 b)) := fun q => by
    rw [← spread_read t b q]; rfl
  have e : ∀ S : FVec Ideal S64 .f32, subf (subf L (spread t)) (broadcastInDim S64x100000 ![0, 1] bcast_S64x1_S64x100000_0_1 (Host.log (broadcastInDim S64x1 ![0] bcast_S64_S64x1_0 S))) (ix2 b r)
      = L (ix2 b r) - spread t (ix2 b r) - Ideal.log (S (ix1 b)) := fun S => by generalize spread t = s; pointwise
  unfold logp
  rw [e, spread_read, total_read]
  exact congrArg (fun x => L (ix2 b r) - t (ix1 b) - Ideal.log x) (sum_congr rfl fun q _ => h q)
theorem owned_read (a2 : Vec Ideal S64 .i32) (G : FVec Ideal S64x100000 .f32) (b : Fin 64) (r : Fin 100000) :
    owned a2 G (ix2 b r) = if a2 (ix1 b) = BitVec.ofNat 32 r.val then G (ix2 b r) else 0 := by
  have e : owned a2 G (ix2 b r) = Scalar.select (IntOp.cmpi CmpIPredicate.eq (a2 (ix1 b)) (BitVec.ofNat 32 r.val)) (G (ix2 b r)) 0 := by
    unfold owned; pointwise
  rw [e]
  by_cases h : a2 (ix1 b) = BitVec.ofNat 32 r.val
  · rw [if_pos h, h]; simp [Scalar.select, IntOp.cmpi]
  · have hb : (a2 (ix1 b) == BitVec.ofNat 32 r.val) = false := beq_eq_false_iff_ne.mpr h
    rw [if_neg h]; simp [Scalar.select, IntOp.cmpi, hb]
theorem loss_read (z : FVec Ideal S64 .f32) (i : S_.Idx) : loss z i = -Ideal.div (∑ b : Fin 64, z (ix1 b)) (Ideal.ofBits .f32 0x42800000#32) := by
  unfold loss; pointwise

section Finite
variable {a0 : FVec Ideal S64x64 .f32} {a1 : FVec Ideal S64x64x1x1 .f32} {a2 : Vec Ideal S64 .i32} {a3 : FVec Ideal S100000x64x1x1 .f32}
  {a4 : FVec Ideal S64x128 .f32} {a5 : FVec Ideal S128 .f32} {a6 : FVec Ideal S128x100000 .f32} {a7 : FVec Ideal S100000 .f32}
  {x : Fin 64 → Fin 64 → ℝ} {X : ℕ → Fin 64 → ℝ} {T : ℕ → ℕ} {P : ℕ → Fin 64 → ℝ} {w1 : Fin 64 → Fin 128 → ℝ} {b1 : Fin 128 → ℝ}
  {w2 : Fin 128 → ℕ → ℝ} {b2 : ℕ → ℝ} (I : Inputs a0 a1 a2 a3 a4 a5 a6 a7 x X T P w1 b1 w2 b2)
include I

theorem hid_real (b : Fin 64) (k : Fin 128) : hid a0 a4 a5 (ix2 b k) = ((hiddenLayer x w1 b1 b k : ℝ) : EReal) := by
  rw [hid_read]
  unfold hiddenLayer
  rw [coe_max, EReal.coe_add, coe_sum, I.bias1, EReal.coe_zero]
  refine congrArg (fun s => max (s + ((b1 k : ℝ) : EReal)) 0) (sum_congr rfl fun c _ => ?_)
  rw [I.feat, I.weight1, EReal.coe_mul]

theorem lg_real (b : Fin 64) (r : Fin 100000) : lg (hid a0 a4 a5) a6 a7 (ix2 b r) = ((logits x w1 b1 w2 b2 b r.val : ℝ) : EReal) := by
  rw [lg_read]
  unfold logits
  rw [EReal.coe_add, coe_sum, I.bias2]
  refine congrArg (fun s => s + ((b2 r.val : ℝ) : EReal)) (sum_congr rfl fun k _ => ?_)
  rw [hid_real I, I.weight2, EReal.coe_mul]

end Finite

/-- A row's exponentials, shifted by a real number, sum to a real number. -/
theorem exps_real (L : FVec Ideal S64x100000 .f32) (b : Fin 64) (l : Fin 100000 → ℝ) (hl : ∀ r, L (ix2 b r) = ((l r : ℝ) : EReal)) (t : EReal) (M : ℝ) (ht : t = (M : EReal)) :
    ∑ q : Fin 100000, Ideal.exp (L (ix2 b q) - t) = ((∑ q : Fin 100000, Real.exp (l q - M) : ℝ) : EReal) := by
  rw [coe_sum, ht]
  refine sum_congr rfl fun q _ => ?_
  rw [hl, ← EReal.coe_sub, Ideal.exp_coe]

theorem top_real (L : FVec Ideal S64x100000 .f32) (b : Fin 64) (l : Fin 100000 → ℝ) (hl : ∀ r, L (ix2 b r) = ((l r : ℝ) : EReal)) :
    ∃ M : ℝ, top L (ix1 b) = (M : EReal) := by
  rw [top_read]
  exact sup_real univ (fun r => L (ix2 b r)) (fun r _ => by rw [hl]; exact EReal.coe_ne_top _) ⟨0, by norm_num⟩ (mem_univ _) (by rw [hl]; exact EReal.coe_ne_bot _)

/-- The softmax of real logits does not depend on the shift. -/
theorem soft_real (L : FVec Ideal S64x100000 .f32) (t : FVec Ideal S64 .f32) (b : Fin 64) (l : Fin 100000 → ℝ) (hl : ∀ r, L (ix2 b r) = ((l r : ℝ) : EReal)) (M : ℝ) (ht : t (ix1 b) = (M : EReal))
    (r : Fin 100000) : soft L t (ix2 b r) = ((Real.exp (l r) / ∑ q : Fin 100000, Real.exp (l q) : ℝ) : EReal) := by
  have hpos := sum_exp_pos (n := 100000) (by norm_num) l M
  rw [soft_read, exps_real L b l hl _ M ht, ht, hl, ← EReal.coe_sub, Ideal.exp_coe, ← softmax_shift l (l r) M]
  generalize (∑ q : Fin 100000, Real.exp (l q - M)) = S at hpos
  rw [Ideal.div_coe hpos.ne', ← EReal.coe_mul]
  exact congrArg _ (by ring)

/-- The logarithm of the softmax of real logits. -/
theorem logp_real (L : FVec Ideal S64x100000 .f32) (t : FVec Ideal S64 .f32) (b : Fin 64) (l : Fin 100000 → ℝ) (hl : ∀ r, L (ix2 b r) = ((l r : ℝ) : EReal)) (M : ℝ) (ht : t (ix1 b) = (M : EReal))
    (r : Fin 100000) : logp L t (ix2 b r) = ((l r - Real.log (∑ q : Fin 100000, Real.exp (l q)) : ℝ) : EReal) := by
  have hpos := sum_exp_pos (n := 100000) (by norm_num) l M
  rw [logp_read, exps_real L b l hl _ M ht, ht, hl, ← lse_shift (by norm_num) l M]
  generalize (∑ q : Fin 100000, Real.exp (l q - M)) = S at hpos
  rw [Ideal.log_coe, if_neg (not_le.mpr hpos), ← EReal.coe_sub, ← EReal.coe_sub]
  exact congrArg _ (by ring)

section Finite
variable {a0 : FVec Ideal S64x64 .f32} {a1 : FVec Ideal S64x64x1x1 .f32} {a2 : Vec Ideal S64 .i32} {a3 : FVec Ideal S100000x64x1x1 .f32}
  {a4 : FVec Ideal S64x128 .f32} {a5 : FVec Ideal S128 .f32} {a6 : FVec Ideal S128x100000 .f32} {a7 : FVec Ideal S100000 .f32}
  {x : Fin 64 → Fin 64 → ℝ} {X : ℕ → Fin 64 → ℝ} {T : ℕ → ℕ} {P : ℕ → Fin 64 → ℝ} {w1 : Fin 64 → Fin 128 → ℝ} {b1 : Fin 128 → ℝ}
  {w2 : Fin 128 → ℕ → ℝ} {b2 : ℕ → ℝ} (I : Inputs a0 a1 a2 a3 a4 a5 a6 a7 x X T P w1 b1 w2 b2)
include I

/-- The first result: the softmax's mix of the updated class memory, and the item's own row. -/
theorem first (L : FVec Ideal S64x100000 .f32) (hL : lg (hid a0 a4 a5) a6 a7 = L) (p : FVec Ideal S100000x64x1x1 .f32) (q : ℕ → Fin 64 → ℝ)
    (hp : ∀ (r : Fin 100000) d, p (ix4 r d 0 0) = ((q r.val d : ℝ) : EReal)) (b d : Fin 64) :
    mix (soft L (maximumf (broadcastInDim S64 ![] bcast_S_S64 (constant S_ .f32 0xFF800000#32)) (top L))) p a1 (ix4 b d 0 0)
    = ((∑ r : Fin 100000, Real.exp (logits x w1 b1 w2 b2 b r.val) / (∑ r : Fin 100000, Real.exp (logits x w1 b1 w2 b2 b r.val)) * q r.val d + X b.val d : ℝ) : EReal) := by
  have hl : ∀ r, L (ix2 b r) = ((logits x w1 b1 w2 b2 b r.val : ℝ) : EReal) := fun r => by rw [← hL]; exact lg_real I b r
  obtain ⟨M, hM⟩ := top_real L b _ hl
  rw [mix_read, EReal.coe_add, coe_sum, I.own]
  refine congrArg (fun s => s + ((X b.val d : ℝ) : EReal)) (sum_congr rfl fun r _ => ?_)
  rw [soft_real L _ b _ hl M ((top2_read _ b).trans hM) r, hp, EReal.coe_mul]

/-- The second result: the mean over the items of the logarithm of the sum of exponentials less the own class's logit. -/
theorem second (L : FVec Ideal S64x100000 .f32) (hL : lg (hid a0 a4 a5) a6 a7 = L) (i : S_.Idx) :
    loss (total (owned a2 (logp L (top L)))) i
    = (((∑ b : Fin 64, (Real.log (∑ r : Fin 100000, Real.exp (logits x w1 b1 w2 b2 b r.val)) - logits x w1 b1 w2 b2 b (T b.val))) * (1 / 64) : ℝ) : EReal) := by
  have row : ∀ b : Fin 64, total (owned a2 (logp L (top L))) (ix1 b)
      = ((logits x w1 b1 w2 b2 b (T b.val) - Real.log (∑ r : Fin 100000, Real.exp (logits x w1 b1 w2 b2 b r.val)) : ℝ) : EReal) := fun b => by
    have hl : ∀ r, L (ix2 b r) = ((logits x w1 b1 w2 b2 b r.val : ℝ) : EReal) := fun r => by rw [← hL]; exact lg_real I b r
    obtain ⟨M, hM⟩ := top_real L b _ hl
    rw [total_read, ← sum_pick (n := 100000) (fun r => logits x w1 b1 w2 b2 b r - Real.log (∑ r : Fin 100000, Real.exp (logits x w1 b1 w2 b2 b r.val))) (T b.val) (I.lt b), coe_sum]
    refine sum_congr rfl fun r _ => ?_
    have hT := I.lt b
    have hw : (BitVec.ofNat 32 (T b.val) = BitVec.ofNat 32 r.val) ↔ r.val = T b.val := by
      rw [← BitVec.toNat_inj, BitVec.toNat_ofNat, BitVec.toNat_ofNat]
      have := r.isLt
      omega
    rw [owned_read, I.cls, logp_real L _ b _ hl M hM r]
    by_cases h : r.val = T b.val
    · rw [if_pos (hw.mpr h), if_pos h]
    · rw [if_neg (fun e => h (hw.mp e)), if_neg h, EReal.coe_zero]
  rw [loss_read, sixty_four, sum_congr rfl fun b _ => row b, ← coe_sum, Ideal.div_coe (by norm_num), ← EReal.coe_mul, ← EReal.coe_neg]
  refine congrArg _ ?_
  simp only [sum_sub_distrib]
  ring

end Finite

end Cert.StreamReferenceIdeal.Out

end
-- ==== Proof.StreamPre.lean ====
/- What the precondition says: every float argument is a finite number and every class number names a class. -/
module

public import proofs.«01_k».proof.Proof.StreamInputs
public import proofs.«01_k».proof.Proof.Gen.Pre_finite_and_in_range
public import Idealize.ShloMosaic.Lib.ReduceAll

@[expose] public section

set_option maxRecDepth 16384

noncomputable section

namespace Cert.StreamMath

open Idealize.ShloMosaic Cert.Pre_finite_and_in_range Cert.Pre_finite_and_in_range.Gen

instance : Subsingleton S_.Idx := ⟨fun i j => funext fun a => a.elim0⟩

theorem both {x y : IVec S_ 1} {j : S_.Idx} (h : andi x y j = 1#1) : x j = 1#1 ∧ y j = 1#1 := IntOp.andi_eq_one.1 h

theorem infinity : Ideal.ofBits .f32 0x7F800000#32 = ⊤ := by simp [Ideal.ofBits, Ideal.ieee]

/-- An array whose absolute values are all below infinity holds real numbers. -/
theorem finite_all {s : Shape} {axes : List (Fin s.rank)} (a : FVec Ideal s .f32) (hb : S_.BroadcastsInDim s (![] : Fin 0 → Fin s.rank)) (hr : s.ReducesTo axes S_) (h0 : 0 < S_.numel) (j : S_.Idx)
    (e : Host.reduce IntOp.andi (cmpf .olt (Host.absf a) (broadcastInDim s ![] hb (constant S_ .f32 0x7F800000#32))) (constantI S_ 1 1#1) hr h0 j = 1#1) (i : s.Idx) :
    a i = (((a i).toReal : ℝ) : EReal) := by
  have h := Host.reduce_andi_all _ _ hr h0 j e i
  have h1 : cmpf .olt (Host.absf a) (broadcastInDim s ![] hb (constant S_ .f32 0x7F800000#32)) i = Ideal.cmp .olt (max (a i) (-(a i))) (Ideal.ofBits .f32 0x7F800000#32) := rfl
  rw [h1, infinity] at h
  have h2 : max (a i) (-(a i)) < ⊤ := by
    by_contra hn
    simp [Ideal.cmp, hn] at h
  rw [max_lt_iff] at h2
  refine (EReal.coe_toReal h2.1.ne fun hbot => ?_).symm
  rw [hbot] at h2
  exact absurd h2.2 (by simp)

/-- An array of words that are all at least 0 and below 100000 holds class numbers. -/
theorem range_all (a : IVec S64 32) (j : S_.Idx) (e1 : Host.reduce IntOp.andi (cmpi .sge a (broadcastInDim S64 ![] bcast_S_S64 (constantI S_ 32 0#32))) (constantI S_ 1 1#1) reducesTo_S64_S_d0 h_S_ j = 1#1)
    (e2 : Host.reduce IntOp.andi (cmpi .slt a (broadcastInDim S64 ![] bcast_S_S64 (constantI S_ 32 100000#32))) (constantI S_ 1 1#1) reducesTo_S64_S_d0 h_S_ j = 1#1) (i : S64.Idx) :
    (a i).toNat < 100000 := by
  have h1 := Host.reduce_andi_all _ _ reducesTo_S64_S_d0 h_S_ j e1 i
  have h2 := Host.reduce_andi_all _ _ reducesTo_S64_S_d0 h_S_ j e2 i
  have g1 : BitVec.ofBool ((0#32).sle (a i)) = 1#1 := h1
  have g2 : BitVec.ofBool ((a i).slt 100000#32) = 1#1 := h2
  have k1 : (0#32).sle (a i) = true := by
    cases hc : (0#32).sle (a i) with
    | true => rfl
    | false => rw [hc] at g1; exact absurd g1 (by decide)
  have k2 : (a i).slt 100000#32 = true := by
    cases hc : (a i).slt 100000#32 with
    | true => rfl
    | false => rw [hc] at g2; exact absurd g2 (by decide)
  simp only [BitVec.sle, BitVec.slt, decide_eq_true_eq] at k1 k2
  have e0 : (0#32).toInt = 0 := by decide
  have e3 : (100000#32).toInt = 100000 := by decide
  rw [e0] at k1
  rw [e3] at k2
  have := BitVec.toInt_eq_toNat_cond (a i)
  have hlt := (a i).isLt
  split at this <;> omega

/-- The precondition gives the real numbers the arguments hold. -/
theorem of_pre (a0 : FVec Ideal S64x64 .f32) (a1 : FVec Ideal S64x64x1x1 .f32) (a2 : IVec S64 32) (a3 : FVec Ideal S100000x64x1x1 .f32) (a4 : FVec Ideal S64x128 .f32) (a5 : FVec Ideal S128 .f32)
    (a6 : FVec Ideal S128x100000 .f32) (a7 : FVec Ideal S100000 .f32) (h : Cert.Pre_finite_and_in_range.fn (F := Ideal) a0 a1 a2 a3 a4 a5 a6 a7 = fun _ => 1#1) :
    ∃ x X T P w1 b1 w2 b2, Inputs a0 a1 a2 a3 a4 a5 a6 a7 x X T P w1 b1 w2 b2 := by
  have e := congrFun h ix0
  unfold Cert.Pre_finite_and_in_range.fn fn_part1 fn_part2 at e
  obtain ⟨e, c2⟩ := both e
  obtain ⟨e, c1⟩ := both e
  obtain ⟨e, f7⟩ := both e
  obtain ⟨e, f6⟩ := both e
  obtain ⟨e, f5⟩ := both e
  obtain ⟨e, f4⟩ := both e
  obtain ⟨e, f3⟩ := both e
  obtain ⟨f0, f1⟩ := both e
  refine ⟨fun b c => (a0 (ix2 b c)).toReal, fun j d => if hj : j < 64 then (a1 (ix4 ⟨j, hj⟩ d 0 0)).toReal else 0, fun j => if hj : j < 64 then (a2 (ix1 ⟨j, hj⟩)).toNat else 0,
    fun r d => if hr : r < 100000 then (a3 (ix4 ⟨r, hr⟩ d 0 0)).toReal else 0, fun c k => (a4 (ix2 c k)).toReal, fun k => (a5 (ix1 k)).toReal,
    fun k r => if hr : r < 100000 then (a6 (ix2 k ⟨r, hr⟩)).toReal else 0, fun r => if hr : r < 100000 then (a7 (ix1 ⟨r, hr⟩)).toReal else 0,
    fun b c => finite_all a0 _ _ _ _ f0 _, fun j d => ?_, fun j => ?_, fun j => ?_, fun r d => ?_, fun c k => finite_all a4 _ _ _ _ f4 _, fun k => finite_all a5 _ _ _ _ f5 _, fun k r => ?_, fun r => ?_⟩
  · rw [dif_pos j.isLt]; exact finite_all a1 _ _ _ _ f1 _
  · rw [dif_pos j.isLt]; exact (BitVec.eq_of_toNat_eq (by rw [BitVec.toNat_ofNat, Nat.mod_eq_of_lt (a2 (ix1 j)).isLt])).symm
  · rw [dif_pos j.isLt]; exact range_all a2 _ c1 c2 _
  · rw [dif_pos r.isLt]; exact finite_all a3 _ _ _ _ f3 _
  · rw [dif_pos r.isLt]; exact finite_all a6 _ _ _ _ f6 _
  · rw [dif_pos r.isLt]; exact finite_all a7 _ _ _ _ f7 _

end Cert.StreamMath

end
-- ==== Proof.StreamFinal.lean ====
/- The stream program's run, and that on finite inputs it leaves what its reference leaves. -/
module

public import proofs.«01_k».proof.Proof.StreamHost
public import proofs.«01_k».proof.Proof.StreamRefValue
public import proofs.«01_k».proof.Proof.StreamPre

@[expose] public section

set_option maxRecDepth 16384

noncomputable section

namespace Cert.StreamIdeal.Final

open Cert.StreamIdeal Cert.StreamIdeal.Gen Cert.StreamIdeal.Run Cert.StreamMath
open Idealize.ShloMosaic Idealize.ShloMosaic.TcCoe Idealize.SL.Sem

variable (m : (ℓ : Loc nD τ sig) → Buf (Elt Ideal) ℓ) (ρ : Dev nD → PrngReg)

/-- The first result: the output block after the last step. -/
def mixed (c : Dev nD) : Vec Ideal S64x64x1x1 .f32 := shapeCast S64x64x1x1 (outAt m c t0_6) shapeCasts_S64x64_S64x64x1x1
/-- The second result: the loss after the last step. -/
def lost (c : Dev nD) : Vec Ideal S_ .f32 := shapeCast S_ (lossAt m c t0_6) shapeCasts_S1x1_S_

/-- Every execution ends with the two results, the arguments unchanged and every semaphore at zero. -/
theorem run : θ_run defs (onTc (τ := τ) (main (F := Ideal))) ⟨m, fun _ => 0, ρ⟩ (fun r => r.2.sem = (fun _ => 0) ∧ ∀ c : Dev nD,
      r.2.mem ((c.tc : Thread nD τ).loc main_v14) = mixed m c
      ∧ r.2.mem ((c.tc : Thread nD τ).loc main_v15) = lost m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h => ⟨h.2, fun c => ⟨((h.1 c).2 main_v14 (Pipeline.mem_restRefs_of main_v14 (by decide) (by decide))).trans (result14 m c),
    ((h.1 c).2 main_v15 (Pipeline.mem_restRefs_of main_v15 (by decide) (by decide))).trans (result15 m c),
    ((h.1 c).1 0).trans (((dats m 0 c).arrAt_in 0 rfl _).trans ((A_eq m c 0).trans (V_main_arg0 m c))),
    ((h.1 c).2 main_arg1 (Pipeline.mem_restRefs_of main_arg1 (by decide) (by decide))).trans (W_main_arg1 m (dats m) c),
    ((h.1 c).2 main_arg2 (Pipeline.mem_restRefs_of main_arg2 (by decide) (by decide))).trans (W_main_arg2 m (dats m) c),
    ((h.1 c).2 main_arg3 (Pipeline.mem_restRefs_of main_arg3 (by decide) (by decide))).trans (W_main_arg3 m (dats m) c),
    ((h.1 c).1 1).trans (((dats m 0 c).arrAt_in 1 rfl _).trans ((A_eq m c 1).trans (V_main_arg4 m c))),
    ((h.1 c).2 main_arg5 (Pipeline.mem_restRefs_of main_arg5 (by decide) (by decide))).trans (W_main_arg5 m (dats m) c),
    ((h.1 c).1 3).trans (((dats m 0 c).arrAt_in 3 rfl _).trans ((A_eq m c 3).trans (V_main_arg6 m c))),
    ((h.1 c).2 main_arg7 (Pipeline.mem_restRefs_of main_arg7 (by decide) (by decide))).trans (W_main_arg7 m (dats m) c)⟩⟩) (run_main m ρ)

theorem mixed_entry {α : Type} (o : S64x64.Idx → α) (b d : Fin 64) : shapeCast S64x64x1x1 o shapeCasts_S64x64_S64x64x1x1 (ix4 b d 0 0) = o (ix2 b d) := by pointwise
theorem lost_entry {α : Type} (o : S1x1.Idx → α) (i : S_.Idx) : shapeCast S_ o shapeCasts_S1x1_S_ i = o (ix2 0 0) := by pointwise

variable (m' : (ℓ : Loc Cert.StreamReferenceIdeal.nD Cert.StreamReferenceIdeal.τ Cert.StreamReferenceIdeal.sig) → Buf (Elt Ideal) ℓ) (c : Dev nD)
  {x : Fin 64 → Fin 64 → ℝ} {X : ℕ → Fin 64 → ℝ} {T : ℕ → ℕ} {P : ℕ → Fin 64 → ℝ} {w1 : Fin 64 → Fin 128 → ℝ} {b1 : Fin 128 → ℝ}
  {w2 : Fin 128 → ℕ → ℝ} {b2 : ℕ → ℝ}
  (I : Inputs (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) x X T P w1 b1 w2 b2)
  (J : Inputs (m' ((c.tc : Thread Cert.StreamReferenceIdeal.nD Cert.StreamReferenceIdeal.τ).loc Cert.StreamReferenceIdeal.main_arg0)) (m' ((c.tc : Thread Cert.StreamReferenceIdeal.nD Cert.StreamReferenceIdeal.τ).loc Cert.StreamReferenceIdeal.main_arg1))
    (m' ((c.tc : Thread Cert.StreamReferenceIdeal.nD Cert.StreamReferenceIdeal.τ).loc Cert.StreamReferenceIdeal.main_arg2)) (m' ((c.tc : Thread Cert.StreamReferenceIdeal.nD Cert.StreamReferenceIdeal.τ).loc Cert.StreamReferenceIdeal.main_arg3))
    (m' ((c.tc : Thread Cert.StreamReferenceIdeal.nD Cert.StreamReferenceIdeal.τ).loc Cert.StreamReferenceIdeal.main_arg4)) (m' ((c.tc : Thread Cert.StreamReferenceIdeal.nD Cert.StreamReferenceIdeal.τ).loc Cert.StreamReferenceIdeal.main_arg5))
    (m' ((c.tc : Thread Cert.StreamReferenceIdeal.nD Cert.StreamReferenceIdeal.τ).loc Cert.StreamReferenceIdeal.main_arg6)) (m' ((c.tc : Thread Cert.StreamReferenceIdeal.nD Cert.StreamReferenceIdeal.τ).loc Cert.StreamReferenceIdeal.main_arg7)) x X T P w1 b1 w2 b2)

include I J

/-- The first results agree: the softmax's mix of the class memory after all sixty-four updates, plus the item's own row. -/
theorem first_agree : Cert.StreamReferenceIdeal.Value.out_main_v47 (Cert.StreamReferenceIdeal.Value.STEP^[64] (Idealize.ShloMosaic.StableHlo.entryContents Cert.StreamReferenceIdeal.Value.preI m' c)) = mixed m c := by
  obtain ⟨-, -, -, hp⟩ := Cert.StreamReferenceIdeal.Loop.after_items m' c J 64 le_rfl
  rw [Cert.StreamReferenceIdeal.Out.out47_eq _ _ rfl]
  simp only [Cert.StreamReferenceIdeal.Value.iter_main_arg0, Cert.StreamReferenceIdeal.Value.iter_main_arg1, Cert.StreamReferenceIdeal.Value.iter_main_arg4,
    Cert.StreamReferenceIdeal.Value.iter_main_arg5, Cert.StreamReferenceIdeal.Value.iter_main_arg6, Cert.StreamReferenceIdeal.Value.iter_main_arg7]
  funext j
  obtain ⟨b, d, e, f, rfl⟩ : ∃ (b d : Fin 64) (e f : Fin 1), j = ix4 b d e f :=
    ⟨j 0, j 1, j 2, j 3, funext fun a => by match a with | ⟨0, _⟩ => rfl | ⟨1, _⟩ => rfl | ⟨2, _⟩ => rfl | ⟨3, _⟩ => rfl⟩
  obtain rfl : e = 0 := Subsingleton.elim _ _
  obtain rfl : f = 0 := Subsingleton.elim _ _
  refine (Cert.StreamReferenceIdeal.Out.first J _ rfl _ (fun r d => mem T (fun k => X k d) (fun r => P r d) 64 r) hp b d).trans ?_
  exact ((mixed_entry _ b d).trans (Cert.StreamIdeal.Host.out_read I b d)).symm

/-- The second results agree: the mean cross-entropy. -/
theorem second_agree : Cert.StreamReferenceIdeal.Value.out_main_v46 (Cert.StreamReferenceIdeal.Value.STEP^[64] (Idealize.ShloMosaic.StableHlo.entryContents Cert.StreamReferenceIdeal.Value.preI m' c)) = lost m c := by
  refine (Cert.StreamReferenceIdeal.Out.out46_eq _ _ rfl).trans ?_
  rw [Cert.StreamReferenceIdeal.Value.iter_main_arg0, Cert.StreamReferenceIdeal.Value.iter_main_arg2, Cert.StreamReferenceIdeal.Value.iter_main_arg4, Cert.StreamReferenceIdeal.Value.iter_main_arg5, Cert.StreamReferenceIdeal.Value.iter_main_arg6, Cert.StreamReferenceIdeal.Value.iter_main_arg7]
  funext i
  refine (Cert.StreamReferenceIdeal.Out.second J _ rfl i).trans ?_
  exact ((lost_entry _ i).trans (Cert.StreamIdeal.Host.loss_read I)).symm

end Cert.StreamIdeal.Final

end
-- ==== Proof.GatherIdealBody.lean ====
/- The gather kernel's body at a grid point: from sixteen blocks of eight rows it takes one row each, the row its word of
   the prefetched table names, into the sixteen rows of its result block. -/
module

public import proofs.«01_k».proof.Proof.Gen.GatherIdeal.Skeleton
public import Idealize.ShloMosaic.Lib.Tactic
public import Idealize.ShloMosaic.Lib.VecWindow
public import Idealize.ShloMosaic.Lib.WholeRead
public import Idealize.ShloMosaic.Lib.ValueIdx
public import Idealize.ShloMosaic.Lib.ValueLayoutCasts
public import Idealize.ShloMosaic.Lib.Pointwise
public import Idealize.ShloMosaic.Lib.WritesUnit
public import Idealize.ShloMosaic.Lib.Routing.Words
public import Idealize.ShloMosaic.Lib.Pipeline.FrameSuffix

@[expose] public section

set_option maxRecDepth 16384

noncomputable section

namespace Cert.GatherIdeal.Body

open Cert.GatherIdeal Cert.GatherIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A word that is not negative, read modulo eight as the kernel does, is its remainder. -/
theorem off_mod (v : BitVec 32) (hv : v.toNat < 2 ^ 31) : k0_off2 v = ![v.toNat % 8, 0] := by
  obtain ⟨n, hn, rfl⟩ : ∃ n : Nat, n < 2 ^ 31 ∧ v = BitVec.ofNat 32 n := ⟨v.toNat, hv, by simp⟩
  have hr : Scalar.remsi (BitVec.ofNat 32 n) 8#32 = BitVec.ofNat 32 (n % 8) := Routing.remsi_word _ hn (by decide) (by decide)
  have h8 : n % 8 < 8 := Nat.mod_lt _ (by decide)
  have hm : (BitVec.ofNat 32 n).toNat = n := by rw [BitVec.toNat_ofNat]; exact Nat.mod_eq_of_lt (by omega)
  unfold k0_off2; dsimp only
  rw [show Scalar.select (Scalar.cmpi .eq 8#32 0#32) 1#32 8#32 = 8#32 from by decide, hr, hm]
  generalize n % 8 = k at h8
  revert k; decide

/-- So the row read is inside the block of eight rows. -/
theorem chk_of (v : BitVec 32) (hv : v.toNat < 2 ^ 31) : ∀ a, (k0_off2 v) a + S1x64.size a ≤ S8x64.size a := by
  rw [off_mod v hv]
  have h8 : v.toNat % 8 < 8 := Nat.mod_lt _ (by decide)
  generalize v.toNat % 8 = k at h8
  revert k; decide

/-- A word read from the table is one of its words. -/
theorem read_lt {m : Memref sig .tc .smem S64 .i32} (h : m.IsWhole) (T : Vec F S64 .i32) (hT : ∀ k, (T k).toNat < 2 ^ 31) (B : LoadRect S64) (y : B.shape.Idx) :
    BitVec.toNat (m.view.readAt (Elt F) B (h.unread T) y) < 2 ^ 31 := by
  rw [h.readAt_unread]; exact hT _

/-- The word of the table for row `j` of the block at a point. -/
def word (i : grid0.Coords) (T : Vec F S64 .i32) (j : Fin 16) : BitVec 32 :=
  T (Rect.emb (Rect.unit (s := S64) (k0_off1 i (BitVec.ofNat 32 j.val)) S1.size (k0_off1_inb i j)) (Shape.Idx.first (numel1_S1.symm ▸ Nat.one_pos)))

/-- The block the body leaves: row `j` is the row of block `j` that the table's word for it names. -/
def outBlock (i : grid0.Coords) (T : Vec F S64 .i32) (x : Fin 16 → Vec F S8x64 .f32) : Vec F S1x16x64 .f32 :=
  fun y => x (y 1) (ix2 ⟨(word i T (y 1)).toNat % 8, Nat.mod_lt _ (by decide)⟩ (y 2))

/-- The block at row `j`, column `k`. -/
theorem outBlock_at (i : grid0.Coords) (T : Vec F S64 .i32) (x : Fin 16 → Vec F S8x64 .f32) (y : S1x16x64.Idx) (j : Fin 16) (k : Fin 64)
    (h1 : y 1 = j) (h2 : y 2 = k) : outBlock i T x y = x j (ix2 ⟨(word i T j).toNat % 8, Nat.mod_lt _ (by decide)⟩ k) := by
  subst h1; subst h2; rfl

/-- After a list of stores that each put a function's values where it has them, an element one of them covers reads that function. -/
theorem read_of_pieces {κ : Kind} {sp : Space} {s : Shape} {e : EltTy} (v : View sig κ sp s e) (f : v.ty.Contents (Elt F)) (G : s.Idx → Elt F e) (y : s.Idx) :
    ∀ L : List (View.Piece (Elt F) s e), (∀ p ∈ L, ∀ z, p.2 z = G (p.1.emb z)) → (∃ p ∈ L, y ∈ p.1.set) →
      v.read (Elt F) (v.writes (Elt F) f L) y = G y
  | [], _, h => by obtain ⟨_, hm, _⟩ := h; exact absurd hm List.not_mem_nil
  | p :: L, hG, h => by
    by_cases hy : y ∈ p.1.set
    · obtain ⟨z, rfl⟩ : ∃ z, p.1.emb z = y := p.1.exists_idx_of_mem hy
      exact (View.read_writes_cons_emb v f p.1 p.2 L z).trans (hG p List.mem_cons_self z)
    · have hy' : y ∉ Finset.univ.map p.1.emb := by rwa [Rect.map_emb_univ]
      rw [View.writes_cons, View.read_slice_write_of_not_mem p.1 _ _ _ hy']
      refine read_of_pieces v f G y L (fun q hq => hG q (List.mem_cons_of_mem _ hq)) ?_
      obtain ⟨q, hq, hyq⟩ := h
      rcases List.mem_cons.mp hq with rfl | hq
      · exact absurd hyq hy
      · exact ⟨q, hq, hyq⟩

/-- An index whose row is `j` is in row `j` of the block. -/
theorem mem_row (y : S1x16x64.Idx) (j : ℕ) (h : (y 1).val = j) (inb : ∀ a, (![0, j, 0] : Fin 3 → ℕ) a + S1x1x64.size a ≤ S1x16x64.size a) :
    y ∈ (Rect.unit (s := S1x16x64) ![0, j, 0] S1x1x64.size inb).set := by
  rw [Rect.mem_set_unit]
  intro a
  match a with
  | ⟨0, _⟩ => exact ⟨Nat.zero_le _, by show (y 0).val < 0 + 1; exact (y 0).isLt⟩
  | ⟨1, _⟩ => exact ⟨by show j ≤ (y 1).val; omega, by show (y 1).val < j + 1; omega⟩
  | ⟨2, _⟩ => exact ⟨Nat.zero_le _, by show (y 2).val < 0 + 64; rw [Nat.zero_add]; exact (y 2).isLt⟩

/-- A row stored as a block of one row of one block keeps its entries. -/
theorem pay_at (v : Vec F S1x64 .f32) (k : Fin 64) : k0_pay2 v (ix3 (0 : Fin 1) (0 : Fin 1) k) = v (ix2 (0 : Fin 1) k) := by
  unfold k0_pay2; pointwise

/-- What is stored in row `j` is that row of the block. -/
theorem piece (j : Fin 16) (i : grid0.Coords) (T : Vec F S64 .i32) (x : Fin 16 → Vec F S8x64 .f32) (wd : BitVec 32) (hw : wd = word i T j)
    (hlt : wd.toNat < 2 ^ 31) {m : Memref sig .tc .vmem S8x64 .f32} (h : m.IsWhole) (inb) (v : Vec F S1x64 .f32)
    (hv : v = m.view.readAt (Elt F) (Rect.unit (s := S8x64) (k0_off2 wd) S1x64.size inb).toLoadRect (h.unread (x j)))
    (inb' : ∀ a, (![0, j.val, 0] : Fin 3 → ℕ) a + S1x1x64.size a ≤ S1x16x64.size a) (z : S1x1x64.Idx) :
    k0_pay2 v z = outBlock i T x ((Rect.unit (s := S1x16x64) ![0, j.val, 0] S1x1x64.size inb').emb z) := by
  subst hw
  have h1 : k0_pay2 v z = v (ix2 (0 : Fin 1) (z 2 : Fin 64)) := by
    have e : z = ix3 (0 : Fin 1) (0 : Fin 1) (z 2 : Fin 64) := by
      funext a
      match a with
      | ⟨0, _⟩ => exact Subsingleton.elim (α := Fin 1) _ _
      | ⟨1, _⟩ => exact Subsingleton.elim (α := Fin 1) _ _
      | ⟨2, _⟩ => rfl
    exact (congrArg (k0_pay2 v) e).trans (pay_at v (z 2))
  have hz : ((Rect.unit (s := S1x16x64) ![0, j.val, 0] S1x1x64.size inb').emb z) 1 = j := by
    apply Fin.ext; show j.val + 1 * (z 1).val = j.val
    have : (z 1).val < 1 := (z 1).isLt
    omega
  have hz2 : ((Rect.unit (s := S1x16x64) ![0, j.val, 0] S1x1x64.size inb').emb z) 2 = z 2 := by
    apply Fin.ext; show 0 + 1 * (z 2).val = (z 2).val
    omega
  rw [h1, hv, h.readAt_unread, outBlock_at i T x _ j (z 2) hz hz2]
  congr 1
  funext a
  apply Fin.ext
  match a with
  | ⟨0, _⟩ => show k0_off2 (word i T j) 0 + 1 * 0 = _; rw [off_mod _ hlt]; rfl
  | ⟨1, _⟩ => show k0_off2 (word i T j) 1 + 1 * (z 2).val = _; rw [off_mod _ hlt]; show 0 + 1 * (z 2).val = (z 2).val; omega

set_option maxHeartbeats 8000000 in
/-- The body runs to its return and leaves that block. -/
theorem run_body (c : Dev nD) (i : grid0.Coords) (arg1 : Memref sig .tc .smem S64 .i32) (harg1 : arg1.IsWhole) (arg2 : Memref sig .tc .vmem S8x64 .f32) (harg2 : arg2.IsWhole) (arg3 : Memref sig .tc .vmem S8x64 .f32) (harg3 : arg3.IsWhole) (arg4 : Memref sig .tc .vmem S8x64 .f32) (harg4 : arg4.IsWhole) (arg5 : Memref sig .tc .vmem S8x64 .f32) (harg5 : arg5.IsWhole) (arg6 : Memref sig .tc .vmem S8x64 .f32) (harg6 : arg6.IsWhole) (arg7 : Memref sig .tc .vmem S8x64 .f32) (harg7 : arg7.IsWhole) (arg8 : Memref sig .tc .vmem S8x64 .f32) (harg8 : arg8.IsWhole) (arg9 : Memref sig .tc .vmem S8x64 .f32) (harg9 : arg9.IsWhole) (arg10 : Memref sig .tc .vmem S8x64 .f32) (harg10 : arg10.IsWhole) (arg11 : Memref sig .tc .vmem S8x64 .f32) (harg11 : arg11.IsWhole) (arg12 : Memref sig .tc .vmem S8x64 .f32) (harg12 : arg12.IsWhole) (arg13 : Memref sig .tc .vmem S8x64 .f32) (harg13 : arg13.IsWhole) (arg14 : Memref sig .tc .vmem S8x64 .f32) (harg14 : arg14.IsWhole) (arg15 : Memref sig .tc .vmem S8x64 .f32) (harg15 : arg15.IsWhole) (arg16 : Memref sig .tc .vmem S8x64 .f32) (harg16 : arg16.IsWhole) (arg17 : Memref sig .tc .vmem S8x64 .f32) (harg17 : arg17.IsWhole) (arg18 : Memref sig .tc .vmem S1x16x64 .f32) (harg18 : arg18.IsWhole)
    (q : PosShare TreeShare) (T : Vec F S64 .i32) (hT : ∀ k, (T k).toNat < 2 ^ 31) (x : Fin 16 → Vec F S8x64 .f32) (old : Vec F S1x16x64 .f32)
    (E : Set ℕ) (K : PUnit → sProp 𝕄) :
    iprop(owns (c : Thread nD τ) arg1 q T ∗ owns (c : Thread nD τ) arg2 fullShare (x 0) ∗ owns (c : Thread nD τ) arg3 fullShare (x 1) ∗ owns (c : Thread nD τ) arg4 fullShare (x 2) ∗ owns (c : Thread nD τ) arg5 fullShare (x 3) ∗ owns (c : Thread nD τ) arg6 fullShare (x 4) ∗ owns (c : Thread nD τ) arg7 fullShare (x 5) ∗ owns (c : Thread nD τ) arg8 fullShare (x 6) ∗ owns (c : Thread nD τ) arg9 fullShare (x 7) ∗ owns (c : Thread nD τ) arg10 fullShare (x 8) ∗ owns (c : Thread nD τ) arg11 fullShare (x 9) ∗ owns (c : Thread nD τ) arg12 fullShare (x 10) ∗ owns (c : Thread nD τ) arg13 fullShare (x 11) ∗ owns (c : Thread nD τ) arg14 fullShare (x 12) ∗ owns (c : Thread nD τ) arg15 fullShare (x 13) ∗ owns (c : Thread nD τ) arg16 fullShare (x 14) ∗ owns (c : Thread nD τ) arg17 fullShare (x 15) ∗ owns (c : Thread nD τ) arg18 fullShare old
        ∗ (iprop(owns (c : Thread nD τ) arg1 q T ∗ owns (c : Thread nD τ) arg2 fullShare (x 0) ∗ owns (c : Thread nD τ) arg3 fullShare (x 1) ∗ owns (c : Thread nD τ) arg4 fullShare (x 2) ∗ owns (c : Thread nD τ) arg5 fullShare (x 3) ∗ owns (c : Thread nD τ) arg6 fullShare (x 4) ∗ owns (c : Thread nD τ) arg7 fullShare (x 5) ∗ owns (c : Thread nD τ) arg8 fullShare (x 6) ∗ owns (c : Thread nD τ) arg9 fullShare (x 7) ∗ owns (c : Thread nD τ) arg10 fullShare (x 8) ∗ owns (c : Thread nD τ) arg11 fullShare (x 9) ∗ owns (c : Thread nD τ) arg12 fullShare (x 10) ∗ owns (c : Thread nD τ) arg13 fullShare (x 11) ∗ owns (c : Thread nD τ) arg14 fullShare (x 12) ∗ owns (c : Thread nD τ) arg15 fullShare (x 13) ∗ owns (c : Thread nD τ) arg16 fullShare (x 14) ∗ owns (c : Thread nD τ) arg17 fullShare (x 15) ∗ owns (c : Thread nD τ) arg18 fullShare (outBlock i T x)) -∗ K ⟨⟩))
      ⊢ wp frame (wpE (defs₀ (F := F)) Variants.none c none) E (cc0__gather_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__gather_kernel_eq_skeleton]; unfold cc0__gather_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
  sl_exec (disch := exact chk_of _ (by sl_unfold_run_names; exact read_lt harg1 T hT _ _))
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro; exact harg15.read_unread _
  isplitl [H16]
  · iexists _; isplitr; swap; · iexact H16
    ipureintro; exact harg16.read_unread _
  isplitl [H17]
  · iexists _; isplitr; swap; · iexact H17
    ipureintro; exact harg17.read_unread _
  iexists _; isplitr; swap; · iexact H18
  ipureintro
  funext y
  refine read_of_pieces _ _ (outBlock i T x) y _ ?_ ?_
  · sl_unfold_run_names
    simp only [List.forall_mem_cons]
    refine ⟨fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun p hp => absurd hp List.not_mem_nil⟩
    · exact piece 15 i T x _ (harg1.readAt_unread T _ _) (read_lt harg1 T hT _ _) harg17 _ _ rfl _ z
    · exact piece 14 i T x _ (harg1.readAt_unread T _ _) (read_lt harg1 T hT _ _) harg16 _ _ rfl _ z
    · exact piece 13 i T x _ (harg1.readAt_unread T _ _) (read_lt harg1 T hT _ _) harg15 _ _ rfl _ z
    · exact piece 12 i T x _ (harg1.readAt_unread T _ _) (read_lt harg1 T hT _ _) harg14 _ _ rfl _ z
    · exact piece 11 i T x _ (harg1.readAt_unread T _ _) (read_lt harg1 T hT _ _) harg13 _ _ rfl _ z
    · exact piece 10 i T x _ (harg1.readAt_unread T _ _) (read_lt harg1 T hT _ _) harg12 _ _ rfl _ z
    · exact piece 9 i T x _ (harg1.readAt_unread T _ _) (read_lt harg1 T hT _ _) harg11 _ _ rfl _ z
    · exact piece 8 i T x _ (harg1.readAt_unread T _ _) (read_lt harg1 T hT _ _) harg10 _ _ rfl _ z
    · exact piece 7 i T x _ (harg1.readAt_unread T _ _) (read_lt harg1 T hT _ _) harg9 _ _ rfl _ z
    · exact piece 6 i T x _ (harg1.readAt_unread T _ _) (read_lt harg1 T hT _ _) harg8 _ _ rfl _ z
    · exact piece 5 i T x _ (harg1.readAt_unread T _ _) (read_lt harg1 T hT _ _) harg7 _ _ rfl _ z
    · exact piece 4 i T x _ (harg1.readAt_unread T _ _) (read_lt harg1 T hT _ _) harg6 _ _ rfl _ z
    · exact piece 3 i T x _ (harg1.readAt_unread T _ _) (read_lt harg1 T hT _ _) harg5 _ _ rfl _ z
    · exact piece 2 i T x _ (harg1.readAt_unread T _ _) (read_lt harg1 T hT _ _) harg4 _ _ rfl _ z
    · exact piece 1 i T x _ (harg1.readAt_unread T _ _) (read_lt harg1 T hT _ _) harg3 _ _ rfl _ z
    · exact piece 0 i T x _ (harg1.readAt_unread T _ _) (read_lt harg1 T hT _ _) harg2 _ _ rfl _ z
  · have hy : (y 1).val = 0 ∨ (y 1).val = 1 ∨ (y 1).val = 2 ∨ (y 1).val = 3 ∨ (y 1).val = 4 ∨ (y 1).val = 5 ∨ (y 1).val = 6 ∨ (y 1).val = 7 ∨ (y 1).val = 8 ∨ (y 1).val = 9 ∨ (y 1).val = 10 ∨ (y 1).val = 11 ∨ (y 1).val = 12 ∨ (y 1).val = 13 ∨ (y 1).val = 14 ∨ (y 1).val = 15 := by have : (y 1).val < 16 := (y 1).isLt; omega
    rcases hy with hy | hy | hy | hy | hy | hy | hy | hy | hy | hy | hy | hy | hy | hy | hy | hy
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), mem_row y 0 hy inb_S1x16x64_S1x1x64_0_0_0⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), mem_row y 1 hy inb_S1x16x64_S1x1x64_0_1_0⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), mem_row y 2 hy inb_S1x16x64_S1x1x64_0_2_0⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), mem_row y 3 hy inb_S1x16x64_S1x1x64_0_3_0⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), mem_row y 4 hy inb_S1x16x64_S1x1x64_0_4_0⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem_row y 5 hy inb_S1x16x64_S1x1x64_0_5_0⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem_row y 6 hy inb_S1x16x64_S1x1x64_0_6_0⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_row y 7 hy inb_S1x16x64_S1x1x64_0_7_0⟩
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_row y 8 hy inb_S1x16x64_S1x1x64_0_8_0⟩
    · exact ⟨_, (List.mem_cons_of_mem _ (List.mem_cons_of_mem _ (List.mem_cons_of_mem _ (List.mem_cons_of_mem _ (List.mem_cons_of_mem _ (List.mem_cons_of_mem _ List.mem_cons_self)))))), mem_row y 9 hy inb_S1x16x64_S1x1x64_0_9_0⟩
    · exact ⟨_, (List.mem_cons_of_mem _ (List.mem_cons_of_mem _ (List.mem_cons_of_mem _ (List.mem_cons_of_mem _ (List.mem_cons_of_mem _ List.mem_cons_self))))), mem_row y 10 hy inb_S1x16x64_S1x1x64_0_10_0⟩
    · exact ⟨_, (List.mem_cons_of_mem _ (List.mem_cons_of_mem _ (List.mem_cons_of_mem _ (List.mem_cons_of_mem _ List.mem_cons_self)))), mem_row y 11 hy inb_S1x16x64_S1x1x64_0_11_0⟩
    · exact ⟨_, (List.mem_cons_of_mem _ (List.mem_cons_of_mem _ (List.mem_cons_of_mem _ List.mem_cons_self))), mem_row y 12 hy inb_S1x16x64_S1x1x64_0_12_0⟩
    · exact ⟨_, (List.mem_cons_of_mem _ (List.mem_cons_of_mem _ List.mem_cons_self)), mem_row y 13 hy inb_S1x16x64_S1x1x64_0_13_0⟩
    · exact ⟨_, (List.mem_cons_of_mem _ List.mem_cons_self), mem_row y 14 hy inb_S1x16x64_S1x1x64_0_14_0⟩
    · exact ⟨_, List.mem_cons_self, mem_row y 15 hy inb_S1x16x64_S1x1x64_0_15_0⟩

end Cert.GatherIdeal.Body

end
-- ==== Proof.GatherIdealRun.lean ====
/- The gather call's run at any float values: the block index of each window at the classes, the blocks the body leaves,
   the run of the whole program, and its frame. -/
module

public import proofs.«01_k».proof.Proof.GatherIdealBody
public import proofs.«01_k».proof.Proof.Gen.GatherIdeal.Launch
public import Idealize.ShloMosaic.Lib.Pipeline.FrameBody
public import Idealize.ShloMosaic.Lib.Pipeline.FrameSuffix
public import Idealize.ShloMosaic.Lib.WordCmp

@[expose] public section

set_option maxRecDepth 16384

noncomputable section

namespace Cert.GatherIdeal.Run

open Cert.GatherIdeal Cert.GatherIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F] [Nonempty (F .f32)] [∀ e, Nonempty (Elt F e)]

local notation "𝕄" => MT nD τ sig Unit (Elt F) ℕ (UR sig nD τ) ℕ

/-! ## Block indices -/

/-- The floor division of a class by eight, in the words the index maps compute it with. -/
theorem floor_word (v : BitVec 32) (hv : v.toNat < 2 ^ 31) :
    (Scalar.select (Scalar.andi (Scalar.cmpi .ne
        (Scalar.subi (Scalar.extui (Scalar.cmpi .sgt v 0#32)) (Scalar.extui (Scalar.cmpi .slt v 0#32)))
        (Scalar.subi (Scalar.extui (Scalar.cmpi .sgt 8#32 0#32)) (Scalar.extui (Scalar.cmpi .slt 8#32 0#32))))
        (Scalar.cmpi .ne (Scalar.remsi v 8#32) 0#32))
      (Scalar.subi (Scalar.divsi v 8#32) 1#32) (Scalar.divsi v 8#32) : BitVec 32).toNat = v.toNat / 8 := by
  obtain ⟨n, hn, rfl⟩ : ∃ n : Nat, n < 2 ^ 31 ∧ v = BitVec.ofNat 32 n := ⟨v.toNat, hv, by simp⟩
  have hd : (Scalar.divsi (BitVec.ofNat 32 n) 8#32 : BitVec 32) = BitVec.ofNat 32 (n / 8) := Routing.divsi_word _ hn (by decide) (by decide)
  have hm : (BitVec.ofNat 32 n).toNat = n := by rw [BitVec.toNat_ofNat]; exact Nat.mod_eq_of_lt (by omega)
  have hm8 : (BitVec.ofNat 32 (n / 8)).toNat = n / 8 := by rw [BitVec.toNat_ofNat]; exact Nat.mod_eq_of_lt (by omega)
  rw [hd]
  by_cases h0 : n = 0
  · subst h0; decide
  · have hs : (Scalar.cmpi .sgt (BitVec.ofNat 32 n) 0#32 : BitVec 1) = 1#1 :=
      (WordCmp.cmpi_sgt_ofNat_eq_one_iff (w := 32) (a := n) (b := 0) hn (by decide)).mpr (by omega)
    have hl : (Scalar.cmpi .slt (BitVec.ofNat 32 n) 0#32 : BitVec 1) = 0#1 :=
      (WordCmp.cmpi_slt_ofNat_eq_zero_iff (w := 32) (a := n) (b := 0) hn (by decide)).mpr (by omega)
    rw [hs, hl, hm, show ∀ x : BitVec 1, Scalar.andi (Scalar.cmpi .ne (Scalar.subi (Scalar.extui (1#1 : BitVec 1)) (Scalar.extui (0#1 : BitVec 1)) : BitVec 32)
      (Scalar.subi (Scalar.extui (Scalar.cmpi .sgt 8#32 0#32)) (Scalar.extui (Scalar.cmpi .slt 8#32 0#32)))) x = 0#1 from by decide]
    exact hm8

/-- The block index a class names. -/
theorem floor_row (v : BitVec 32) (hv : v.toNat < 2 ^ 31) :
    (![(Scalar.select (Scalar.andi (Scalar.cmpi .ne
        (Scalar.subi (Scalar.extui (Scalar.cmpi .sgt v 0#32)) (Scalar.extui (Scalar.cmpi .slt v 0#32)))
        (Scalar.subi (Scalar.extui (Scalar.cmpi .sgt 8#32 0#32)) (Scalar.extui (Scalar.cmpi .slt 8#32 0#32))))
        (Scalar.cmpi .ne (Scalar.remsi v 8#32) 0#32))
      (Scalar.subi (Scalar.divsi v 8#32) 1#32) (Scalar.divsi v 8#32) : BitVec 32).toNat, (0#32 : BitVec 32).toNat] : Fin 2 → Nat) = ![v.toNat / 8, 0] := by
  rw [floor_word v hv]; rfl

/-- Window 0's block index: its class, over eight. -/
theorem tr0 (pf : pre0.Contents (Elt F)) (hT : ∀ k : S64.Idx, BitVec.toNat (pf 0 k) < 2 ^ 31) (i : grid0.Coords) :
    cc0_transform_0 k0_off1_inb numel1_S1 pf i = ![(Body.word i (pf 0) 0).toNat / 8, 0] := by
  unfold cc0_transform_0; dsimp only
  exact floor_row (Body.word i (pf 0) 0) (hT _)
/-- Window 1's block index: its class, over eight. -/
theorem tr1 (pf : pre0.Contents (Elt F)) (hT : ∀ k : S64.Idx, BitVec.toNat (pf 0 k) < 2 ^ 31) (i : grid0.Coords) :
    cc0_transform_1 k0_off1_inb numel1_S1 pf i = ![(Body.word i (pf 0) 1).toNat / 8, 0] := by
  unfold cc0_transform_1; dsimp only
  exact floor_row (Body.word i (pf 0) 1) (hT _)
/-- Window 2's block index: its class, over eight. -/
theorem tr2 (pf : pre0.Contents (Elt F)) (hT : ∀ k : S64.Idx, BitVec.toNat (pf 0 k) < 2 ^ 31) (i : grid0.Coords) :
    cc0_transform_2 k0_off1_inb numel1_S1 pf i = ![(Body.word i (pf 0) 2).toNat / 8, 0] := by
  unfold cc0_transform_2; dsimp only
  exact floor_row (Body.word i (pf 0) 2) (hT _)
/-- Window 3's block index: its class, over eight. -/
theorem tr3 (pf : pre0.Contents (Elt F)) (hT : ∀ k : S64.Idx, BitVec.toNat (pf 0 k) < 2 ^ 31) (i : grid0.Coords) :
    cc0_transform_3 k0_off1_inb numel1_S1 pf i = ![(Body.word i (pf 0) 3).toNat / 8, 0] := by
  unfold cc0_transform_3; dsimp only
  exact floor_row (Body.word i (pf 0) 3) (hT _)
/-- Window 4's block index: its class, over eight. -/
theorem tr4 (pf : pre0.Contents (Elt F)) (hT : ∀ k : S64.Idx, BitVec.toNat (pf 0 k) < 2 ^ 31) (i : grid0.Coords) :
    cc0_transform_4 k0_off1_inb numel1_S1 pf i = ![(Body.word i (pf 0) 4).toNat / 8, 0] := by
  unfold cc0_transform_4; dsimp only
  exact floor_row (Body.word i (pf 0) 4) (hT _)
/-- Window 5's block index: its class, over eight. -/
theorem tr5 (pf : pre0.Contents (Elt F)) (hT : ∀ k : S64.Idx, BitVec.toNat (pf 0 k) < 2 ^ 31) (i : grid0.Coords) :
    cc0_transform_5 k0_off1_inb numel1_S1 pf i = ![(Body.word i (pf 0) 5).toNat / 8, 0] := by
  unfold cc0_transform_5; dsimp only
  exact floor_row (Body.word i (pf 0) 5) (hT _)
/-- Window 6's block index: its class, over eight. -/
theorem tr6 (pf : pre0.Contents (Elt F)) (hT : ∀ k : S64.Idx, BitVec.toNat (pf 0 k) < 2 ^ 31) (i : grid0.Coords) :
    cc0_transform_6 k0_off1_inb numel1_S1 pf i = ![(Body.word i (pf 0) 6).toNat / 8, 0] := by
  unfold cc0_transform_6; dsimp only
  exact floor_row (Body.word i (pf 0) 6) (hT _)
/-- Window 7's block index: its class, over eight. -/
theorem tr7 (pf : pre0.Contents (Elt F)) (hT : ∀ k : S64.Idx, BitVec.toNat (pf 0 k) < 2 ^ 31) (i : grid0.Coords) :
    cc0_transform_7 k0_off1_inb numel1_S1 pf i = ![(Body.word i (pf 0) 7).toNat / 8, 0] := by
  unfold cc0_transform_7; dsimp only
  exact floor_row (Body.word i (pf 0) 7) (hT _)
/-- Window 8's block index: its class, over eight. -/
theorem tr8 (pf : pre0.Contents (Elt F)) (hT : ∀ k : S64.Idx, BitVec.toNat (pf 0 k) < 2 ^ 31) (i : grid0.Coords) :
    cc0_transform_8 k0_off1_inb numel1_S1 pf i = ![(Body.word i (pf 0) 8).toNat / 8, 0] := by
  unfold cc0_transform_8; dsimp only
  exact floor_row (Body.word i (pf 0) 8) (hT _)
/-- Window 9's block index: its class, over eight. -/
theorem tr9 (pf : pre0.Contents (Elt F)) (hT : ∀ k : S64.Idx, BitVec.toNat (pf 0 k) < 2 ^ 31) (i : grid0.Coords) :
    cc0_transform_9 k0_off1_inb numel1_S1 pf i = ![(Body.word i (pf 0) 9).toNat / 8, 0] := by
  unfold cc0_transform_9; dsimp only
  exact floor_row (Body.word i (pf 0) 9) (hT _)
/-- Window 10's block index: its class, over eight. -/
theorem tr10 (pf : pre0.Contents (Elt F)) (hT : ∀ k : S64.Idx, BitVec.toNat (pf 0 k) < 2 ^ 31) (i : grid0.Coords) :
    cc0_transform_10 k0_off1_inb numel1_S1 pf i = ![(Body.word i (pf 0) 10).toNat / 8, 0] := by
  unfold cc0_transform_10; dsimp only
  exact floor_row (Body.word i (pf 0) 10) (hT _)
/-- Window 11's block index: its class, over eight. -/
theorem tr11 (pf : pre0.Contents (Elt F)) (hT : ∀ k : S64.Idx, BitVec.toNat (pf 0 k) < 2 ^ 31) (i : grid0.Coords) :
    cc0_transform_11 k0_off1_inb numel1_S1 pf i = ![(Body.word i (pf 0) 11).toNat / 8, 0] := by
  unfold cc0_transform_11; dsimp only
  exact floor_row (Body.word i (pf 0) 11) (hT _)
/-- Window 12's block index: its class, over eight. -/
theorem tr12 (pf : pre0.Contents (Elt F)) (hT : ∀ k : S64.Idx, BitVec.toNat (pf 0 k) < 2 ^ 31) (i : grid0.Coords) :
    cc0_transform_12 k0_off1_inb numel1_S1 pf i = ![(Body.word i (pf 0) 12).toNat / 8, 0] := by
  unfold cc0_transform_12; dsimp only
  exact floor_row (Body.word i (pf 0) 12) (hT _)
/-- Window 13's block index: its class, over eight. -/
theorem tr13 (pf : pre0.Contents (Elt F)) (hT : ∀ k : S64.Idx, BitVec.toNat (pf 0 k) < 2 ^ 31) (i : grid0.Coords) :
    cc0_transform_13 k0_off1_inb numel1_S1 pf i = ![(Body.word i (pf 0) 13).toNat / 8, 0] := by
  unfold cc0_transform_13; dsimp only
  exact floor_row (Body.word i (pf 0) 13) (hT _)
/-- Window 14's block index: its class, over eight. -/
theorem tr14 (pf : pre0.Contents (Elt F)) (hT : ∀ k : S64.Idx, BitVec.toNat (pf 0 k) < 2 ^ 31) (i : grid0.Coords) :
    cc0_transform_14 k0_off1_inb numel1_S1 pf i = ![(Body.word i (pf 0) 14).toNat / 8, 0] := by
  unfold cc0_transform_14; dsimp only
  exact floor_row (Body.word i (pf 0) 14) (hT _)
/-- Window 15's block index: its class, over eight. -/
theorem tr15 (pf : pre0.Contents (Elt F)) (hT : ∀ k : S64.Idx, BitVec.toNat (pf 0 k) < 2 ^ 31) (i : grid0.Coords) :
    cc0_transform_15 k0_off1_inb numel1_S1 pf i = ![(Body.word i (pf 0) 15).toNat / 8, 0] := by
  unfold cc0_transform_15; dsimp only
  exact floor_row (Body.word i (pf 0) 15) (hT _)

/-- A block of eight rows that a class in range names lies in the table of rows. -/
theorem blk_in (v : BitVec 32) (hv : v.toNat < 100000) (a : Fin 2) : ((![v.toNat / 8, 0] : Fin 2 → Nat) a + 1) * S8x64.size a ≤ S100000x64.size a := by
  match a with
  | ⟨0, _⟩ => show (v.toNat / 8 + 1) * 8 ≤ 100000; omega
  | ⟨1, _⟩ => show (0 + 1) * 64 ≤ 64; omega

/-- Classes in range are admissible table contents: every window's block lies in the array. -/
theorem ok_of (pf : pre0.Contents (Elt F)) (hT : ∀ k : S64.Idx, BitVec.toNat (pf 0 k) < 100000) : ok0 pf := by
  have hT' : ∀ k : S64.Idx, BitVec.toNat (pf 0 k) < 2 ^ 31 := fun k => lt_trans (hT k) (by decide)
  refine ⟨fun i => ⟨fun a => by rw [tr0 pf hT' i]; exact blk_in _ (hT _) a, .inl rfl⟩,
    fun i => ⟨fun a => by rw [tr1 pf hT' i]; exact blk_in _ (hT _) a, .inl rfl⟩,
    fun i => ⟨fun a => by rw [tr2 pf hT' i]; exact blk_in _ (hT _) a, .inl rfl⟩,
    fun i => ⟨fun a => by rw [tr3 pf hT' i]; exact blk_in _ (hT _) a, .inl rfl⟩,
    fun i => ⟨fun a => by rw [tr4 pf hT' i]; exact blk_in _ (hT _) a, .inl rfl⟩,
    fun i => ⟨fun a => by rw [tr5 pf hT' i]; exact blk_in _ (hT _) a, .inl rfl⟩,
    fun i => ⟨fun a => by rw [tr6 pf hT' i]; exact blk_in _ (hT _) a, .inl rfl⟩,
    fun i => ⟨fun a => by rw [tr7 pf hT' i]; exact blk_in _ (hT _) a, .inl rfl⟩,
    fun i => ⟨fun a => by rw [tr8 pf hT' i]; exact blk_in _ (hT _) a, .inl rfl⟩,
    fun i => ⟨fun a => by rw [tr9 pf hT' i]; exact blk_in _ (hT _) a, .inl rfl⟩,
    fun i => ⟨fun a => by rw [tr10 pf hT' i]; exact blk_in _ (hT _) a, .inl rfl⟩,
    fun i => ⟨fun a => by rw [tr11 pf hT' i]; exact blk_in _ (hT _) a, .inl rfl⟩,
    fun i => ⟨fun a => by rw [tr12 pf hT' i]; exact blk_in _ (hT _) a, .inl rfl⟩,
    fun i => ⟨fun a => by rw [tr13 pf hT' i]; exact blk_in _ (hT _) a, .inl rfl⟩,
    fun i => ⟨fun a => by rw [tr14 pf hT' i]; exact blk_in _ (hT _) a, .inl rfl⟩,
    fun i => ⟨fun a => by rw [tr15 pf hT' i]; exact blk_in _ (hT _) a, .inl rfl⟩⟩

/-! ## The program around the call -/

variable (m : (ℓ : Loc nD τ sig) → Buf (Elt F) ℓ) (ρ : Dev nD → PrngReg)

/-- The buffers' contents when the call is entered: after the reshape of the rows. -/
abbrev V0 (c : Dev nD) : Valuation τ sig (Elt F) := StableHlo.after (List.flatten [hostOps0]) (fun b => m (c, b))
/-- The same at a reference. -/
abbrev V (c : Dev nD) (b : Ref sig .tc) : Buf (Elt F) ((c : Thread nD τ).loc b) := V0 m c (Proc.devRef .tc b)

/-- The lines before and after the call allocate nothing. -/
theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-- The program is its first line, the call, and its last line. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact fresh0) main_chain

/-- The last line touches neither the table nor a scoped buffer, allocates nothing, and writes no array of the call. -/
theorem tail_sub : ∀ ops ∈ ([hostOps1] : List (List (HloOp τ sig (Elt F)))), ∀ op ∈ ops, op.bufs ⊆ Pipeline.tailRefs sig pre0 spec0 := by
  intro ops hops op hop
  simp only [List.mem_cons, List.mem_nil_iff, or_false] at hops
  subst hops
  refine Pipeline.sub_tailRefs pre0 spec0 op ((List.forall_iff_forall_mem.mp hostOps1_sub) op hop) ?_
  simp only [hostOps1, List.mem_cons, List.mem_nil_iff, or_false] at hop
  subst hop
  intro j; fin_cases j
  simp only [StableHlo.reshape_bufs, Finset.mem_insert, Finset.mem_singleton, not_or]
  and_intros <;> exact StableHlo.devRef_ne_of_ne (by decide)
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp fresh1) op hop
theorem tail_keeps : ∀ ops ∈ ([hostOps1] : List (List (HloOp τ sig (Elt F)))), ∀ op ∈ ops, ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  simp only [StableHlo.reshape_writes, Finset.mem_singleton]
  exact StableHlo.devRef_ne_of_ne ((by decide : ∀ w, Pipeline.arrRef spec0 w ≠ main_v2) w)

/-- The first line writes neither argument. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.Forall, StableHlo.reshape_writes, Finset.mem_singleton]
    exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.Forall, StableHlo.reshape_writes, Finset.mem_singleton]
    exact StableHlo.devRef_ne_of_ne (by decide)))

/-! ## The blocks -/

variable (a : (pcfg0 (F := F)).Adm)

/-- The table of classes. -/
abbrev tab : Vec F S64 .i32 := a.1 0

/-- The block of a window at a point, read off its array as the call finds it. -/
def iblk (c : Dev nD) (w : Fin 17) (t : Fin grid0.N) : (((cfg0 a).win w).xblock ((cfg0 a).grid.coords t)).Idx → Elt F ((cfg0 a).win w).elt :=
  (((cfg0 a).win w).blk t).view.read (Elt F) (V m c (Pipeline.arrRef spec0 w))

/-- The sixteen blocks of eight rows at a point. -/
def xs (c : Dev nD) (t : Fin grid0.N) : Fin 16 → Vec F S8x64 .f32 := fun j => match j with
  | ⟨0, _⟩ => iblk m a c 0 t
  | ⟨1, _⟩ => iblk m a c 1 t
  | ⟨2, _⟩ => iblk m a c 2 t
  | ⟨3, _⟩ => iblk m a c 3 t
  | ⟨4, _⟩ => iblk m a c 4 t
  | ⟨5, _⟩ => iblk m a c 5 t
  | ⟨6, _⟩ => iblk m a c 6 t
  | ⟨7, _⟩ => iblk m a c 7 t
  | ⟨8, _⟩ => iblk m a c 8 t
  | ⟨9, _⟩ => iblk m a c 9 t
  | ⟨10, _⟩ => iblk m a c 10 t
  | ⟨11, _⟩ => iblk m a c 11 t
  | ⟨12, _⟩ => iblk m a c 12 t
  | ⟨13, _⟩ => iblk m a c 13 t
  | ⟨14, _⟩ => iblk m a c 14 t
  | ⟨15, _⟩ => iblk m a c 15 t
  | ⟨_ + 16, h⟩ => absurd h (Nat.not_lt.2 (Nat.le_add_left _ _))

/-- The proof data: each input's buffer at its block, the result's at the block the body leaves. -/
def dat (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => iblk m a c 5 t
    | ⟨6, _⟩ => iblk m a c 6 t
    | ⟨7, _⟩ => iblk m a c 7 t
    | ⟨8, _⟩ => iblk m a c 8 t
    | ⟨9, _⟩ => iblk m a c 9 t
    | ⟨10, _⟩ => iblk m a c 10 t
    | ⟨11, _⟩ => iblk m a c 11 t
    | ⟨12, _⟩ => iblk m a c 12 t
    | ⟨13, _⟩ => iblk m a c 13 t
    | ⟨14, _⟩ => iblk m a c 14 t
    | ⟨15, _⟩ => iblk m a c 15 t
    | ⟨16, _⟩ => Body.outBlock (grid0.coords t) (tab a) (xs m a c t)
    | ⟨_ + 17, h⟩ => absurd h (Nat.not_lt.2 (Nat.le_add_left _ _))
  Φ _ := iprop(Pipeline.ΦA spec0 c ∗ Pipeline.ΦT pre0 a.1 c)
  q w := Pipeline.shareOf spec0 w
  owed _ := 0

theorem A_eq (c : Dev nD) (w : Fin 17) : (dat m a c).A w = V m c (Pipeline.arrRef spec0 w) := by dsimp only [dat]
theorem after0 (c : Dev nD) (t : Fin grid0.N) : (dat m a c).after 0 t = iblk m a c 0 t := rfl
theorem after1 (c : Dev nD) (t : Fin grid0.N) : (dat m a c).after 1 t = iblk m a c 1 t := rfl
theorem after2 (c : Dev nD) (t : Fin grid0.N) : (dat m a c).after 2 t = iblk m a c 2 t := rfl
theorem after3 (c : Dev nD) (t : Fin grid0.N) : (dat m a c).after 3 t = iblk m a c 3 t := rfl
theorem after4 (c : Dev nD) (t : Fin grid0.N) : (dat m a c).after 4 t = iblk m a c 4 t := rfl
theorem after5 (c : Dev nD) (t : Fin grid0.N) : (dat m a c).after 5 t = iblk m a c 5 t := rfl
theorem after6 (c : Dev nD) (t : Fin grid0.N) : (dat m a c).after 6 t = iblk m a c 6 t := rfl
theorem after7 (c : Dev nD) (t : Fin grid0.N) : (dat m a c).after 7 t = iblk m a c 7 t := rfl
theorem after8 (c : Dev nD) (t : Fin grid0.N) : (dat m a c).after 8 t = iblk m a c 8 t := rfl
theorem after9 (c : Dev nD) (t : Fin grid0.N) : (dat m a c).after 9 t = iblk m a c 9 t := rfl
theorem after10 (c : Dev nD) (t : Fin grid0.N) : (dat m a c).after 10 t = iblk m a c 10 t := rfl
theorem after11 (c : Dev nD) (t : Fin grid0.N) : (dat m a c).after 11 t = iblk m a c 11 t := rfl
theorem after12 (c : Dev nD) (t : Fin grid0.N) : (dat m a c).after 12 t = iblk m a c 12 t := rfl
theorem after13 (c : Dev nD) (t : Fin grid0.N) : (dat m a c).after 13 t = iblk m a c 13 t := rfl
theorem after14 (c : Dev nD) (t : Fin grid0.N) : (dat m a c).after 14 t = iblk m a c 14 t := rfl
theorem after15 (c : Dev nD) (t : Fin grid0.N) : (dat m a c).after 15 t = iblk m a c 15 t := rfl
theorem after16 (c : Dev nD) (t : Fin grid0.N) : (dat m a c).after 16 t = Body.outBlock (grid0.coords t) (tab a) (xs m a c t) := rfl
theorem before0 (c : Dev nD) (t : Fin grid0.N) (d) : (dat m a c).before 0 t d = iblk m a c 0 t :=
  ((dat m a c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin grid0.N) (d) : (dat m a c).before 1 t d = iblk m a c 1 t :=
  ((dat m a c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin grid0.N) (d) : (dat m a c).before 2 t d = iblk m a c 2 t :=
  ((dat m a c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin grid0.N) (d) : (dat m a c).before 3 t d = iblk m a c 3 t :=
  ((dat m a c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin grid0.N) (d) : (dat m a c).before 4 t d = iblk m a c 4 t :=
  ((dat m a c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin grid0.N) (d) : (dat m a c).before 5 t d = iblk m a c 5 t :=
  ((dat m a c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin grid0.N) (d) : (dat m a c).before 6 t d = iblk m a c 6 t :=
  ((dat m a c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin grid0.N) (d) : (dat m a c).before 7 t d = iblk m a c 7 t :=
  ((dat m a c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin grid0.N) (d) : (dat m a c).before 8 t d = iblk m a c 8 t :=
  ((dat m a c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin grid0.N) (d) : (dat m a c).before 9 t d = iblk m a c 9 t :=
  ((dat m a c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)
theorem before10 (c : Dev nD) (t : Fin grid0.N) (d) : (dat m a c).before 10 t d = iblk m a c 10 t :=
  ((dat m a c).before_in_eq_fetched 10 rfl (fun _ => rfl) (fun _ _ _ => rfl) (fun t => by rw [after10]; unfold Dat.blockOf iblk; rw [A_eq]; try rfl) t d).trans
    (by unfold Dat.fetched Dat.blockOf iblk; rw [A_eq]; try rfl)
theorem before11 (c : Dev nD) (t : Fin grid0.N) (d) : (dat m a c).before 11 t d = iblk m a c 11 t :=
  ((dat m a c).before_in_eq_fetched 11 rfl (fun _ => rfl) (fun _ _ _ => rfl) (fun t => by rw [after11]; unfold Dat.blockOf iblk; rw [A_eq]; try rfl) t d).trans
    (by unfold Dat.fetched Dat.blockOf iblk; rw [A_eq]; try rfl)
theorem before12 (c : Dev nD) (t : Fin grid0.N) (d) : (dat m a c).before 12 t d = iblk m a c 12 t :=
  ((dat m a c).before_in_eq_fetched 12 rfl (fun _ => rfl) (fun _ _ _ => rfl) (fun t => by rw [after12]; unfold Dat.blockOf iblk; rw [A_eq]; try rfl) t d).trans
    (by unfold Dat.fetched Dat.blockOf iblk; rw [A_eq]; try rfl)
theorem before13 (c : Dev nD) (t : Fin grid0.N) (d) : (dat m a c).before 13 t d = iblk m a c 13 t :=
  ((dat m a c).before_in_eq_fetched 13 rfl (fun _ => rfl) (fun _ _ _ => rfl) (fun t => by rw [after13]; unfold Dat.blockOf iblk; rw [A_eq]; try rfl) t d).trans
    (by unfold Dat.fetched Dat.blockOf iblk; rw [A_eq]; try rfl)
theorem before14 (c : Dev nD) (t : Fin grid0.N) (d) : (dat m a c).before 14 t d = iblk m a c 14 t :=
  ((dat m a c).before_in_eq_fetched 14 rfl (fun _ => rfl) (fun _ _ _ => rfl) (fun t => by rw [after14]; unfold Dat.blockOf iblk; rw [A_eq]; try rfl) t d).trans
    (by unfold Dat.fetched Dat.blockOf iblk; rw [A_eq]; try rfl)
theorem before15 (c : Dev nD) (t : Fin grid0.N) (d) : (dat m a c).before 15 t d = iblk m a c 15 t :=
  ((dat m a c).before_in_eq_fetched 15 rfl (fun _ => rfl) (fun _ _ _ => rfl) (fun t => by rw [after15]; unfold Dat.blockOf iblk; rw [A_eq]; try rfl) t d).trans
    (by unfold Dat.fetched Dat.blockOf iblk; rw [A_eq]; try rfl)

/-! ## The body at a point -/

/-- The body at a point, on the buffers the pipeline calls it with. -/
abbrev bodyAt (t : Fin grid0.N) : Prog (TpuEff nD τ sig (Elt F) Λ₀ .tc) PUnit :=
  cc0__gather_kernel (grid0.coords t) (Memref.whole main_arg0) (Memref.isWhole_whole _) (((cfg0 a).win 0).stage ((cfg0 a).slots t 0)) (hstage0_0 (((cfg0 a).slots t 0).cast nbuf0_0)) (((cfg0 a).win 1).stage ((cfg0 a).slots t 1)) (hstage0_1 (((cfg0 a).slots t 1).cast nbuf0_1)) (((cfg0 a).win 2).stage ((cfg0 a).slots t 2)) (hstage0_2 (((cfg0 a).slots t 2).cast nbuf0_2)) (((cfg0 a).win 3).stage ((cfg0 a).slots t 3)) (hstage0_3 (((cfg0 a).slots t 3).cast nbuf0_3)) (((cfg0 a).win 4).stage ((cfg0 a).slots t 4)) (hstage0_4 (((cfg0 a).slots t 4).cast nbuf0_4)) (((cfg0 a).win 5).stage ((cfg0 a).slots t 5)) (hstage0_5 (((cfg0 a).slots t 5).cast nbuf0_5)) (((cfg0 a).win 6).stage ((cfg0 a).slots t 6)) (hstage0_6 (((cfg0 a).slots t 6).cast nbuf0_6)) (((cfg0 a).win 7).stage ((cfg0 a).slots t 7)) (hstage0_7 (((cfg0 a).slots t 7).cast nbuf0_7)) (((cfg0 a).win 8).stage ((cfg0 a).slots t 8)) (hstage0_8 (((cfg0 a).slots t 8).cast nbuf0_8)) (((cfg0 a).win 9).stage ((cfg0 a).slots t 9)) (hstage0_9 (((cfg0 a).slots t 9).cast nbuf0_9)) (((cfg0 a).win 10).stage ((cfg0 a).slots t 10)) (hstage0_10 (((cfg0 a).slots t 10).cast nbuf0_10)) (((cfg0 a).win 11).stage ((cfg0 a).slots t 11)) (hstage0_11 (((cfg0 a).slots t 11).cast nbuf0_11)) (((cfg0 a).win 12).stage ((cfg0 a).slots t 12)) (hstage0_12 (((cfg0 a).slots t 12).cast nbuf0_12)) (((cfg0 a).win 13).stage ((cfg0 a).slots t 13)) (hstage0_13 (((cfg0 a).slots t 13).cast nbuf0_13)) (((cfg0 a).win 14).stage ((cfg0 a).slots t 14)) (hstage0_14 (((cfg0 a).slots t 14).cast nbuf0_14)) (((cfg0 a).win 15).stage ((cfg0 a).slots t 15)) (hstage0_15 (((cfg0 a).slots t 15).cast nbuf0_15)) (((cfg0 a).win 16).stage ((cfg0 a).slots t 16)) (hstage0_16 (((cfg0 a).slots t 16).cast nbuf0_16))

/-- What the body is called with at a point. -/
def bodyPre (c : Dev nD) (t : Fin grid0.N) : sProp 𝕄 :=
  iprop((dat m a c).Φ t.castSucc ∗ (dat m a c).owesAt () t.castSucc
      ∗ (∃ d, owns (c : Thread nD τ) (((cfg0 a).win 0).stage ((cfg0 a).slots t 0)) fullShare ((dat m a c).before 0 t d))
      ∗ (∃ d, owns (c : Thread nD τ) (((cfg0 a).win 1).stage ((cfg0 a).slots t 1)) fullShare ((dat m a c).before 1 t d))
      ∗ (∃ d, owns (c : Thread nD τ) (((cfg0 a).win 2).stage ((cfg0 a).slots t 2)) fullShare ((dat m a c).before 2 t d))
      ∗ (∃ d, owns (c : Thread nD τ) (((cfg0 a).win 3).stage ((cfg0 a).slots t 3)) fullShare ((dat m a c).before 3 t d))
      ∗ (∃ d, owns (c : Thread nD τ) (((cfg0 a).win 4).stage ((cfg0 a).slots t 4)) fullShare ((dat m a c).before 4 t d))
      ∗ (∃ d, owns (c : Thread nD τ) (((cfg0 a).win 5).stage ((cfg0 a).slots t 5)) fullShare ((dat m a c).before 5 t d))
      ∗ (∃ d, owns (c : Thread nD τ) (((cfg0 a).win 6).stage ((cfg0 a).slots t 6)) fullShare ((dat m a c).before 6 t d))
      ∗ (∃ d, owns (c : Thread nD τ) (((cfg0 a).win 7).stage ((cfg0 a).slots t 7)) fullShare ((dat m a c).before 7 t d))
      ∗ (∃ d, owns (c : Thread nD τ) (((cfg0 a).win 8).stage ((cfg0 a).slots t 8)) fullShare ((dat m a c).before 8 t d))
      ∗ (∃ d, owns (c : Thread nD τ) (((cfg0 a).win 9).stage ((cfg0 a).slots t 9)) fullShare ((dat m a c).before 9 t d))
      ∗ (∃ d, owns (c : Thread nD τ) (((cfg0 a).win 10).stage ((cfg0 a).slots t 10)) fullShare ((dat m a c).before 10 t d))
      ∗ (∃ d, owns (c : Thread nD τ) (((cfg0 a).win 11).stage ((cfg0 a).slots t 11)) fullShare ((dat m a c).before 11 t d))
      ∗ (∃ d, owns (c : Thread nD τ) (((cfg0 a).win 12).stage ((cfg0 a).slots t 12)) fullShare ((dat m a c).before 12 t d))
      ∗ (∃ d, owns (c : Thread nD τ) (((cfg0 a).win 13).stage ((cfg0 a).slots t 13)) fullShare ((dat m a c).before 13 t d))
      ∗ (∃ d, owns (c : Thread nD τ) (((cfg0 a).win 14).stage ((cfg0 a).slots t 14)) fullShare ((dat m a c).before 14 t d))
      ∗ (∃ d, owns (c : Thread nD τ) (((cfg0 a).win 15).stage ((cfg0 a).slots t 15)) fullShare ((dat m a c).before 15 t d))
      ∗ (∃ d, owns (c : Thread nD τ) (((cfg0 a).win 16).stage ((cfg0 a).slots t 16)) fullShare ((dat m a c).before 16 t d)))
/-- What it returns. -/
def bodyPost (c : Dev nD) (t : Fin grid0.N) : sProp 𝕄 :=
  iprop((dat m a c).Φ t.succ ∗ (dat m a c).owesAt () t.succ
      ∗ owns (c : Thread nD τ) (((cfg0 a).win 0).stage ((cfg0 a).slots t 0)) fullShare ((dat m a c).after 0 t)
      ∗ owns (c : Thread nD τ) (((cfg0 a).win 1).stage ((cfg0 a).slots t 1)) fullShare ((dat m a c).after 1 t)
      ∗ owns (c : Thread nD τ) (((cfg0 a).win 2).stage ((cfg0 a).slots t 2)) fullShare ((dat m a c).after 2 t)
      ∗ owns (c : Thread nD τ) (((cfg0 a).win 3).stage ((cfg0 a).slots t 3)) fullShare ((dat m a c).after 3 t)
      ∗ owns (c : Thread nD τ) (((cfg0 a).win 4).stage ((cfg0 a).slots t 4)) fullShare ((dat m a c).after 4 t)
      ∗ owns (c : Thread nD τ) (((cfg0 a).win 5).stage ((cfg0 a).slots t 5)) fullShare ((dat m a c).after 5 t)
      ∗ owns (c : Thread nD τ) (((cfg0 a).win 6).stage ((cfg0 a).slots t 6)) fullShare ((dat m a c).after 6 t)
      ∗ owns (c : Thread nD τ) (((cfg0 a).win 7).stage ((cfg0 a).slots t 7)) fullShare ((dat m a c).after 7 t)
      ∗ owns (c : Thread nD τ) (((cfg0 a).win 8).stage ((cfg0 a).slots t 8)) fullShare ((dat m a c).after 8 t)
      ∗ owns (c : Thread nD τ) (((cfg0 a).win 9).stage ((cfg0 a).slots t 9)) fullShare ((dat m a c).after 9 t)
      ∗ owns (c : Thread nD τ) (((cfg0 a).win 10).stage ((cfg0 a).slots t 10)) fullShare ((dat m a c).after 10 t)
      ∗ owns (c : Thread nD τ) (((cfg0 a).win 11).stage ((cfg0 a).slots t 11)) fullShare ((dat m a c).after 11 t)
      ∗ owns (c : Thread nD τ) (((cfg0 a).win 12).stage ((cfg0 a).slots t 12)) fullShare ((dat m a c).after 12 t)
      ∗ owns (c : Thread nD τ) (((cfg0 a).win 13).stage ((cfg0 a).slots t 13)) fullShare ((dat m a c).after 13 t)
      ∗ owns (c : Thread nD τ) (((cfg0 a).win 14).stage ((cfg0 a).slots t 14)) fullShare ((dat m a c).after 14 t)
      ∗ owns (c : Thread nD τ) (((cfg0 a).win 15).stage ((cfg0 a).slots t 15)) fullShare ((dat m a c).after 15 t)
      ∗ owns (c : Thread nD τ) (((cfg0 a).win 16).stage ((cfg0 a).slots t 16)) fullShare ((dat m a c).after 16 t))

/-- The pipeline's half of the table, as a memory the body reads. -/
theorem table_eq (c : Dev nD) : (Pipeline.ΦT pre0 a.1 c : sProp 𝕄) = owns (c : Thread nD τ) (Memref.whole main_arg0) fullShare.right (tab a) := by
  exact (bigSep_univ_eq_bigSepL [(0 : Fin 1)] (by decide) (by decide) _).trans (owns_whole (c : Thread nD τ) main_arg0 fullShare.right (tab a)).symm

/-- The body at any point runs to its return, leaving its block. -/
theorem sound_body (hT : ∀ k : S64.Idx, BitVec.toNat (tab a k) < 2 ^ 31) (c : Dev nD) (t : Fin grid0.N) :
    bodyPre m a c t ⊢ wp frame (wpE (defs₀ (F := F)) Variants.none c none) Set.univ (bodyAt a t) (fun _ => bodyPost m a c t) := by
  unfold bodyPre bodyPost bodyAt
  simp only [before0, before1, before2, before3, before4, before5, before6, before7, before8, before9, before10, before11, before12, before13, before14, before15]
  rw [show (dat m a c).Φ t.succ = (dat m a c).Φ t.castSucc from rfl,
    show (dat m a c).owesAt () t.succ = (dat m a c).owesAt () t.castSucc from rfl,
    after0, after1, after2, after3, after4, after5, after6, after7, after8, after9, after10, after11, after12, after13, after14, after15, after16]
  rw [show (dat m a c).Φ t.castSucc = iprop(Pipeline.ΦA spec0 c ∗ Pipeline.ΦT pre0 a.1 c) from rfl, table_eq]
  iintro ⟨⟨HA, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (Body.run_body c (grid0.coords t) _ _ _ _ _ _ _ _ _ _ _ _ _ _ _ _ _ _ _ _ _ _ _ _ _ _ _ _ _ _ _ _ _ _ _ _ fullShare.right (tab a) hT (xs m a c t) _ Set.univ _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨HT, H0, H1, H2, H3, H4, H5, H6, H7, H8, H9, H10, H11, H12, H13, H14, H15, H16⟩
  isplitl [HA HT]
  · isplitl [HA]; · iexact HA
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row is the body at the point. -/
theorem defs₀_row (t : Fin grid0.N) : defs₀ (F := F) .tc (cfg0 a).body ((cfg0 a).bodyArgs t ((cfg0 a).slots t)) = bodyAt a t := by
  unfold defs₀; rw [Defs.onTc_tc]; rfl

/-- The body obligation. -/
theorem body_obligation (hT : ∀ k : S64.Idx, BitVec.toNat (tab a k) < 2 ^ 31) (c : Dev nD) :
    BodyObligation (dat (F := F) m a c) (defs₀ (F := F)) Variants.none () Set.univ := fun t => by
  rw [bigSep_W0, bigSep_W0, defs₀_row]
  exact triple_restated (sound_body m a hT c t) rfl .rfl fun _ => .rfl

/-! ## The run -/

/-- Every class number names a class. -/
def Fits : Prop := ∀ (c : Dev nD) (k : S64.Idx), BitVec.toNat ((m ((c : Thread nD τ).loc main_arg0) : Vec F S64 .i32) k) < 100000

/-- The table's contents at the launch. -/
def tables : pre0.Contents (Elt F) := fun k => m ((((0 : Dev nD).tc : Thread nD τ)).loc (pre0.ref k))

variable {m} in
/-- They are admissible. -/
def adm (h : Fits m) : (pcfg0 (F := F)).Adm := ⟨tables m, ok_of (tables m) (fun k => h 0 k)⟩

variable {m} in
/-- The proof data at the table's contents. -/
def dats (h : Fits m) (p : Fin 1) (c : Dev nD) : Dat τ (Elt F) Unit ℕ (UR sig nD τ) ℕ (Pipeline.pin pcfgs (fun _ => adm h) p) c := dat m (adm h) c

variable {m} in
/-- The table is as launched when the call is entered. -/
theorem table_found (h : Fits m) (c : Dev nD) (k : Fin 1) : V0 m c (Proc.devRef .tc (pre0.ref k)) = (adm h).1 k := by
  obtain rfl : c = 0 := Subsingleton.elim (α := Fin 1) c 0
  obtain rfl : k = 0 := Subsingleton.elim k 0
  exact V_arg0 m 0

set_option backward.isDefEq.respectTransparency.types false in
variable {m} in
/-- The run: every array ends with what the proof data say, and every other buffer with what the last line leaves. -/
theorem run_main (h : Fits m) :
    θ_run defs (onTc (τ := τ) (main (F := F))) (s₀ m ρ)
      (fun r => Pipeline.FramePost (Pipeline.pin pcfgs (fun _ => adm h)) (dats h) 0 (Pipeline.afterTail pcfgs (fun _ => adm h) (dats h) 0 (V0 m) [hostOps1]) r
        ∧ r.2.sem = fun _ => 0) :=
  Pipeline.θ_run_frameP_around_shared (Q' := _) pcfgs (fun _ => adm h) (dats h) (0 : Fin 1) launch₀0 defs₀ Variants.none m ρ main
    (hbody := fun c => (body_obligation m (adm h) (fun k => lt_trans (h 0 k) (by decide)) c).loose) (hq := fun _ _ _ => rfl) (howed := fun _ _ => rfl)
    (V₀ := V0 m) (opss := [hostOps1]) (hsub := tail_sub) (hfresh := tail_fresh) (hkeep := tail_keeps)
    (hmain := hmain m Variants.none) (hA := A_eq m (adm h)) (hpf := table_found h) (hΦ := fun _ _ => rfl)
    (hQ' := fun _ h => h)

variable {m} in
/-- The last line writes neither argument. -/
theorem end_arg0 (h : Fits m) (c : Dev nD) : Pipeline.afterTail pcfgs (fun _ => adm h) (dats h) 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_arg0 m c
variable {m} in
theorem end_arg1 (h : Fits m) (c : Dev nD) : Pipeline.afterTail pcfgs (fun _ => adm h) (dats h) 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_arg1 m c

variable {m} in
/-- THE FRAME. -/
theorem frame (h : Fits m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r hr => ⟨fun c =>
    ⟨((hr.1 c).2 main_arg0 (Pipeline.mem_restRefs_of main_arg0 (by decide) (by exact (by decide : ∀ w, Pipeline.arrRef spec0 w ≠ main_arg0)))).trans (end_arg0 h c),
      ((hr.1 c).2 main_arg1 (Pipeline.mem_restRefs_of main_arg1 (by decide) (by exact (by decide : ∀ w, Pipeline.arrRef spec0 w ≠ main_arg1)))).trans (end_arg1 h c)⟩, hr.2⟩)
    (run_main ρ h)

end Cert.GatherIdeal.Run

end
-- ==== Proof.GatherFinal.lean ====
/- The gather call's result over the reals: row `b` is the row of the class memory that class number `b` names. -/
module

public import proofs.«01_k».proof.Proof.GatherIdealRun
public import Idealize.ShloMosaic.Lib.Pipeline.ValueKit
public import Idealize.ShloMosaic.Lib.StableHlo.RunRead
public import Idealize.ShloMosaic.Lib.DynamicIndex
public import Idealize.ShloMosaic.Lib.Routing.Ops
public import proofs.«01_k».proof.Proof.Gen.GatherReferenceIdeal.Run

@[expose] public section

set_option maxRecDepth 16384

noncomputable section

namespace Cert.GatherIdeal.Final

open Cert.GatherIdeal Cert.GatherIdeal.Gen Cert.GatherIdeal.Run
open Idealize.ShloMosaic Idealize.ShloMosaic.TcCoe Idealize.ShloMosaic.StableHlo
open Idealize.SL.Sem
open Idealize.ShloMosaic.Pipeline (Dat)

variable {F : FTy → Type} [FloatOps F] [Nonempty (F .f32)] [∀ e, Nonempty (Elt F e)]
variable (m : (ℓ : Loc nD τ sig) → Buf (Elt F) ℓ) (ρ : Dev nD → PrngReg)

/-- The table's word for row `j` of the block at a point. -/
theorem place : ∀ (t : Fin grid0.N) (j : Fin 16), k0_off1 (grid0.coords t) (BitVec.ofNat 32 j.val) = ![16 * t.val + j.val] := by decide +kernel

theorem word_at (t : Fin grid0.N) (T : Vec F S64 .i32) (j : Fin 16) (k : Fin 64) (hk : k.val = 16 * t.val + j.val) :
    Body.word (grid0.coords t) T j = T (ix1 k) := by
  unfold Body.word
  congr 1
  funext a; apply Fin.ext
  match a with
  | ⟨0, _⟩ => show k0_off1 (grid0.coords t) (BitVec.ofNat 32 j.val) 0 + 1 * 0 = k.val; rw [place, hk]; rfl

/-- The result window's block index, and that each point's block is written back. -/
theorem out_index : ∀ t : Fin grid0.N, cc0_transform_16 (grid0.coords t) = ![t.val, 0, 0] := by decide +kernel
theorem out_flush : ∀ t : Fin grid0.N, Pipeline.Window.flushOf grid0 true cc0_transform_16 t = true := by decide +kernel

variable (a : (pcfg0 (F := F)).Adm)

/-- The written-back blocks fill the result. -/
theorem covers : ((cfg0 a).win 16).Covers := by
  refine ⟨fun b => ?_, fun β => ?_⟩
  · match b with
    | ⟨0, _⟩ => exact (by decide : 0 < 1)
    | ⟨1, _⟩ => exact (by decide : 0 < 16)
    | ⟨2, _⟩ => exact (by decide : 0 < 64)
  have h := fun t => congrFun (out_index t)
  have h0 : (β ⟨0, (by decide : 0 < 3)⟩).val < 4 := by
    have h' := (β ⟨0, (by decide : 0 < 3)⟩).isLt
    unfold Pipeline.Window.nblk at h'
    change _ < (4 + 1 - 1) / 1 at h'
    exact Nat.lt_of_lt_of_eq h' (by decide)
  have h1 : (β ⟨1, (by decide : 1 < 3)⟩).val < 1 := by
    have h' := (β ⟨1, (by decide : 1 < 3)⟩).isLt
    unfold Pipeline.Window.nblk at h'
    change _ < (16 + 16 - 1) / 16 at h'
    exact Nat.lt_of_lt_of_eq h' (by decide)
  have h2 : (β ⟨2, (by decide : 2 < 3)⟩).val < 1 := by
    have h' := (β ⟨2, (by decide : 2 < 3)⟩).isLt
    unfold Pipeline.Window.nblk at h'
    change _ < (64 + 64 - 1) / 64 at h'
    exact Nat.lt_of_lt_of_eq h' (by decide)
  obtain ⟨t, ht⟩ : ∃ t : Fin grid0.N, t.val = (β ⟨0, (by decide : 0 < 3)⟩).val := ⟨⟨_, lt_of_lt_of_eq h0 N_0.symm⟩, rfl⟩
  refine ⟨t, out_flush t, fun b => ⟨?_, .inl ?_⟩⟩
  · match b with
    | ⟨0, _⟩ => exact (h t 0).trans ht
    | ⟨1, _⟩ => exact (h t 1).trans (by show 0 = (β ⟨1, (by decide : 1 < 3)⟩).val; omega)
    | ⟨2, _⟩ => exact (h t 2).trans (by show 0 = (β ⟨2, (by decide : 2 < 3)⟩).val; omega)
  · rfl

/-- The block of window 0: eight rows from its class's. -/
theorem blk0 (hT : ∀ k : S64.Idx, BitVec.toNat (tab a k) < 2 ^ 31) (c : Dev nD) (t : Fin grid0.N) (r : Fin 8) (k : Fin 64)
    (R : Fin 100000) (hR : R.val = (Body.word (grid0.coords t) (tab a) 0).toNat / 8 * 8 + r.val) :
    xs m a c t 0 (ix2 r k) = V m c main_v0 (ix2 R k) := by
  show iblk m a c 0 t (ix2 r k) = _
  have hi := tr0 a.1 hT (grid0.coords t)
  have h0 := congrArg (fun z => z * 8 + r.val) (congrFun hi 0)
  have h1 := congrArg (fun z => z * 64 + k.val) (congrFun hi 1)
  unfold iblk
  show V m c main_v0 _ = _
  congr 1
  funext b; apply Fin.ext
  match b with
  | ⟨0, _⟩ => blk_simp; exact h0.trans hR.symm
  | ⟨1, _⟩ => blk_simp; exact h1.trans (by show 0 * 64 + k.val = k.val; omega)
/-- The block of window 1: eight rows from its class's. -/
theorem blk1 (hT : ∀ k : S64.Idx, BitVec.toNat (tab a k) < 2 ^ 31) (c : Dev nD) (t : Fin grid0.N) (r : Fin 8) (k : Fin 64)
    (R : Fin 100000) (hR : R.val = (Body.word (grid0.coords t) (tab a) 1).toNat / 8 * 8 + r.val) :
    xs m a c t 1 (ix2 r k) = V m c main_v0 (ix2 R k) := by
  show iblk m a c 1 t (ix2 r k) = _
  have hi := tr1 a.1 hT (grid0.coords t)
  have h0 := congrArg (fun z => z * 8 + r.val) (congrFun hi 0)
  have h1 := congrArg (fun z => z * 64 + k.val) (congrFun hi 1)
  unfold iblk
  show V m c main_v0 _ = _
  congr 1
  funext b; apply Fin.ext
  match b with
  | ⟨0, _⟩ => blk_simp; exact h0.trans hR.symm
  | ⟨1, _⟩ => blk_simp; exact h1.trans (by show 0 * 64 + k.val = k.val; omega)
/-- The block of window 2: eight rows from its class's. -/
theorem blk2 (hT : ∀ k : S64.Idx, BitVec.toNat (tab a k) < 2 ^ 31) (c : Dev nD) (t : Fin grid0.N) (r : Fin 8) (k : Fin 64)
    (R : Fin 100000) (hR : R.val = (Body.word (grid0.coords t) (tab a) 2).toNat / 8 * 8 + r.val) :
    xs m a c t 2 (ix2 r k) = V m c main_v0 (ix2 R k) := by
  show iblk m a c 2 t (ix2 r k) = _
  have hi := tr2 a.1 hT (grid0.coords t)
  have h0 := congrArg (fun z => z * 8 + r.val) (congrFun hi 0)
  have h1 := congrArg (fun z => z * 64 + k.val) (congrFun hi 1)
  unfold iblk
  show V m c main_v0 _ = _
  congr 1
  funext b; apply Fin.ext
  match b with
  | ⟨0, _⟩ => blk_simp; exact h0.trans hR.symm
  | ⟨1, _⟩ => blk_simp; exact h1.trans (by show 0 * 64 + k.val = k.val; omega)
/-- The block of window 3: eight rows from its class's. -/
theorem blk3 (hT : ∀ k : S64.Idx, BitVec.toNat (tab a k) < 2 ^ 31) (c : Dev nD) (t : Fin grid0.N) (r : Fin 8) (k : Fin 64)
    (R : Fin 100000) (hR : R.val = (Body.word (grid0.coords t) (tab a) 3).toNat / 8 * 8 + r.val) :
    xs m a c t 3 (ix2 r k) = V m c main_v0 (ix2 R k) := by
  show iblk m a c 3 t (ix2 r k) = _
  have hi := tr3 a.1 hT (grid0.coords t)
  have h0 := congrArg (fun z => z * 8 + r.val) (congrFun hi 0)
  have h1 := congrArg (fun z => z * 64 + k.val) (congrFun hi 1)
  unfold iblk
  show V m c main_v0 _ = _
  congr 1
  funext b; apply Fin.ext
  match b with
  | ⟨0, _⟩ => blk_simp; exact h0.trans hR.symm
  | ⟨1, _⟩ => blk_simp; exact h1.trans (by show 0 * 64 + k.val = k.val; omega)
/-- The block of window 4: eight rows from its class's. -/
theorem blk4 (hT : ∀ k : S64.Idx, BitVec.toNat (tab a k) < 2 ^ 31) (c : Dev nD) (t : Fin grid0.N) (r : Fin 8) (k : Fin 64)
    (R : Fin 100000) (hR : R.val = (Body.word (grid0.coords t) (tab a) 4).toNat / 8 * 8 + r.val) :
    xs m a c t 4 (ix2 r k) = V m c main_v0 (ix2 R k) := by
  show iblk m a c 4 t (ix2 r k) = _
  have hi := tr4 a.1 hT (grid0.coords t)
  have h0 := congrArg (fun z => z * 8 + r.val) (congrFun hi 0)
  have h1 := congrArg (fun z => z * 64 + k.val) (congrFun hi 1)
  unfold iblk
  show V m c main_v0 _ = _
  congr 1
  funext b; apply Fin.ext
  match b with
  | ⟨0, _⟩ => blk_simp; exact h0.trans hR.symm
  | ⟨1, _⟩ => blk_simp; exact h1.trans (by show 0 * 64 + k.val = k.val; omega)
/-- The block of window 5: eight rows from its class's. -/
theorem blk5 (hT : ∀ k : S64.Idx, BitVec.toNat (tab a k) < 2 ^ 31) (c : Dev nD) (t : Fin grid0.N) (r : Fin 8) (k : Fin 64)
    (R : Fin 100000) (hR : R.val = (Body.word (grid0.coords t) (tab a) 5).toNat / 8 * 8 + r.val) :
    xs m a c t 5 (ix2 r k) = V m c main_v0 (ix2 R k) := by
  show iblk m a c 5 t (ix2 r k) = _
  have hi := tr5 a.1 hT (grid0.coords t)
  have h0 := congrArg (fun z => z * 8 + r.val) (congrFun hi 0)
  have h1 := congrArg (fun z => z * 64 + k.val) (congrFun hi 1)
  unfold iblk
  show V m c main_v0 _ = _
  congr 1
  funext b; apply Fin.ext
  match b with
  | ⟨0, _⟩ => blk_simp; exact h0.trans hR.symm
  | ⟨1, _⟩ => blk_simp; exact h1.trans (by show 0 * 64 + k.val = k.val; omega)
/-- The block of window 6: eight rows from its class's. -/
theorem blk6 (hT : ∀ k : S64.Idx, BitVec.toNat (tab a k) < 2 ^ 31) (c : Dev nD) (t : Fin grid0.N) (r : Fin 8) (k : Fin 64)
    (R : Fin 100000) (hR : R.val = (Body.word (grid0.coords t) (tab a) 6).toNat / 8 * 8 + r.val) :
    xs m a c t 6 (ix2 r k) = V m c main_v0 (ix2 R k) := by
  show iblk m a c 6 t (ix2 r k) = _
  have hi := tr6 a.1 hT (grid0.coords t)
  have h0 := congrArg (fun z => z * 8 + r.val) (congrFun hi 0)
  have h1 := congrArg (fun z => z * 64 + k.val) (congrFun hi 1)
  unfold iblk
  show V m c main_v0 _ = _
  congr 1
  funext b; apply Fin.ext
  match b with
  | ⟨0, _⟩ => blk_simp; exact h0.trans hR.symm
  | ⟨1, _⟩ => blk_simp; exact h1.trans (by show 0 * 64 + k.val = k.val; omega)
/-- The block of window 7: eight rows from its class's. -/
theorem blk7 (hT : ∀ k : S64.Idx, BitVec.toNat (tab a k) < 2 ^ 31) (c : Dev nD) (t : Fin grid0.N) (r : Fin 8) (k : Fin 64)
    (R : Fin 100000) (hR : R.val = (Body.word (grid0.coords t) (tab a) 7).toNat / 8 * 8 + r.val) :
    xs m a c t 7 (ix2 r k) = V m c main_v0 (ix2 R k) := by
  show iblk m a c 7 t (ix2 r k) = _
  have hi := tr7 a.1 hT (grid0.coords t)
  have h0 := congrArg (fun z => z * 8 + r.val) (congrFun hi 0)
  have h1 := congrArg (fun z => z * 64 + k.val) (congrFun hi 1)
  unfold iblk
  show V m c main_v0 _ = _
  congr 1
  funext b; apply Fin.ext
  match b with
  | ⟨0, _⟩ => blk_simp; exact h0.trans hR.symm
  | ⟨1, _⟩ => blk_simp; exact h1.trans (by show 0 * 64 + k.val = k.val; omega)
/-- The block of window 8: eight rows from its class's. -/
theorem blk8 (hT : ∀ k : S64.Idx, BitVec.toNat (tab a k) < 2 ^ 31) (c : Dev nD) (t : Fin grid0.N) (r : Fin 8) (k : Fin 64)
    (R : Fin 100000) (hR : R.val = (Body.word (grid0.coords t) (tab a) 8).toNat / 8 * 8 + r.val) :
    xs m a c t 8 (ix2 r k) = V m c main_v0 (ix2 R k) := by
  show iblk m a c 8 t (ix2 r k) = _
  have hi := tr8 a.1 hT (grid0.coords t)
  have h0 := congrArg (fun z => z * 8 + r.val) (congrFun hi 0)
  have h1 := congrArg (fun z => z * 64 + k.val) (congrFun hi 1)
  unfold iblk
  show V m c main_v0 _ = _
  congr 1
  funext b; apply Fin.ext
  match b with
  | ⟨0, _⟩ => blk_simp; exact h0.trans hR.symm
  | ⟨1, _⟩ => blk_simp; exact h1.trans (by show 0 * 64 + k.val = k.val; omega)
/-- The block of window 9: eight rows from its class's. -/
theorem blk9 (hT : ∀ k : S64.Idx, BitVec.toNat (tab a k) < 2 ^ 31) (c : Dev nD) (t : Fin grid0.N) (r : Fin 8) (k : Fin 64)
    (R : Fin 100000) (hR : R.val = (Body.word (grid0.coords t) (tab a) 9).toNat / 8 * 8 + r.val) :
    xs m a c t 9 (ix2 r k) = V m c main_v0 (ix2 R k) := by
  show iblk m a c 9 t (ix2 r k) = _
  have hi := tr9 a.1 hT (grid0.coords t)
  have h0 := congrArg (fun z => z * 8 + r.val) (congrFun hi 0)
  have h1 := congrArg (fun z => z * 64 + k.val) (congrFun hi 1)
  unfold iblk
  show V m c main_v0 _ = _
  congr 1
  funext b; apply Fin.ext
  match b with
  | ⟨0, _⟩ => blk_simp; exact h0.trans hR.symm
  | ⟨1, _⟩ => blk_simp; exact h1.trans (by show 0 * 64 + k.val = k.val; omega)
/-- The block of window 10: eight rows from its class's. -/
theorem blk10 (hT : ∀ k : S64.Idx, BitVec.toNat (tab a k) < 2 ^ 31) (c : Dev nD) (t : Fin grid0.N) (r : Fin 8) (k : Fin 64)
    (R : Fin 100000) (hR : R.val = (Body.word (grid0.coords t) (tab a) 10).toNat / 8 * 8 + r.val) :
    xs m a c t 10 (ix2 r k) = V m c main_v0 (ix2 R k) := by
  show iblk m a c 10 t (ix2 r k) = _
  have hi := tr10 a.1 hT (grid0.coords t)
  have h0 := congrArg (fun z => z * 8 + r.val) (congrFun hi 0)
  have h1 := congrArg (fun z => z * 64 + k.val) (congrFun hi 1)
  unfold iblk
  show V m c main_v0 _ = _
  congr 1
  funext b; apply Fin.ext
  match b with
  | ⟨0, _⟩ => blk_simp; exact h0.trans hR.symm
  | ⟨1, _⟩ => blk_simp; exact h1.trans (by show 0 * 64 + k.val = k.val; omega)
/-- The block of window 11: eight rows from its class's. -/
theorem blk11 (hT : ∀ k : S64.Idx, BitVec.toNat (tab a k) < 2 ^ 31) (c : Dev nD) (t : Fin grid0.N) (r : Fin 8) (k : Fin 64)
    (R : Fin 100000) (hR : R.val = (Body.word (grid0.coords t) (tab a) 11).toNat / 8 * 8 + r.val) :
    xs m a c t 11 (ix2 r k) = V m c main_v0 (ix2 R k) := by
  show iblk m a c 11 t (ix2 r k) = _
  have hi := tr11 a.1 hT (grid0.coords t)
  have h0 := congrArg (fun z => z * 8 + r.val) (congrFun hi 0)
  have h1 := congrArg (fun z => z * 64 + k.val) (congrFun hi 1)
  unfold iblk
  show V m c main_v0 _ = _
  congr 1
  funext b; apply Fin.ext
  match b with
  | ⟨0, _⟩ => blk_simp; exact h0.trans hR.symm
  | ⟨1, _⟩ => blk_simp; exact h1.trans (by show 0 * 64 + k.val = k.val; omega)
/-- The block of window 12: eight rows from its class's. -/
theorem blk12 (hT : ∀ k : S64.Idx, BitVec.toNat (tab a k) < 2 ^ 31) (c : Dev nD) (t : Fin grid0.N) (r : Fin 8) (k : Fin 64)
    (R : Fin 100000) (hR : R.val = (Body.word (grid0.coords t) (tab a) 12).toNat / 8 * 8 + r.val) :
    xs m a c t 12 (ix2 r k) = V m c main_v0 (ix2 R k) := by
  show iblk m a c 12 t (ix2 r k) = _
  have hi := tr12 a.1 hT (grid0.coords t)
  have h0 := congrArg (fun z => z * 8 + r.val) (congrFun hi 0)
  have h1 := congrArg (fun z => z * 64 + k.val) (congrFun hi 1)
  unfold iblk
  show V m c main_v0 _ = _
  congr 1
  funext b; apply Fin.ext
  match b with
  | ⟨0, _⟩ => blk_simp; exact h0.trans hR.symm
  | ⟨1, _⟩ => blk_simp; exact h1.trans (by show 0 * 64 + k.val = k.val; omega)
/-- The block of window 13: eight rows from its class's. -/
theorem blk13 (hT : ∀ k : S64.Idx, BitVec.toNat (tab a k) < 2 ^ 31) (c : Dev nD) (t : Fin grid0.N) (r : Fin 8) (k : Fin 64)
    (R : Fin 100000) (hR : R.val = (Body.word (grid0.coords t) (tab a) 13).toNat / 8 * 8 + r.val) :
    xs m a c t 13 (ix2 r k) = V m c main_v0 (ix2 R k) := by
  show iblk m a c 13 t (ix2 r k) = _
  have hi := tr13 a.1 hT (grid0.coords t)
  have h0 := congrArg (fun z => z * 8 + r.val) (congrFun hi 0)
  have h1 := congrArg (fun z => z * 64 + k.val) (congrFun hi 1)
  unfold iblk
  show V m c main_v0 _ = _
  congr 1
  funext b; apply Fin.ext
  match b with
  | ⟨0, _⟩ => blk_simp; exact h0.trans hR.symm
  | ⟨1, _⟩ => blk_simp; exact h1.trans (by show 0 * 64 + k.val = k.val; omega)
/-- The block of window 14: eight rows from its class's. -/
theorem blk14 (hT : ∀ k : S64.Idx, BitVec.toNat (tab a k) < 2 ^ 31) (c : Dev nD) (t : Fin grid0.N) (r : Fin 8) (k : Fin 64)
    (R : Fin 100000) (hR : R.val = (Body.word (grid0.coords t) (tab a) 14).toNat / 8 * 8 + r.val) :
    xs m a c t 14 (ix2 r k) = V m c main_v0 (ix2 R k) := by
  show iblk m a c 14 t (ix2 r k) = _
  have hi := tr14 a.1 hT (grid0.coords t)
  have h0 := congrArg (fun z => z * 8 + r.val) (congrFun hi 0)
  have h1 := congrArg (fun z => z * 64 + k.val) (congrFun hi 1)
  unfold iblk
  show V m c main_v0 _ = _
  congr 1
  funext b; apply Fin.ext
  match b with
  | ⟨0, _⟩ => blk_simp; exact h0.trans hR.symm
  | ⟨1, _⟩ => blk_simp; exact h1.trans (by show 0 * 64 + k.val = k.val; omega)
/-- The block of window 15: eight rows from its class's. -/
theorem blk15 (hT : ∀ k : S64.Idx, BitVec.toNat (tab a k) < 2 ^ 31) (c : Dev nD) (t : Fin grid0.N) (r : Fin 8) (k : Fin 64)
    (R : Fin 100000) (hR : R.val = (Body.word (grid0.coords t) (tab a) 15).toNat / 8 * 8 + r.val) :
    xs m a c t 15 (ix2 r k) = V m c main_v0 (ix2 R k) := by
  show iblk m a c 15 t (ix2 r k) = _
  have hi := tr15 a.1 hT (grid0.coords t)
  have h0 := congrArg (fun z => z * 8 + r.val) (congrFun hi 0)
  have h1 := congrArg (fun z => z * 64 + k.val) (congrFun hi 1)
  unfold iblk
  show V m c main_v0 _ = _
  congr 1
  funext b; apply Fin.ext
  match b with
  | ⟨0, _⟩ => blk_simp; exact h0.trans hR.symm
  | ⟨1, _⟩ => blk_simp; exact h1.trans (by show 0 * 64 + k.val = k.val; omega)

/-- Any of them. -/
theorem blk (hT : ∀ k : S64.Idx, BitVec.toNat (tab a k) < 2 ^ 31) (c : Dev nD) (t : Fin grid0.N) (j : Fin 16) (r : Fin 8) (k : Fin 64)
    (R : Fin 100000) (hR : R.val = (Body.word (grid0.coords t) (tab a) j).toNat / 8 * 8 + r.val) :
    xs m a c t j (ix2 r k) = V m c main_v0 (ix2 R k) := by
  match j with
  | ⟨0, _⟩ => exact blk0 m a hT c t r k R hR
  | ⟨1, _⟩ => exact blk1 m a hT c t r k R hR
  | ⟨2, _⟩ => exact blk2 m a hT c t r k R hR
  | ⟨3, _⟩ => exact blk3 m a hT c t r k R hR
  | ⟨4, _⟩ => exact blk4 m a hT c t r k R hR
  | ⟨5, _⟩ => exact blk5 m a hT c t r k R hR
  | ⟨6, _⟩ => exact blk6 m a hT c t r k R hR
  | ⟨7, _⟩ => exact blk7 m a hT c t r k R hR
  | ⟨8, _⟩ => exact blk8 m a hT c t r k R hR
  | ⟨9, _⟩ => exact blk9 m a hT c t r k R hR
  | ⟨10, _⟩ => exact blk10 m a hT c t r k R hR
  | ⟨11, _⟩ => exact blk11 m a hT c t r k R hR
  | ⟨12, _⟩ => exact blk12 m a hT c t r k R hR
  | ⟨13, _⟩ => exact blk13 m a hT c t r k R hR
  | ⟨14, _⟩ => exact blk14 m a hT c t r k R hR
  | ⟨15, _⟩ => exact blk15 m a hT c t r k R hR
  | ⟨_ + 16, h⟩ => exact absurd h (Nat.not_lt.2 (Nat.le_add_left _ _))

/-- The row a class number names, of a table of rows. -/
def pick (T : Vec F S64 .i32) (hT : ∀ k, (T k).toNat < 100000) (X : Vec F S100000x64 .f32) (b d : Fin 64) : F .f32 :=
  X (ix2 ⟨(T (ix1 b)).toNat, hT _⟩ d)

/-- Row `j` of a point's block is the row its class number names. -/
theorem row_at (hT : ∀ k : S64.Idx, BitVec.toNat (tab a k) < 100000) (c : Dev nD) (t : Fin grid0.N) (j : Fin 16) (k B : Fin 64)
    (hB : B.val = 16 * t.val + j.val) :
    xs m a c t j (ix2 ⟨(Body.word (grid0.coords t) (tab a) j).toNat % 8, Nat.mod_lt _ (by decide)⟩ k) = pick (tab a) hT (V m c main_v0) B k := by
  refine blk m a (fun k => lt_trans (hT k) (by decide)) c t j _ k ⟨(tab a (ix1 B)).toNat, hT _⟩ ?_
  show (tab a (ix1 B)).toNat = (Body.word (grid0.coords t) (tab a) j).toNat / 8 * 8 + (Body.word (grid0.coords t) (tab a) j).toNat % 8
  rw [word_at t (tab a) j B hB]
  omega

/-- The result array after the call. -/
theorem final16 (hT : ∀ k : S64.Idx, BitVec.toNat (tab a k) < 100000) (c : Dev nD) :
    (dat m a c).arrAt 16 (cfg0 a).N = (fun y => pick (tab a) hT (V m c main_v0) ⟨(y 0).val * 16 + (y 1).val, by
      have h0 : (y 0).val < 4 := (y 0).isLt
      have h1 : (y 1).val < 16 := (y 1).isLt
      omega⟩ (y 2) : Vec F S4x16x64 .f32) := by
  refine (dat m a c).arrAt_eq_of_covers 16 _ (covers a) fun t hf (y : S1x16x64.Idx) => ?_
  have e0 := congrArg (fun z => z * 16) (congrFun (out_index t) 0)
  have e1 := congrArg (fun z => z * 16 + (y 1).val) (congrFun (out_index t) 1)
  have e2 := congrArg (fun z => z * 64 + (y 2).val) (congrFun (out_index t) 2)
  blk_simp
  rw [after16]
  refine (Body.outBlock_at _ _ _ y (y 1) (y 2) rfl rfl).trans
    ((row_at m a hT c t (y 1) (y 2) _ ?_).trans (congrArg (pick (tab a) hT (V m c main_v0) _) ?_))
  · exact (congrArg₂ (· + ·) e0 e1).trans (by show t.val * 16 + (0 * 16 + (y 1).val) = 16 * t.val + (y 1).val; omega)
  · apply Fin.ext
    blk_simp
    exact (e2.trans (by show 0 * 64 + (y 2).val = (y 2).val; omega)).symm

/-- The class memory as a table of rows. -/
theorem rows (c : Dev nD) : V m c main_v0 = (shapeCast S100000x64 (m ((c : Thread nD τ).loc main_arg1)) shapeCasts_S100000x64x1x1_S100000x64 : Vec F S100000x64 .f32) := by
  show StableHlo.after hostOps0 _ (Proc.devRef .tc main_v0) = _
  after_results
  rfl

theorem out_entry {α : Type} (o : S4x16x64.Idx → α) (p : Fin 4) (q : Fin 16) (d b : Fin 64) (hb : b.val = p.val * 16 + q.val) :
    shapeCast S64x64 o shapeCasts_S4x16x64_S64x64 (ix2 b d) = o (ix3 p q d) := by
  pointwise
  have h1 := q.isLt
  congr 1
  funext a
  match a with
  | ⟨0, _⟩ => exact Fin.ext (by show b.val / 16 = p.val; omega)
  | ⟨1, _⟩ => exact Fin.ext (by show b.val % 16 = q.val; omega)
  | ⟨2, _⟩ => rfl

variable {m} in
/-- The result as the program returns it. -/
theorem result2 (h : Fits m) (c : Dev nD) : Pipeline.afterTail pcfgs (fun _ => adm h) (dats h) 0 (V0 m) [hostOps1] c main_v2
    = (shapeCast S64x64 ((dats h 0 c).arrAt 16 (cfg0 (adm h)).N : Vec F S4x16x64 .f32) shapeCasts_S4x16x64_S64x64 : Vec F S64x64 .f32) := by
  unfold Pipeline.afterTail
  show StableHlo.after (hostOps1 (F := F)) _ (Proc.devRef .tc main_v2) = _
  after_results
  have h' := Pipeline.withArrays_arr_shared spec0 c (V0 m c) (fun w => (dats h 0 c).arrAt w (cfg0 (adm h)).N)
    ((dats h 0 c).arrAt_sharedIn (launch₀0 (F := F)).sharedIn (V0 m c) (A_eq m (adm h) c) _) 16
  funext i
  exact congrArg (fun x : Vec F S4x16x64 .f32 => shapeCast S64x64 x shapeCasts_S4x16x64_S64x64 i) h'

variable {m} in
/-- Its entries: each class number's row. -/
theorem result_entry (h : Fits m) (c : Dev nD) (b d : Fin 64) : (Pipeline.afterTail pcfgs (fun _ => adm h) (dats h) 0 (V0 m) [hostOps1] c main_v2 : Vec F S64x64 .f32) (ix2 b d)
    = pick (m ((c : Thread nD τ).loc main_arg0)) (h c) (shapeCast S100000x64 (m ((c : Thread nD τ).loc main_arg1)) shapeCasts_S100000x64x1x1_S100000x64) b d := by
  have hc : c = 0 := Subsingleton.elim _ _
  subst hc
  rw [result2]
  refine (out_entry _ ⟨b.val / 16, by omega⟩ ⟨b.val % 16, Nat.mod_lt _ (by decide)⟩ d b (by show b.val = b.val / 16 * 16 + b.val % 16; omega)).trans ?_
  have e := congrFun (final16 m (adm h) (fun k => h 0 k) 0) (ix3 ⟨b.val / 16, by omega⟩ ⟨b.val % 16, Nat.mod_lt _ (by decide)⟩ d)
  refine e.trans ?_
  rw [rows]
  exact congrArg (fun b' => pick (m ((0 : Dev nD).tc.loc main_arg0)) (h 0) (shapeCast S100000x64 (m ((0 : Dev nD).tc.loc main_arg1)) shapeCasts_S100000x64x1x1_S100000x64) b' d)
    (Fin.ext (by show b.val / 16 * 16 + b.val % 16 = b.val; omega))

variable {m} in
/-- Every execution ends with the result and the arguments unchanged. -/
theorem run (h : Fits m) : θ_run defs (onTc (τ := τ) (main (F := F))) ⟨m, fun _ => 0, ρ⟩ (fun r => ∀ c : Dev nD,
      r.2.mem ((c.tc : Thread nD τ).loc main_v2) = Pipeline.afterTail pcfgs (fun _ => adm h) (dats h) 0 (V0 m) [hostOps1] c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r hr c =>
    ⟨(hr.1 c).2 main_v2 (Pipeline.mem_restRefs_of main_v2 (by decide) (by exact (by decide : ∀ w, Pipeline.arrRef spec0 w ≠ main_v2))),
      ((hr.1 c).2 main_arg0 (Pipeline.mem_restRefs_of main_arg0 (by decide) (by exact (by decide : ∀ w, Pipeline.arrRef spec0 w ≠ main_arg0)))).trans (end_arg0 h c),
      ((hr.1 c).2 main_arg1 (Pipeline.mem_restRefs_of main_arg1 (by decide) (by exact (by decide : ∀ w, Pipeline.arrRef spec0 w ≠ main_arg1)))).trans (end_arg1 h c)⟩)
    (run_main ρ h)

end Cert.GatherIdeal.Final

namespace Cert.GatherIdeal.Final

open Cert.GatherReferenceIdeal Cert.GatherReferenceIdeal.Gen
open Idealize.ShloMosaic Idealize.ShloMosaic.TcCoe Idealize.ShloMosaic.StableHlo
open Idealize.SL.Sem

/-- The class numbers as the reference's row gather takes them: a negative one counts from the end. -/
def starts (T : Vec Ideal S64 .i32) : Vec Ideal S64x1 .i32 :=
  broadcastInDim S64x1 ![0] bcast_S64_S64x1_0 (select (cmpi .slt T (broadcastInDim S64 ![] bcast_S_S64 (constantI S_ 32 0#32)))
    (addi T (broadcastInDim S64 ![] bcast_S_S64 (constantI S_ 32 100000#32))) T)

/-- A class number in range is taken as it is. -/
theorem starts_at (T : Vec Ideal S64 .i32) (hT : ∀ k, BitVec.toNat (T k) < 100000) (b : Fin 64) : starts T (ix2 b 0) = BitVec.ofNat 32 (T (ix1 b)).toNat := by
  have e : starts T (ix2 b 0) = select (cmpi .slt T (broadcastInDim S64 ![] bcast_S_S64 (constantI S_ 32 0#32)))
    (addi T (broadcastInDim S64 ![] bcast_S_S64 (constantI S_ 32 100000#32))) T (ix1 b) := by
    unfold starts; pointwise
  have hw : T (ix1 b) = BitVec.ofNat 32 (T (ix1 b)).toNat := (BitVec.ofNat_toNat 32 _ |>.trans (BitVec.setWidth_eq _)).symm
  have hb := hT (ix1 b)
  exact e.trans ((select_slt_zero_of_nonneg T _ T (ix1 b) (by rw [hw, toInt_ofNat_of_lt (by omega)]; omega)).trans hw)

/-- The reference's result: each class number's row. -/
theorem gathered (T : Vec Ideal S64 .i32) (hT : ∀ k, BitVec.toNat (T k) < 100000) (X : Vec Ideal S100000x64 .f32) (b d : Fin 64) :
    Host.gather gather_S100000x64_S64x1_S64x64_1_0_n_n_0_1_164 X (starts T) (ix2 b d) = pick T hT X b d :=
  Routing.gather_row gather_S100000x64_S64x1_S64x64_1_0_n_n_0_1_164 rfl rfl rfl rfl rfl X (starts T) b d ⟨(T (ix1 b)).toNat, hT _⟩ (starts_at T hT b) (by norm_num)

end Cert.GatherIdeal.Final

end
-- ==== Proof.GatherPre.lean ====
/- What the gather call's precondition says: every class number names a class. -/
module

public import proofs.«01_k».proof.Proof.StreamPre
public import proofs.«01_k».proof.Proof.Gen.Pre_classes_in_range

@[expose] public section

noncomputable section

namespace Cert.GatherPre

open Idealize.ShloMosaic Cert.Pre_classes_in_range Cert.Pre_classes_in_range.Gen

/-- Under the precondition a class number, read as a natural number, is below 100000. -/
theorem in_range {F : FTy → Type} [FloatOps F] (a0 : IVec S64 32) (a1 : FVec F S100000x64x1x1 .f32)
    (h : Cert.Pre_classes_in_range.fn (F := F) a0 a1 = fun _ => 1#1) (i : S64.Idx) : (a0 i).toNat < 100000 := by
  have e := congrFun h ix0
  unfold Cert.Pre_classes_in_range.fn at e
  obtain ⟨e1, e2⟩ := Cert.StreamMath.both e
  exact Cert.StreamMath.range_all a0 _ e1 e2 i

end Cert.GatherPre

end
-- ==== Proof.lean ====
/- The claims about the convolution program, the stream program and the gather program, their idealized forms and their
   references: the frames, that the names keep the constants they replace, and that on the same arguments each program
   and its reference leave the same results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Stream
public import proofs.«01_k».proof.Proof.Gen.Stream.Skeleton
public import proofs.«01_k».proof.Proof.Gen.Stream.Launch
public import proofs.«01_k».proof.Proof.Gen.Stream.Points
public import proofs.«01_k».proof.Proof.Gen.Stream.Frame
public import proofs.«01_k».proof.Proof.Gen.StreamIdeal
public import proofs.«01_k».proof.Proof.Gen.StreamIdeal.Skeleton
public import proofs.«01_k».proof.Proof.Gen.StreamIdeal.Launch
public import proofs.«01_k».proof.Proof.Gen.StreamIdeal.Points
public import proofs.«01_k».proof.Proof.Gen.StreamIdeal.Frame
public import proofs.«01_k».proof.Proof.Gen.StreamReferenceIdeal
public import proofs.«01_k».proof.Proof.Gen.StreamReferenceIdeal.Run
public import proofs.«01_k».proof.Proof.Gen.Pre_finite_and_in_range
public import proofs.«01_k».proof.Proof.Gen.Gather
public import proofs.«01_k».proof.Proof.Gen.Gather.Skeleton
public import proofs.«01_k».proof.Proof.Gen.Gather.Launch
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherReferenceIdeal
public import proofs.«01_k».proof.Proof.Gen.GatherReferenceIdeal.Run
public import proofs.«01_k».proof.Proof.Gen.Pre_classes_in_range
public import proofs.«01_k».proof.Proof.ConvFinal
public import proofs.«01_k».proof.Proof.RefValue
public import proofs.«01_k».proof.Proof.StreamFrame
public import proofs.«01_k».proof.Proof.StreamFinal
public import proofs.«01_k».proof.Proof.GatherRun
public import proofs.«01_k».proof.Proof.GatherFinal
public import proofs.«01_k».proof.Proof.GatherPre
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The two names in the convolution kernel stand for the real numbers whose single-precision roundings they replace. -/
theorem preserves : Cert.preserves_Kernel_KernelIdeal :=
  ⟨IdealRules.named_const.statement Cert.KernelIdeal.κ "inv_bn" .f32 0x3F7FFFAC#32 _ rfl,
    IdealRules.named_const.statement Cert.KernelIdeal.κ "inv_p" .f32 0x3AA72F05#32 _ rfl⟩

/-- On the same images, weights, scales and shifts the kernel and the reference leave the same features. -/
theorem algebraic : Cert.algebraic_KernelIdeal_ReferenceIdeal := by
  pair_intro
  · run_from Cert.KernelIdeal.Value.run_blocks m g
  · run_from Cert.ReferenceIdeal.Value.run m' g'
    obtain ⟨a0, a1, a2, a3, a4, a5, a6⟩ := hagree c
    rw [Cert.KernelIdeal.ConvFinal.final m c, Cert.ReferenceIdeal.Read.val_main_v56_eq m' c, a0, a1, a2, a3, a4, a5, a6]
    funext j
    obtain ⟨b, o, z, rfl⟩ : ∃ (b o : Fin 64) (z : Fin 1), j = ValueIdx.ix3 b o z :=
      ⟨j 0, j 1, j 2, funext fun a => by match a with | ⟨0, _⟩ => rfl | ⟨1, _⟩ => rfl | ⟨2, _⟩ => rfl⟩
    exact Cert.ReferenceIdeal.RefValue.result _ _ _ _ _ _ _ b o z

/-- The reference runs to completion with its arguments unchanged; it declares no semaphore. -/
theorem frame_reference : Cert.quiescent_ReferenceIdeal := fun m ρ _ =>
  (θ_run _ _ _).mono (fun r h => ⟨fun c => (h c).2, sem_eq_zero_of_no_sems (by decide) r.2⟩) (Cert.ReferenceIdeal.Value.run m ρ)

/-- The stream program runs to completion with its arguments unchanged and every semaphore at zero. -/
theorem frame_stream : Cert.quiescent_Stream := fun m ρ _ =>
  (θ_run _ _ _).mono (fun r h => ⟨h.2, h.1⟩) (Cert.Stream.Run.frame (F := Bits) m ρ)

/-- So does its idealized form, -/
theorem frame_stream_ideal : Cert.quiescent_StreamIdeal := fun m ρ _ =>
  (θ_run _ _ _).mono (fun r h => ⟨fun c => (h.2 c).2.2, h.1⟩) (Cert.StreamIdeal.Final.run m ρ)
/-- (in particular on finite inputs) -/
theorem frame_stream_ideal_finite : Cert.quiescent_StreamIdeal_pre_finite_and_in_range := fun m ρ _ =>
  (θ_run _ _ _).mono (fun r h => ⟨fun c => (h.2 c).2.2, h.1⟩) (Cert.StreamIdeal.Final.run m ρ)
/-- and its reference, which declares no semaphore, -/
theorem frame_stream_reference : Cert.quiescent_StreamReferenceIdeal := fun m ρ _ =>
  (θ_run _ _ _).mono (fun r h => ⟨fun c => (h c).2.2, sem_eq_zero_of_no_sems (by decide) r.2⟩) (Cert.StreamReferenceIdeal.Value.run m ρ)
/-- in particular on finite inputs. -/
theorem frame_stream_reference_finite : Cert.quiescent_StreamReferenceIdeal_pre_finite_and_in_range := fun m ρ _ =>
  (θ_run _ _ _).mono (fun r h => ⟨fun c => (h c).2.2, sem_eq_zero_of_no_sems (by decide) r.2⟩) (Cert.StreamReferenceIdeal.Value.run m ρ)

/-- The three names in the stream kernel stand for the real numbers whose single-precision roundings they replace, and
    for the minus infinity that its finite stand-in marks. -/
theorem preserves_stream : Cert.preserves_Stream_StreamIdeal :=
  ⟨IdealRules.named_const.statement Cert.StreamIdeal.κ "mask" .f32 0xF149F2CA#32 _ rfl,
    IdealRules.named_const.statement Cert.StreamIdeal.κ "ln_m" .f32 0xBC24AA2A#32 _ rfl,
    IdealRules.named_const.statement Cert.StreamIdeal.κ "one_m" .f32 0x3C23D70A#32 _ rfl⟩

/-- On the same finite features, rows, class numbers, class memory, weights and shifts the stream program and its
    reference leave the same two results. -/
theorem algebraic_stream : Cert.algebraic_StreamIdeal_StreamReferenceIdeal_pre_finite_and_in_range := by
  intro m g m' g' hpre hagree
  have both : ∀ c, Cert.StreamReferenceIdeal.Value.out_main_v47 (Cert.StreamReferenceIdeal.Value.STEP^[64] (StableHlo.entryContents Cert.StreamReferenceIdeal.Value.preI m' c)) = Cert.StreamIdeal.Final.mixed m c
      ∧ Cert.StreamReferenceIdeal.Value.out_main_v46 (Cert.StreamReferenceIdeal.Value.STEP^[64] (StableHlo.entryContents Cert.StreamReferenceIdeal.Value.preI m' c)) = Cert.StreamIdeal.Final.lost m c := fun c => by
    obtain ⟨a0, a1, a2, a3, a4, a5, a6, a7⟩ := hagree c
    obtain ⟨x, X, T, P, w1, b1, w2, b2, I⟩ := Cert.StreamMath.of_pre _ _ _ _ _ _ _ _ (hpre c)
    have J := I
    rw [← a0, ← a1, ← a2, ← a3, ← a4, ← a5, ← a6, ← a7] at J
    exact ⟨Cert.StreamIdeal.Final.first_agree m m' c I J, Cert.StreamIdeal.Final.second_agree m m' c I J⟩
  exact ⟨fun c => Cert.StreamIdeal.Final.mixed m c, fun c => Cert.StreamIdeal.Final.lost m c,
    (θ_run _ _ _).mono (fun r h => h.2) (Cert.StreamIdeal.Final.run m g),
    (θ_run _ _ _).mono (fun r h c => ⟨(h c).1.trans (both c).1, (h c).2.1.trans (both c).2, (h c).2.2⟩) (Cert.StreamReferenceIdeal.Value.run (F := Ideal) m' g')⟩

/-- On class numbers in range the gather program runs to completion with its arguments unchanged and every semaphore at zero. -/
theorem frame_gather : Cert.quiescent_Gather := fun m ρ hpre =>
  Cert.Gather.Run.frame ρ (fun c k => Cert.GatherPre.in_range (F := Bits) _ _ (hpre c) k)
/-- So does its idealized form, -/
theorem frame_gather_ideal : Cert.quiescent_GatherIdeal := fun m ρ hpre =>
  Cert.GatherIdeal.Run.frame ρ (fun c k => Cert.GatherPre.in_range (F := Ideal) _ _ (hpre c) k)
/-- and on every input its reference, which declares no semaphore, -/
theorem frame_gather_reference : Cert.quiescent_GatherReferenceIdeal := fun m ρ _ =>
  (θ_run _ _ _).mono (fun r h => ⟨fun c => (h c).2, sem_eq_zero_of_no_sems (by decide) r.2⟩) (Cert.GatherReferenceIdeal.Value.run m ρ)
/-- in particular on class numbers in range. -/
theorem frame_gather_reference_in_range : Cert.quiescent_GatherReferenceIdeal_pre_classes_in_range := fun m ρ _ =>
  (θ_run _ _ _).mono (fun r h => ⟨fun c => (h c).2, sem_eq_zero_of_no_sems (by decide) r.2⟩) (Cert.GatherReferenceIdeal.Value.run m ρ)

/-- On the same class numbers in range and the same class memory the gather program and its reference leave the same rows. -/
theorem algebraic_gather : Cert.algebraic_GatherIdeal_GatherReferenceIdeal := by
  intro m g m' g' hpre hagree
  have h : Cert.GatherIdeal.Run.Fits m := fun c k => Cert.GatherPre.in_range (F := Ideal) _ _ (hpre c) k
  refine ⟨_, Cert.GatherIdeal.Final.run g h, (θ_run _ _ _).mono (fun r hr c => ⟨(hr c).1.trans ?_, (hr c).2⟩) (Cert.GatherReferenceIdeal.Value.run (F := Ideal) m' g')⟩
  obtain ⟨a0, a1⟩ := hagree c
  funext j
  obtain ⟨b, d, rfl⟩ : ∃ (b d : Fin 64), j = ValueIdx.ix2 b d := ⟨j 0, j 1, funext fun a => by match a with | ⟨0, _⟩ => rfl | ⟨1, _⟩ => rfl⟩
  refine Eq.trans ?_ (Cert.GatherIdeal.Final.result_entry h c b d).symm
  rw [a0, a1]
  exact Cert.GatherIdeal.Final.gathered _ (h c) _ b d

/-- Everything claimed. -/
theorem claim : Cert.Claim := ⟨Cert.Kernel.Gen.facts, Cert.KernelIdeal.Gen.facts, Cert.ReferenceIdeal.Gen.facts,
  Cert.Stream.Gen.facts, Cert.StreamIdeal.Gen.facts, Cert.StreamReferenceIdeal.Gen.facts,
  Cert.Gather.Gen.facts, Cert.GatherIdeal.Gen.facts, Cert.GatherReferenceIdeal.Gen.facts, Cert.Pre_finite_and_in_range.Gen.facts, Cert.Pre_classes_in_range.Gen.facts,
  fun m ρ _ => Cert.Kernel.Gen.frame m ρ, fun m ρ _ => Cert.KernelIdeal.Gen.frame m ρ, frame_reference,
  frame_stream, frame_stream_ideal, frame_stream_ideal_finite, frame_stream_reference, frame_stream_reference_finite,
  frame_gather, frame_gather_ideal, frame_gather_reference, frame_gather_reference_in_range,
  preserves, algebraic, preserves_stream, algebraic_stream, trivial, algebraic_gather⟩

end Cert.Proof

end
